-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S3x8192x4608 : Shape := ⟨3, ![3, 8192, 4608]⟩
abbrev S4608x36864 : Shape := ⟨2, ![4608, 36864]⟩
abbrev S36864 : Shape := ⟨1, ![36864]⟩
abbrev S24576x4608 : Shape := ⟨2, ![24576, 4608]⟩
abbrev S1x36864 : Shape := ⟨2, ![1, 36864]⟩
abbrev S24576x1 : Shape := ⟨2, ![24576, 1]⟩
abbrev S256x4608 : Shape := ⟨2, ![256, 4608]⟩
abbrev S256x1 : Shape := ⟨2, ![256, 1]⟩
abbrev S256 : Shape := ⟨1, ![256]⟩
abbrev S24576x18432 : Shape := ⟨2, ![24576, 18432]⟩
abbrev S512x4608 : Shape := ⟨2, ![512, 4608]⟩
abbrev S512x1 : Shape := ⟨2, ![512, 1]⟩
abbrev S4608x512 : Shape := ⟨2, ![4608, 512]⟩
abbrev S1x512 : Shape := ⟨2, ![1, 512]⟩
abbrev S512x512 : Shape := ⟨2, ![512, 512]⟩
abbrev S36x512x512 : Shape := ⟨3, ![36, 512, 512]⟩
abbrev S512x128 : Shape := ⟨2, ![512, 128]⟩
abbrev S4608x256 : Shape := ⟨2, ![4608, 256]⟩
abbrev S512x256 : Shape := ⟨2, ![512, 256]⟩
abbrev S1x128 : Shape := ⟨2, ![1, 128]⟩
abbrev S1x512x128 : Shape := ⟨3, ![1, 512, 128]⟩
abbrev S512 : Shape := ⟨1, ![512]⟩
abbrev S3x8192x1 : Shape := ⟨3, ![3, 8192, 1]⟩
abbrev S3x8192x18432 : Shape := ⟨3, ![3, 8192, 18432]⟩

abbrev nBuf : Space → Nat
  | .hbm => 13
  | .vmem => 26
  | .smem => 0
  | _ => 0

abbrev bufTy : (tb : Table) → Fin (tcTables nBuf tb) → BufTy
  | .hbm, ⟨0, _⟩ => ⟨S3x8192x4608, .bf16⟩
  | .hbm, ⟨1, _⟩ => ⟨S4608x36864, .fp8e4m3⟩
  | .hbm, ⟨2, _⟩ => ⟨S36864, .f32⟩
  | .hbm, ⟨3, _⟩ => ⟨S24576x4608, .bf16⟩
  | .hbm, ⟨4, _⟩ => ⟨S1x36864, .f32⟩
  | .hbm, ⟨5, _⟩ => ⟨S24576x4608, .fp8e4m3⟩
  | .hbm, ⟨6, _⟩ => ⟨S24576x1, .f32⟩
  | .hbm, ⟨7, _⟩ => ⟨S24576x18432, .fp8e4m3⟩
  | .hbm, ⟨8, _⟩ => ⟨S24576x1, .f32⟩
  | .hbm, ⟨9, _⟩ => ⟨S3x8192x1, .f32⟩
  | .hbm, ⟨10, _⟩ => ⟨S3x8192x18432, .fp8e4m3⟩
  | .hbm, ⟨11, _⟩ => ⟨S3x8192x4608, .fp8e4m3⟩
  | .hbm, ⟨12, _⟩ => ⟨S3x8192x1, .f32⟩
  | .local _ .vmem, ⟨0, _⟩ => ⟨S256x4608, .bf16⟩
  | .local _ .vmem, ⟨1, _⟩ => ⟨S256x4608, .bf16⟩
  | .local _ .vmem, ⟨2, _⟩ => ⟨S256x4608, .fp8e4m3⟩
  | .local _ .vmem, ⟨3, _⟩ => ⟨S256x4608, .fp8e4m3⟩
  | .local _ .vmem, ⟨4, _⟩ => ⟨S256x1, .f32⟩
  | .local _ .vmem, ⟨5, _⟩ => ⟨S256x1, .f32⟩
  | .local _ .vmem, ⟨6, _⟩ => ⟨S512x4608, .fp8e4m3⟩
  | .local _ .vmem, ⟨7, _⟩ => ⟨S512x4608, .fp8e4m3⟩
  | .local _ .vmem, ⟨8, _⟩ => ⟨S512x1, .f32⟩
  | .local _ .vmem, ⟨9, _⟩ => ⟨S512x1, .f32⟩
  | .local _ .vmem, ⟨10, _⟩ => ⟨S4608x512, .fp8e4m3⟩
  | .local _ .vmem, ⟨11, _⟩ => ⟨S4608x512, .fp8e4m3⟩
  | .local _ .vmem, ⟨12, _⟩ => ⟨S4608x512, .fp8e4m3⟩
  | .local _ .vmem, ⟨13, _⟩ => ⟨S4608x512, .fp8e4m3⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .fp8e4m3⟩
  | .local _ .vmem, ⟨19, _⟩ => ⟨S512x512, .fp8e4m3⟩
  | .local _ .vmem, ⟨20, _⟩ => ⟨S512x1, .f32⟩
  | .local _ .vmem, ⟨21, _⟩ => ⟨S512x1, .f32⟩
  | .local _ .vmem, ⟨22, _⟩ => ⟨S36x512x512, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | _, _ => ⟨S3x8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_scratch0 : Ref sig .tc := ⟨.vmem, 22, rfl⟩
abbrev cc1_scratch1 : Ref sig .tc := ⟨.vmem, 23, rfl⟩
abbrev cc1_scratch2 : Ref sig .tc := ⟨.vmem, 24, rfl⟩
abbrev cc1_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![96], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4608 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![49, 36], ![false, false]⟩

def k1_cond2 (i : grid1.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

def k1_off1 (i : grid1.Coords) : Fin 3 → Nat :=
  let arg1 : BitVec 32 := BitVec.ofNat 32 (i 1).val
  let v45 : Index := Scalar.indexCast arg1
  let c0_25 : Index := 0#32
  let c0_26 : Index := 0#32
  ![v45.toNat, 0, 0]
def k1_off2 (i : grid1.Coords) : Fin 3 → Nat :=
  let arg1 : BitVec 32 := BitVec.ofNat 32 (i 1).val
  let v66 : Index := Scalar.indexCast arg1
  let c0_30 : Index := 0#32
  let c128_31 : Index := 128#32
  ![v66.toNat, 0, 128]
def k1_off3 (i : grid1.Coords) : Fin 3 → Nat :=
  let arg1 : BitVec 32 := BitVec.ofNat 32 (i 1).val
  let v91 : Index := Scalar.indexCast arg1
  let c0_41 : Index := 0#32
  let c256_42 : Index := 256#32
  ![v91.toNat, 0, 256]
def k1_off4 (i : grid1.Coords) : Fin 3 → Nat :=
  let arg1 : BitVec 32 := BitVec.ofNat 32 (i 1).val
  let v112 : Index := Scalar.indexCast arg1
  let c0_46 : Index := 0#32
  let c384_47 : Index := 384#32
  ![v112.toNat, 0, 384]
def k1_cond3 (i : grid1.Coords) : BitVec 1 :=
  let arg0 : BitVec 32 := BitVec.ofNat 32 (i 0).val
  let c0_i32_3 : BitVec 32 := 0#32
  let v6 : BitVec 1 := Scalar.cmpi .sgt arg0 c0_i32_3
  let c48_i32 : BitVec 32 := 48#32
  let v7 : BitVec 1 := Scalar.cmpi .slt arg0 c48_i32
  let v8 : BitVec 1 := Scalar.andi v6 v7
  let v9 : BitVec 32 := Scalar.extui v8
  let c0_i32_4 : BitVec 32 := 0#32
  let v10 : BitVec 1 := Scalar.cmpi .ne v9 c0_i32_4
  v10

def k1_off5 (i : grid1.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k1_off6 (i : grid1.Coords) : Fin 3 → Nat :=
  let arg1 : BitVec 32 := BitVec.ofNat 32 (i 1).val
  let v30 : Index := Scalar.indexCast arg1
  let c0_15 : Index := 0#32
  let c128 : Index := 128#32
  ![v30.toNat, 0, 128]
def k1_off7 (i : grid1.Coords) : Fin 3 → Nat :=
  let arg1 : BitVec 32 := BitVec.ofNat 32 (i 1).val
  let v40 : Index := Scalar.indexCast arg1
  let c0_20 : Index := 0#32
  let c256 : Index := 256#32
  ![v40.toNat, 0, 256]
def k1_off8 (i : grid1.Coords) : Fin 3 → Nat :=
  let arg1 : BitVec 32 := BitVec.ofNat 32 (i 1).val
  let v50 : Index := Scalar.indexCast arg1
  let c0_25 : Index := 0#32
  let c384 : Index := 384#32
  ![v50.toNat, 0, 384]
def k1_cond4 (i : grid1.Coords) : BitVec 1 :=
  let arg0 : BitVec 32 := BitVec.ofNat 32 (i 0).val
  let c48_i32_5 : BitVec 32 := 48#32
  let v11 : BitVec 1 := Scalar.cmpi .eq arg0 c48_i32_5
  let v12 : BitVec 32 := Scalar.extui v11
  let c0_i32_6 : BitVec 32 := 0#32
  let v13 : BitVec 1 := Scalar.cmpi .ne v12 c0_i32_6
  v13

def k1_off9 (i : grid1.Coords) : Fin 3 → Nat :=
  let arg1 : BitVec 32 := BitVec.ofNat 32 (i 1).val
  let v20 : Index := Scalar.indexCast arg1
  let c0_10 : Index := 0#32
  let c0_11 : Index := 0#32
  ![v20.toNat, 0, 0]
def k1_off10 (i : grid1.Coords) : Fin 3 → Nat :=
  let arg1 : BitVec 32 := BitVec.ofNat 32 (i 1).val
  let v30 : Index := Scalar.indexCast arg1
  let c0_15 : Index := 0#32
  let c128 : Index := 128#32
  ![v30.toNat, 0, 128]
def k1_off11 (i : grid1.Coords) : Fin 3 → Nat :=
  let arg1 : BitVec 32 := BitVec.ofNat 32 (i 1).val
  let v40 : Index := Scalar.indexCast arg1
  let c0_20 : Index := 0#32
  let c256 : Index := 256#32
  ![v40.toNat, 0, 256]
def k1_off12 (i : grid1.Coords) : Fin 3 → Nat :=
  let arg1 : BitVec 32 := BitVec.ofNat 32 (i 1).val
  let v50 : Index := Scalar.indexCast arg1
  let c0_25 : Index := 0#32
  let c384 : Index := 384#32
  ![v50.toNat, 0, 384]
def k1_cond5 (i : grid1.Coords) : BitVec 1 :=
  let arg0 : BitVec 32 := BitVec.ofNat 32 (i 0).val
  let c48_i32_7 : BitVec 32 := 48#32
  let v14 : BitVec 1 := Scalar.cmpi .slt arg0 c48_i32_7
  let arg1 : BitVec 32 := BitVec.ofNat 32 (i 1).val
  let c35_i32 : BitVec 32 := 35#32
  let v15 : BitVec 1 := Scalar.cmpi .eq arg1 c35_i32
  let v16 : BitVec 1 := Scalar.andi v14 v15
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc1_transform_1 (i : grid1.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c0_i32 : BitVec 32 := 0#32
  let c0_i32_0 : BitVec 32 := 0#32
  ![v0.toNat, c0_i32.toNat]

def cc1_transform_2 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .eq arg0 c48_i32
  let c35_i32 : BitVec 32 := 35#32
  let v1 : BitVec 32 := Scalar.select v0 c35_i32 arg1
  let c0_i32 : BitVec 32 := 0#32
  let c0_i32_0 : BitVec 32 := 0#32
  ![c0_i32.toNat, v1.toNat]

def cc1_transform_3 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .eq arg0 c48_i32
  let c35_i32 : BitVec 32 := 35#32
  let v1 : BitVec 32 := Scalar.select v0 c35_i32 arg1
  let c36_i32 : BitVec 32 := 36#32
  let v2 : BitVec 32 := Scalar.addi c36_i32 v1
  let c0_i32 : BitVec 32 := 0#32
  let c0_i32_0 : BitVec 32 := 0#32
  ![c0_i32.toNat, v2.toNat]

def cc1_transform_4 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .eq arg0 c48_i32
  let c35_i32 : BitVec 32 := 35#32
  let v1 : BitVec 32 := Scalar.select v0 c35_i32 arg1
  let c0_i32 : BitVec 32 := 0#32
  let c0_i32_0 : BitVec 32 := 0#32
  ![c0_i32.toNat, v1.toNat]

def cc1_transform_5 (i : grid1.Coords) : Fin 2 → Nat :=
  let arg0 : BitVec 32 := BitVec.ofNat 32 (i 0).val
  let arg1 : BitVec 32 := BitVec.ofNat 32 (i 1).val
  let c48_i32 : BitVec 32 := 48#32
  let v0 : BitVec 1 := Scalar.cmpi .eq arg0 c48_i32
  let c35_i32 : BitVec 32 := 35#32
  let v1 : BitVec 32 := Scalar.select v0 c35_i32 arg1
  let c36_i32 : BitVec 32 := 36#32
  let v2 : BitVec 32 := Scalar.addi c36_i32 v1
  let c0_i32 : BitVec 32 := 0#32
  let c0_i32_0 : BitVec 32 := 0#32
  ![c0_i32.toNat, v2.toNat]

def cc1_transform_6 (i : grid1.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let v2 : BitVec 1 := Scalar.cmpi .eq arg0 c0_i32_0
  let c0_i32_1 : BitVec 32 := 0#32
  let v3 : BitVec 32 := Scalar.select v2 c0_i32_1 arg1
  let c0_i32_2 : BitVec 32 := 0#32
  ![v1.toNat, v3.toNat]

def cc1_transform_7 (i : grid1.Coords) : Fin 2 → Nat :=
  let arg0 : BitVec 32 := BitVec.ofNat 32 (i 0).val
  let arg1 : BitVec 32 := BitVec.ofNat 32 (i 1).val
  let c47_i32 : BitVec 32 := 47#32
  let v0 : BitVec 32 := Scalar.minsi arg0 c47_i32
  let c0_i32 : BitVec 32 := 0#32
  let c0_i32_0 : BitVec 32 := 0#32
  ![v0.toNat, c0_i32.toNat]

abbrev stage1_0 : Fin 2 → Memref sig .tc .vmem S512x4608 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S4608x512 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S4608x512 .fp8e4m3 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x512 .fp8e4m3 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]
-- ==== ReferenceIdeal.lean ====
abbrev S3x8192x4608 : Shape := ⟨3, ![3, 8192, 4608]⟩
abbrev S4608x36864 : Shape := ⟨2, ![4608, 36864]⟩
abbrev S36864 : Shape := ⟨1, ![36864]⟩
abbrev S1x254 : Shape := ⟨2, ![1, 254]⟩
abbrev S24576x4608 : Shape := ⟨2, ![24576, 4608]⟩
abbrev S1x36864 : Shape := ⟨2, ![1, 36864]⟩
abbrev S24576x1 : Shape := ⟨2, ![24576, 1]⟩
abbrev S24576x18432 : Shape := ⟨2, ![24576, 18432]⟩
abbrev S24576 : Shape := ⟨1, ![24576]⟩
abbrev S24576x254 : Shape := ⟨2, ![24576, 254]⟩
abbrev S24576x36864 : Shape := ⟨2, ![24576, 36864]⟩
abbrev S3x8192x1 : Shape := ⟨3, ![3, 8192, 1]⟩
abbrev S3x8192x18432 : Shape := ⟨3, ![3, 8192, 18432]⟩

abbrev nBuf : Space → Nat
  | .hbm => 14
  | .vmem => 8
  | .smem => 0
  | _ => 0

abbrev bufTy : (tb : Table) → Fin (tcTables nBuf tb) → BufTy
  | .hbm, ⟨0, _⟩ => ⟨S3x8192x4608, .bf16⟩
  | .hbm, ⟨1, _⟩ => ⟨S4608x36864, .fp8e4m3⟩
  | .hbm, ⟨2, _⟩ => ⟨S36864, .f32⟩
  | .hbm, ⟨3, _⟩ => ⟨S1x254, .f32⟩
  | .hbm, ⟨4, _⟩ => ⟨S24576x4608, .bf16⟩
  | .hbm, ⟨5, _⟩ => ⟨S1x36864, .f32⟩
  | .hbm, ⟨6, _⟩ => ⟨S24576x1, .f32⟩
  | .hbm, ⟨7, _⟩ => ⟨S24576x18432, .fp8e4m3⟩
  | .hbm, ⟨8, _⟩ => ⟨S24576x4608, .fp8e4m3⟩
  | .hbm, ⟨9, _⟩ => ⟨S24576x1, .f32⟩
  | .hbm, ⟨10, _⟩ => ⟨S3x8192x1, .f32⟩
  | .hbm, ⟨11, _⟩ => ⟨S3x8192x18432, .fp8e4m3⟩
  | .hbm, ⟨12, _⟩ => ⟨S3x8192x4608, .fp8e4m3⟩
  | .hbm, ⟨13, _⟩ => ⟨S3x8192x1, .f32⟩
  | .local _ .vmem, ⟨0, _⟩ => ⟨S24576x4608, .bf16⟩
  | .local _ .vmem, ⟨1, _⟩ => ⟨S4608x36864, .fp8e4m3⟩
  | .local _ .vmem, ⟨2, _⟩ => ⟨S1x36864, .f32⟩
  | .local _ .vmem, ⟨3, _⟩ => ⟨S1x254, .f32⟩
  | .local _ .vmem, ⟨4, _⟩ => ⟨S24576x1, .f32⟩
  | .local _ .vmem, ⟨5, _⟩ => ⟨S24576x18432, .fp8e4m3⟩
  | .local _ .vmem, ⟨6, _⟩ => ⟨S24576x4608, .fp8e4m3⟩
  | .local _ .vmem, ⟨7, _⟩ => ⟨S24576x1, .f32⟩
  | _, _ => ⟨S3x8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S24576x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x36864 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x36864 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x254 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x18432 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S24576x4608 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S24576x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kernel.QuantX.lean ====
/- The first kernel call (the per-token quantisation of the activations), as a pipeline region: what its body leaves in
   each output window's buffer, the body's triple, the region's proof data at any entry contents `V`, and the body
   obligation at every grid point. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4608 := Rect.unit (s := S256x4608) ![0, 0] S256x4608.size inb_S256x4608_S256x4608_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay32` …, after `k0_pay31`), so that
    `out0_W` and the values after it name it instead of spelling it out (`unfold_out out0_W` opens a canon
    with them, `unfold_payloads` opens them with the payloads); the comment after each is the printed function's
    name for the value (a count appended where that name is bound again). -/

def k0_pay32 (x0 : Vec F S256x4608 .bf16) : FVec F S256x1 .f32 :=
  k0_pay11 (View.ld x0 r0_0) -- `v37`
def k0_pay33 (x0 : Vec F S256x4608 .bf16) : IVec S256x1 32 :=
  k0_pay26 (k0_pay3 (View.ld x0 r0_0)) (k0_pay22 (k0_pay32 x0) (Scalar.ofBits .f32 0x41800000#32)) (k0_pay23 (k0_pay32 x0) (k0_pay12 (View.ld x0 r0_0)) (Scalar.ofBits .f32 0x41800000#32)) (k0_pay24 (k0_pay32 x0) (Scalar.ofBits .f32 0x41800000#32)) (k0_pay25 (k0_pay32 x0) (Scalar.ofBits .f32 0x41800000#32)) -- `v124`
def k0_pay34 (x0 : Vec F S256x4608 .bf16) : IVec S256x1 1 :=
  k0_pay27 (k0_pay2 (View.ld x0 r0_0)) -- `v126`
def k0_pay35 (x0 : Vec F S256x4608 .bf16) : IVec S256x1 32 :=
  k0_pay28 -- `v127`

/-- Window 1's staging buffer after the body, from the input windows' blocks: its 1 store as pieces, LAST
    FIRST (Lib/Pipeline/FrameBody.lean `View.canon`; the payloads are the skeleton's and the values stated above). -/
def out0_1 (x0 : Vec F S256x4608 .bf16) : Vec F S256x4608 .fp8e4m3 :=
  View.canon [⟨r0_0, k0_pay31 (k0_pay1 (View.ld x0 r0_0)) (k0_pay33 x0) (k0_pay34 x0) (k0_pay35 x0)⟩]

/-- Its stores tile the buffer (checked by evaluation), so they cover it. -/
theorem cover0_1 (p0 : Vec F S256x4608 .fp8e4m3) (y : S256x4608.Idx) :
    ∃ pc ∈ ([⟨r0_0, p0⟩] : List (View.Piece (Elt F) S256x4608 .fp8e4m3)), y ∈ pc.1.set :=
  View.cover_of_tiled [⟨r0_0, p0⟩] S256x4608.size (by rfl) y

/-- Window 2's staging buffer after the body, from the input windows' blocks: its 1 store as pieces, LAST
    FIRST (Lib/Pipeline/FrameBody.lean `View.canon`; the payloads are the skeleton's and the values stated above). -/
def out0_2 (x0 : Vec F S256x4608 .bf16) : Vec F S256x1 .f32 :=
  View.canon [⟨r0_1, k0_pay30 (F := F) (k0_pay33 x0) (k0_pay34 x0) (k0_pay35 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x1 .f32) (harg3 : arg3.IsWhole)
    (x0 : Vec F S256x4608 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part4_eq_skeleton, k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.Kernel.Gen

end
-- ==== Proof.Kernel.Blocks.lean ====
/- The second kernel call's body cut into its five guarded blocks. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first column tile of a row block: the row scales, spread over the lanes, into their scratch. -/
noncomputable def block1 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k1_h1 : v2 = 1#1 then do
    let v19 : Vec F S512x1 .f32 ← Prog.lift (.load arg3 (Rect.unit (s := S512x1) ![0, 0] S512x1.size inb_S512x1_S512x1_0_0).toLoadRect (View.loadsAt_vmem h_S512x1))
    let v23 : Vec F S512x128 .f32 ← Prog.lift (.load arg11 (Rect.unit (s := S512x128) ![0, 0] S512x128.size inb_S512x128_S512x128_0_0).toLoadRect (View.loadsAt_vmem h_S512x128))
    Prog.lift (.store arg11 (Rect.unit (s := S512x128) ![0, 0] S512x128.size inb_S512x128_S512x128_0_0) (k1_pay1 v19) Finset.univ (View.stores_vmem_bits_univ h_S512x128 rfl) (.inl rfl))
    pure ⟨⟩
  else do
    pure ⟨⟩

/-- At the first row block: the four column chunks of `h` into the scratch, and the running maximum of their magnitudes. -/
noncomputable def block2 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h2 : k1_cond2 i = 1#1 then do
    let ⟨v20, v21, v29, v50, v52, v55⟩ : Σ' (v20 : FVec F S512x4608 .fp8e4m3) (v21 : Vec F S512x128 .f32) (v29 : FVec F S512x256 .f32) (v50 : FVec F S512x128 .f32) (v52 : FVec F S512x128 .f32), FVec F S512x128 .f32 ← k1_part1 i arg2 harg2 arg3 harg3 arg4 harg4 arg5 harg5 arg6 harg6 arg7 harg7 arg8 harg8 arg9 harg9 arg10 harg10 arg11 harg11 arg12 harg12 arg13 harg13 arg1 k1_h2
    let ⟨v75, v96, v97⟩ : Σ' (v75 : FVec F S512x256 .f32) (v96 : FVec F S512x128 .f32), FVec F S512x128 .f32 ← k1_part2 i arg2 harg2 arg3 harg3 arg4 harg4 arg5 harg5 arg6 harg6 arg7 harg7 arg8 harg8 arg9 harg9 arg10 harg10 arg11 harg11 arg12 harg12 arg13 harg13 arg1 k1_h2 v20 v21 v29 v50 v52 v55
    let v99 : Vec F S1x128 .f32 ← Prog.lift (.load arg6 (Rect.unit (s := S1x512) ![0, 384] S1x128.size inb_S1x512_S1x128_0_384).toLoadRect (View.loadsAt_vmem h_S1x128))
    let v105 : Vec F S1x128 .f32 ← Prog.lift (.load arg7 (Rect.unit (s := S1x512) ![0, 384] S1x128.size inb_S1x512_S1x128_0_384).toLoadRect (View.loadsAt_vmem h_S1x128))
    let v113 : Vec F S1x512x128 .f32 ← Prog.lift (.load arg10 (Rect.unit (s := S36x512x512) (k1_off4 i) S1x512x128.size (k1_off4_inb i k1_h2)).toLoadRect (View.loadsAt_vmem h_S1x512x128))
    Prog.lift (.store arg10 (Rect.unit (s := S36x512x512) (k1_off4 i) S1x512x128.size (k1_off4_inb i k1_h2)) (k1_pay3 v21 v75 v97 v99 v105) Finset.univ (View.stores_vmem_bits_univ h_S1x512x128 rfl) (.inl rfl))
    let v118 : Vec F S512x128 .f32 ← Prog.lift (.load arg12 (Rect.unit (s := S512x128) ![0, 0] S512x128.size inb_S512x128_S512x128_0_0).toLoadRect (View.loadsAt_vmem h_S512x128))
    Prog.lift (.store arg12 (Rect.unit (s := S512x128) ![0, 0] S512x128.size inb_S512x128_S512x128_0_0) (k1_pay4 v21 v75 v96 v97 v99 v105) Finset.univ (View.stores_vmem_bits_univ h_S512x128 rfl) (.inl rfl))
    pure ⟨⟩
  else do
    pure ⟨⟩

/-- At an inner row block: the codes of the previous row block for this column tile, then this row block's `h` and maximum. -/
noncomputable def block3 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h3 : k1_cond3 i = 1#1 then do
    let v53 : FVec F S512x128 .f32 ← k1_part3 i arg2 harg2 arg3 harg3 arg4 harg4 arg5 harg5 arg6 harg6 arg7 harg7 arg8 harg8 arg9 harg9 arg10 harg10 arg11 harg11 arg12 harg12 arg13 harg13 arg1 k1_h3
    let ⟨v61, v62, v66, v68, v70, v85⟩ : Σ' (v61 : FVec F S512x4608 .fp8e4m3) (v62 : Vec F S512x128 .f32) (v66 : FVec F S512x128 .f32) (v68 : FVec F S512x256 .f32) (v70 : FVec F S512x256 .f32), FVec F S512x128 .f32 ← k1_part4 i arg2 harg2 arg3 harg3 arg4 harg4 arg5 harg5 arg6 harg6 arg7 harg7 arg8 harg8 arg9 harg9 arg10 harg10 arg11 harg11 arg12 harg12 arg13 harg13 arg1 k1_h3 v53
    let ⟨v112, v114, v116, v128, v130⟩ : Σ' (v112 : FVec F S512x128 .f32) (v114 : FVec F S512x256 .f32) (v116 : FVec F S512x256 .f32) (v128 : FVec F S512x128 .f32), FVec F S512x128 .f32 ← k1_part5 i arg2 harg2 arg3 harg3 arg4 harg4 arg5 harg5 arg6 harg6 arg7 harg7 arg8 harg8 arg9 harg9 arg10 harg10 arg11 harg11 arg12 harg12 arg13 harg13 arg1 k1_h3 v61 v62 v66 v68 v70 v85
    let v133 : Vec F S1x512x128 .f32 ← Prog.lift (.load arg10 (Rect.unit (s := S36x512x512) (k1_off7 i) S1x512x128.size (k1_off7_inb i k1_h3)).toLoadRect (View.loadsAt_vmem h_S1x512x128))
    Prog.lift (.store arg10 (Rect.unit (s := S36x512x512) (k1_off7 i) S1x512x128.size (k1_off7_inb i k1_h3)) (k1_pay6 v128 v130) Finset.univ (View.stores_vmem_bits_univ h_S1x512x128 rfl) (.inl rfl))
    let v140 : Vec F S1x128 .f32 ← Prog.lift (.load arg6 (Rect.unit (s := S1x512) ![0, 384] S1x128.size inb_S1x512_S1x128_0_384).toLoadRect (View.loadsAt_vmem h_S1x128))
    let v146 : Vec F S1x128 .f32 ← Prog.lift (.load arg7 (Rect.unit (s := S1x512) ![0, 384] S1x128.size inb_S1x512_S1x128_0_384).toLoadRect (View.loadsAt_vmem h_S1x128))
    let v154 : Vec F S1x512x128 .f32 ← Prog.lift (.load arg10 (Rect.unit (s := S36x512x512) (k1_off8 i) S1x512x128.size (k1_off8_inb i k1_h3)).toLoadRect (View.loadsAt_vmem h_S1x512x128))
    Prog.lift (.store arg10 (Rect.unit (s := S36x512x512) (k1_off8 i) S1x512x128.size (k1_off8_inb i k1_h3)) (k1_pay8 v62 v114 v116 v140 v146) Finset.univ (View.stores_vmem_bits_univ h_S1x512x128 rfl) (.inl rfl))
    let v159 : Vec F S512x128 .f32 ← Prog.lift (.load arg12 (Rect.unit (s := S512x128) ![0, 0] S512x128.size inb_S512x128_S512x128_0_0).toLoadRect (View.loadsAt_vmem h_S512x128))
    Prog.lift (.store arg12 (Rect.unit (s := S512x128) ![0, 0] S512x128.size inb_S512x128_S512x128_0_0) (k1_pay9 v62 v112 v114 v116 v128 v130 v140 v146) Finset.univ (View.stores_vmem_bits_univ h_S512x128 rfl) (.inl rfl))
    pure ⟨⟩
  else do
    pure ⟨⟩

/-- Past the last row block: the codes of the last row block for this column tile. -/
noncomputable def block4 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h4 : k1_cond4 i = 1#1 then do
    let v53 : FVec F S512x128 .f32 ← k1_part6 i arg2 harg2 arg3 harg3 arg4 harg4 arg5 harg5 arg6 harg6 arg7 harg7 arg8 harg8 arg9 harg9 arg10 harg10 arg11 harg11 arg12 harg12 arg13 harg13 arg1 k1_h4
    let v59 : Vec F S512x128 .fp8e4m3 ← Prog.lift (.load arg8 (Rect.unit (s := S512x512) ![0, 384] S512x128.size inb_S512x512_S512x128_0_384).toLoadRect (View.loadsAt_vmem h_S512x128))
    Prog.lift (.store arg8 (Rect.unit (s := S512x512) ![0, 384] S512x128.size inb_S512x512_S512x128_0_384) (k1_pay10 v53) Finset.univ (View.stores_vmem h_S512x128 (harg8.storeExact_slice rfl _ packedfp8e4m3_S512x512_S512x128_0_384) (fun _ => rfl)) (.inl rfl))
    pure ⟨⟩
  else do
    pure ⟨⟩

/-- At the last column tile of a row block: the row block's scales, and their inverses into the scratch. -/
noncomputable def block5 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h5 : k1_cond5 i = 1#1 then do
    let ⟨v21, v23, v53, v56, v58, v59⟩ : Σ' (v21 : FVec F S512x1 .f32) (v23 : FVec F S512x1 .f32) (v53 : FVec F S512x1 .f32) (v56 : IVec S512x1 32) (v58 : IVec S512x1 1), FVec F S512x1 .f32 ← k1_part7 i arg2 harg2 arg3 harg3 arg4 harg4 arg5 harg5 arg6 harg6 arg7 harg7 arg8 harg8 arg9 harg9 arg10 harg10 arg11 harg11 arg12 harg12 arg13 harg13
    let ⟨v96, v98, v101, v103⟩ : Σ' (v96 : IVec S512x1 32) (v98 : IVec S512x1 1) (v101 : FVec F S512x1 .f32), IVec S512x1 32 ← k1_part8 i arg2 harg2 arg3 harg3 arg4 harg4 arg5 harg5 arg6 harg6 arg7 harg7 arg8 harg8 arg9 harg9 arg10 harg10 arg11 harg11 arg12 harg12 arg13 harg13 v53 v56 v58 v59
    let ⟨v144, v146⟩ : Σ' (v144 : IVec S512x1 32), IVec S512x1 32 ← k1_part9 i arg2 harg2 arg3 harg3 arg4 harg4 arg5 harg5 arg6 harg6 arg7 harg7 arg8 harg8 arg9 harg9 arg10 harg10 arg11 harg11 arg12 harg12 arg13 harg13 v21 v23 v96 v98 v101 v103
    let v175 : Vec F S512x1 .f32 ← Prog.lift (.load arg9 (Rect.unit (s := S512x1) ![0, 0] S512x1.size inb_S512x1_S512x1_0_0).toLoadRect (View.loadsAt_vmem h_S512x1))
    Prog.lift (.store arg9 (Rect.unit (s := S512x1) ![0, 0] S512x1.size inb_S512x1_S512x1_0_0) (k1_pay11 (F := F) v144 v146) Finset.univ (View.stores_vmem_bits_univ h_S512x1 rfl) (.inl rfl))
    let v178 : Vec F S512x128 .f32 ← Prog.lift (.load arg13 (Rect.unit (s := S512x128) ![0, 0] S512x128.size inb_S512x128_S512x128_0_0).toLoadRect (View.loadsAt_vmem h_S512x128))
    Prog.lift (.store arg13 (Rect.unit (s := S512x128) ![0, 0] S512x128.size inb_S512x128_S512x128_0_0) (k1_pay12 (F := F) v144) Finset.univ (View.stores_vmem_bits_univ h_S512x128 rfl) (.inl rfl))
    pure ⟨⟩
  else do
    pure ⟨⟩

/-- A conditional whose continuation is bound outside it is the conditional of the continued branches. -/
theorem dite_bind_prog {α β : Type} {p : Prop} [Decidable p] (A : p → Prog (TpuEff nD τ sig (Elt F) Λ₀ .tc) α)
    (B : ¬ p → Prog (TpuEff nD τ sig (Elt F) Λ₀ .tc) α) (k : α → Prog (TpuEff nD τ sig (Elt F) Λ₀ .tc) β) :
    (dite p A B >>= k) = dite p (fun h => A h >>= k) (fun h => B h >>= k) := by
  split <;> rfl

/-- The body is its five blocks in order. -/
theorem body_eq_blocks (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    cc1_gate_up_swiglu_quant_skel (F := F) i arg2 harg2 arg3 harg3 arg4 harg4 arg5 harg5 arg6 harg6 arg7 harg7 arg8 harg8 arg9 harg9 arg10 harg10 arg11 harg11 arg12 harg12 arg13 harg13 = (do
      block1 i arg2 harg2 arg3 harg3 arg4 harg4 arg5 harg5 arg6 harg6 arg7 harg7 arg8 harg8 arg9 harg9 arg10 harg10 arg11 harg11 arg12 harg12 arg13 harg13
      block2 i arg2 harg2 arg3 harg3 arg4 harg4 arg5 harg5 arg6 harg6 arg7 harg7 arg8 harg8 arg9 harg9 arg10 harg10 arg11 harg11 arg12 harg12 arg13 harg13
      block3 i arg2 harg2 arg3 harg3 arg4 harg4 arg5 harg5 arg6 harg6 arg7 harg7 arg8 harg8 arg9 harg9 arg10 harg10 arg11 harg11 arg12 harg12 arg13 harg13
      block4 i arg2 harg2 arg3 harg3 arg4 harg4 arg5 harg5 arg6 harg6 arg7 harg7 arg8 harg8 arg9 harg9 arg10 harg10 arg11 harg11 arg12 harg12 arg13 harg13
      block5 i arg2 harg2 arg3 harg3 arg4 harg4 arg5 harg5 arg6 harg6 arg7 harg7 arg8 harg8 arg9 harg9 arg10 harg10 arg11 harg11 arg12 harg12 arg13 harg13
      pure ⟨⟩) := by
  unfold cc1_gate_up_swiglu_quant_skel block1 block2 block3 block4 block5
  simp only [dite_bind_prog]
  rfl

end Cert.Kernel.Gen

end
-- ==== Proof.Kernel.Triples.lean ====
/- The triples of the second kernel call's five blocks: what each leaves in the buffers it stores into. -/
module

public import proofs.«01_k».proof.Proof.Gen.Kernel.Launch
public import proofs.«01_k».proof.Proof.Gen.Kernel.Skeleton
public import proofs.«01_k».proof.Proof.Gen.Kernel.Points
public import proofs.«01_k».proof.Proof.Kernel.Blocks
public import Idealize.ShloMosaic.Lib.Pipeline.Value
public import Idealize.ShloMosaic.Lib.WritesUnit
public import Idealize.ShloMosaic.Lib.ValueIdxCore

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The four column chunks of a column tile of `h`, held in the scratch -/

/-- Chunk `q` (128 columns) of tile `j` of the `h` scratch. -/
def hget (j : Fin 36) (q : Fin 4) (X : Vec F S36x512x512 .f32) : Vec F S1x512x128 .f32 :=
  fun x => X (ix3 j (x 1) ⟨128 * q.val + (x 2).val, by have h : (x 2).val < 128 := (x 2).isLt; omega⟩)

/-- The `h` scratch with tile `j` replaced by the four chunks `P`. -/
def hput (j : Fin 36) (P : Fin 4 → Vec F S1x512x128 .f32) (X : Vec F S36x512x512 .f32) : Vec F S36x512x512 .f32 :=
  fun y => if (y 0).val = j.val then
    P ⟨(y 2).val / 128, by have h : (y 2).val < 512 := (y 2).isLt; omega⟩
      (ix3 0 (y 1) ⟨(y 2).val % 128, Nat.mod_lt _ (by decide)⟩)
  else X y

theorem hget_hput_same (j : Fin 36) (P : Fin 4 → Vec F S1x512x128 .f32) (X : Vec F S36x512x512 .f32) (q : Fin 4) :
    hget j q (hput j P X) = P q := by
  funext x
  have h2 : (x 2).val < 128 := (x 2).isLt
  have h0 : (x 0) = (0 : Fin 1) := Subsingleton.elim (α := Fin 1) _ _
  unfold hget hput
  rw [if_pos rfl]
  have hq : (⟨(128 * q.val + (x 2).val) / 128, by omega⟩ : Fin 4) = q := Fin.ext (by show (128 * q.val + (x 2).val) / 128 = q.val; omega)
  have hx : (ix3 0 (x 1) ⟨(128 * q.val + (x 2).val) % 128, Nat.mod_lt _ (by decide)⟩ : S1x512x128.Idx) = x := by
    funext a
    match a with
    | ⟨0, _⟩ => exact h0.symm
    | ⟨1, _⟩ => rfl
    | ⟨2, _⟩ => exact Fin.ext (by show (128 * q.val + (x 2).val) % 128 = (x 2).val; omega)
  exact (congrFun (congrArg P hq) _).trans (congrArg (P q) hx)

theorem hget_hput_ne {j j' : Fin 36} (h : j' ≠ j) (P : Fin 4 → Vec F S1x512x128 .f32) (X : Vec F S36x512x512 .f32) (q : Fin 4) :
    hget j' q (hput j P X) = hget j' q X := by
  funext x
  unfold hget hput
  rw [if_neg (show ¬ j'.val = j.val from fun e => h (Fin.ext e))]

/-- A load of the scratch at tile `j`, column `128 q`. -/
theorem ld_eq_hget (X : Vec F S36x512x512 .f32) {off : Fin 3 → ℕ} (j : Fin 36) (q : Fin 4) (inb : ∀ a, off a + S1x512x128.size a ≤ S36x512x512.size a)
    (hoff : off = ![j.val, 0, 128 * q.val]) : View.ld X (Rect.unit (s := S36x512x512) off S1x512x128.size inb) = hget j q X := by
  subst hoff
  funext x
  unfold hget
  refine congrArg X (funext fun a => ?_)
  match a with
  | ⟨0, _⟩ =>
    refine Fin.ext ?_
    have h0 : (x 0).val = 0 := by have : (x 0).val < 1 := (x 0).isLt; omega
    show j.val + 1 * (x 0).val = j.val
    omega
  | ⟨1, _⟩ => exact Fin.ext (by show 0 + 1 * (x 1).val = (x 1).val; omega)
  | ⟨2, _⟩ => exact Fin.ext (by show 128 * q.val + 1 * (x 2).val = 128 * q.val + (x 2).val; omega)

/-- Four stores, one chunk each, replace the tile. -/
theorem read_writes_hput {sp : Space} (v : View sig .tc sp S36x512x512 .f32) (f : v.ty.Contents (Elt F)) (j : Fin 36)
    (P : Fin 4 → Vec F S1x512x128 .f32) {o0 o1 o2 o3 : Fin 3 → ℕ}
    (b0 : ∀ a, o0 a + S1x512x128.size a ≤ S36x512x512.size a) (b1 : ∀ a, o1 a + S1x512x128.size a ≤ S36x512x512.size a)
    (b2 : ∀ a, o2 a + S1x512x128.size a ≤ S36x512x512.size a) (b3 : ∀ a, o3 a + S1x512x128.size a ≤ S36x512x512.size a)
    (h0 : o0 = ![j.val, 0, 0]) (h1 : o1 = ![j.val, 0, 128]) (h2 : o2 = ![j.val, 0, 256]) (h3 : o3 = ![j.val, 0, 384]) :
    v.read (Elt F) (v.writes (Elt F) f
      [⟨Rect.unit (s := S36x512x512) o3 S1x512x128.size b3, P 3⟩, ⟨Rect.unit (s := S36x512x512) o2 S1x512x128.size b2, P 2⟩,
        ⟨Rect.unit (s := S36x512x512) o1 S1x512x128.size b1, P 1⟩, ⟨Rect.unit (s := S36x512x512) o0 S1x512x128.size b0, P 0⟩])
      = hput j P (v.read (Elt F) f) := by
  funext y
  have hy1 : (y 1).val < 512 := (y 1).isLt
  have hy2 : (y 2).val < 512 := (y 2).isLt
  have e : ∀ (q : Fin 4) (x : S1x512x128.Idx) (k : ℕ), (y 2).val / 128 = q.val → (x 1).val = (y 1).val →
      (x 2).val = (y 2).val - k → k = 128 * q.val → y 0 = j → P q x = hput j P (v.read (Elt F) f) y := by
    intro q x k hq h1 h2 hk hj
    unfold hput
    rw [if_pos (congrArg Fin.val hj)]
    have hq' : (⟨(y 2).val / 128, by omega⟩ : Fin 4) = q := Fin.ext hq
    have hx : (ix3 0 (y 1) ⟨(y 2).val % 128, Nat.mod_lt _ (by decide)⟩ : S1x512x128.Idx) = x := by
      funext a
      match a with
      | ⟨0, _⟩ => exact Subsingleton.elim (α := Fin 1) _ _
      | ⟨1, _⟩ => exact Fin.ext h1.symm
      | ⟨2, _⟩ => exact Fin.ext (by show (y 2).val % 128 = (x 2).val; omega)
    exact ((congrFun (congrArg P hq') _).trans (congrArg (P q) hx)).symm
  rw [View.read_writes_cons_unit v f b3 (P 3) _ y h3, View.read_writes_cons_unit v f b2 (P 2) _ y h2,
    View.read_writes_cons_unit v f b1 (P 1) _ y h1, View.read_writes_cons_unit v f b0 (P 0) _ y h0, View.writes_nil]
  have key : ∀ (k : ℕ), (∀ a : Fin 3, (![j.val, 0, k] : Fin 3 → ℕ) a ≤ (y a).val ∧ (y a).val < (![j.val, 0, k] : Fin 3 → ℕ) a + S1x512x128.size a)
      ↔ y 0 = j ∧ k ≤ (y 2).val ∧ (y 2).val < k + 128 := by
    intro k
    constructor
    · intro h
      have ha := h 0; have hc := h 2
      refine ⟨Fin.ext ?_, hc.1, hc.2⟩
      have h1 : j.val ≤ (y 0).val := ha.1
      have h2 : (y 0).val < j.val + 1 := ha.2
      omega
    · rintro ⟨rfl, hk, hk'⟩ a
      match a with
      | ⟨0, _⟩ => exact ⟨le_refl _, Nat.lt_succ_self _⟩
      | ⟨1, _⟩ => exact ⟨Nat.zero_le _, by show (y 1).val < 0 + 512; omega⟩
      | ⟨2, _⟩ => exact ⟨hk, hk'⟩
  by_cases hj : y 0 = j
  · split
    · rename_i h; have h' := (key 384).mp h
      exact e 3 _ 384 (by show (y 2).val / 128 = 3; omega) (by rw [Rect.unitLocal_val]; rfl) (by rw [Rect.unitLocal_val]; rfl) rfl hj
    split
    · rename_i h; have h' := (key 256).mp h
      exact e 2 _ 256 (by show (y 2).val / 128 = 2; omega) (by rw [Rect.unitLocal_val]; rfl) (by rw [Rect.unitLocal_val]; rfl) rfl hj
    split
    · rename_i h; have h' := (key 128).mp h
      exact e 1 _ 128 (by show (y 2).val / 128 = 1; omega) (by rw [Rect.unitLocal_val]; rfl) (by rw [Rect.unitLocal_val]; rfl) rfl hj
    split
    · rename_i h; have h' := (key 0).mp h
      exact e 0 _ 0 (by show (y 2).val / 128 = 0; omega) (by rw [Rect.unitLocal_val]; rfl) (by rw [Rect.unitLocal_val]; rfl) rfl hj
    rename_i g3 g2 g1 g0
    rw [key] at g3 g2 g1 g0
    exfalso
    have hd : (y 2).val < 128 ∨ (128 ≤ (y 2).val ∧ (y 2).val < 256) ∨ (256 ≤ (y 2).val ∧ (y 2).val < 384) ∨ 384 ≤ (y 2).val := by omega
    rcases hd with h | h | h | h
    · exact g0 ⟨hj, Nat.zero_le _, by omega⟩
    · exact g1 ⟨hj, h.1, by omega⟩
    · exact g2 ⟨hj, h.1, by omega⟩
    · exact g3 ⟨hj, h, by omega⟩
  · rw [dif_neg (fun h => hj ((key 384).mp h).1), dif_neg (fun h => hj ((key 256).mp h).1), dif_neg (fun h => hj ((key 128).mp h).1),
      dif_neg (fun h => hj ((key 0).mp h).1)]
    unfold hput
    rw [if_neg (fun e => hj (Fin.ext e))]

/-! ## The offsets in closed form -/

theorem toNat_coord (n : Fin 36) : (Scalar.indexCast (BitVec.ofNat 32 n.val)).toNat = n.val := by
  revert n; decide
theorem off1_eq (i : grid1.Coords) : k1_off1 i = ![(i 1).val, 0, 0] := by
  unfold k1_off1; simp only [toNat_coord (i 1)]; try rfl
theorem off2_eq (i : grid1.Coords) : k1_off2 i = ![(i 1).val, 0, 128] := by
  unfold k1_off2; simp only [toNat_coord (i 1)]; try rfl
theorem off3_eq (i : grid1.Coords) : k1_off3 i = ![(i 1).val, 0, 256] := by
  unfold k1_off3; simp only [toNat_coord (i 1)]; try rfl
theorem off4_eq (i : grid1.Coords) : k1_off4 i = ![(i 1).val, 0, 384] := by
  unfold k1_off4; simp only [toNat_coord (i 1)]; try rfl
theorem off5_eq (i : grid1.Coords) : k1_off5 i = ![(i 1).val, 0, 0] := by
  unfold k1_off5; simp only [toNat_coord (i 1)]; try rfl
theorem off6_eq (i : grid1.Coords) : k1_off6 i = ![(i 1).val, 0, 128] := by
  unfold k1_off6; simp only [toNat_coord (i 1)]; try rfl
theorem off7_eq (i : grid1.Coords) : k1_off7 i = ![(i 1).val, 0, 256] := by
  unfold k1_off7; simp only [toNat_coord (i 1)]; try rfl
theorem off8_eq (i : grid1.Coords) : k1_off8 i = ![(i 1).val, 0, 384] := by
  unfold k1_off8; simp only [toNat_coord (i 1)]; try rfl
theorem off9_eq (i : grid1.Coords) : k1_off9 i = ![(i 1).val, 0, 0] := by
  unfold k1_off9; simp only [toNat_coord (i 1)]; try rfl
theorem off10_eq (i : grid1.Coords) : k1_off10 i = ![(i 1).val, 0, 128] := by
  unfold k1_off10; simp only [toNat_coord (i 1)]; try rfl
theorem off11_eq (i : grid1.Coords) : k1_off11 i = ![(i 1).val, 0, 256] := by
  unfold k1_off11; simp only [toNat_coord (i 1)]; try rfl
theorem off12_eq (i : grid1.Coords) : k1_off12 i = ![(i 1).val, 0, 384] := by
  unfold k1_off12; simp only [toNat_coord (i 1)]; try rfl

/-! ## What one grid point computes, from its blocks and the scratches -/

abbrev rX : Rect S512x4608 := Rect.unit (s := S512x4608) ![0, 0] S512x4608.size inb_S512x4608_S512x4608_0_0
abbrev rT : Rect S512x128 := Rect.unit (s := S512x128) ![0, 0] S512x128.size inb_S512x128_S512x128_0_0
abbrev rR : Rect S512x1 := Rect.unit (s := S512x1) ![0, 0] S512x1.size inb_S512x1_S512x1_0_0
abbrev rW0 : Rect S4608x512 := Rect.unit (s := S4608x512) ![0, 0] S4608x256.size inb_S4608x512_S4608x256_0_0
abbrev rW1 : Rect S4608x512 := Rect.unit (s := S4608x512) ![0, 256] S4608x256.size inb_S4608x512_S4608x256_0_256
abbrev rS0 : Rect S1x512 := Rect.unit (s := S1x512) ![0, 0] S1x128.size inb_S1x512_S1x128_0_0
abbrev rS1 : Rect S1x512 := Rect.unit (s := S1x512) ![0, 128] S1x128.size inb_S1x512_S1x128_0_128
abbrev rS2 : Rect S1x512 := Rect.unit (s := S1x512) ![0, 256] S1x128.size inb_S1x512_S1x128_0_256
abbrev rS3 : Rect S1x512 := Rect.unit (s := S1x512) ![0, 384] S1x128.size inb_S1x512_S1x128_0_384
abbrev rC0 : Rect S512x512 := Rect.unit (s := S512x512) ![0, 0] S512x128.size inb_S512x512_S512x128_0_0
abbrev rC1 : Rect S512x512 := Rect.unit (s := S512x512) ![0, 128] S512x128.size inb_S512x512_S512x128_0_128
abbrev rC2 : Rect S512x512 := Rect.unit (s := S512x512) ![0, 256] S512x128.size inb_S512x512_S512x128_0_256
abbrev rC3 : Rect S512x512 := Rect.unit (s := S512x512) ![0, 384] S512x128.size inb_S512x512_S512x128_0_384

/-- The four chunks of `h` of one column tile, from the row block's codes `x0`, the weights' and their scales' column
    tiles (gate `x2`, `x4`; up `x3`, `x5`), and the spread row scales `s11`. -/
def hval (x0 : Vec F S512x4608 .fp8e4m3) (x2 x3 : Vec F S4608x512 .fp8e4m3) (x4 x5 : Vec F S1x512 .f32) (s11 : Vec F S512x128 .f32) :
    Fin 4 → Vec F S1x512x128 .f32
  | ⟨0, _⟩ => k1_pay39 (k1_pay38 (View.ld x0 rX) (View.ld s11 rT) (View.ld x2 rW0) (View.ld x3 rW0) (View.ld x4 rS0) (View.ld x5 rS0))
  | ⟨1, _⟩ => k1_pay41 (View.ld s11 rT) (k1_pay36 (View.ld x0 rX) (View.ld x2 rW0)) (k1_pay37 (View.ld x0 rX) (View.ld x3 rW0)) (View.ld x4 rS1) (View.ld x5 rS1)
  | ⟨2, _⟩ => k1_pay6 (k1_pay45 (k1_pay34 (View.ld x0 rX)) (View.ld s11 rT) (View.ld x3 rW1) (View.ld x5 rS2))
      (k1_pay46 (k1_pay34 (View.ld x0 rX)) (View.ld s11 rT) (View.ld x2 rW1) (View.ld x4 rS2))
  | ⟨3, _⟩ => k1_pay8 (View.ld s11 rT) (k1_pay43 (k1_pay34 (View.ld x0 rX)) (View.ld x2 rW1)) (k1_pay44 (k1_pay34 (View.ld x0 rX)) (View.ld x3 rW1)) (View.ld x4 rS3) (View.ld x5 rS3)

/-- The running maximum of the magnitudes of `h` after the column tile, from the maximum `s12` before it (started from zero
    at the first column tile, `j`). -/
def amax (j : BitVec 32) (x0 : Vec F S512x4608 .fp8e4m3) (x2 x3 : Vec F S4608x512 .fp8e4m3) (x4 x5 : Vec F S1x512 .f32) (s11 s12 : Vec F S512x128 .f32) :
    Vec F S512x128 .f32 :=
  k1_pay9 (View.ld s11 rT)
    (k1_pay42 (View.ld s11 rT) (k1_pay35 j (View.ld s12 rT)) (k1_pay36 (View.ld x0 rX) (View.ld x2 rW0)) (k1_pay37 (View.ld x0 rX) (View.ld x3 rW0))
      (k1_pay38 (View.ld x0 rX) (View.ld s11 rT) (View.ld x2 rW0) (View.ld x3 rW0) (View.ld x4 rS0) (View.ld x5 rS0)) (View.ld x4 rS1) (View.ld x5 rS1))
    (k1_pay43 (k1_pay34 (View.ld x0 rX)) (View.ld x2 rW1)) (k1_pay44 (k1_pay34 (View.ld x0 rX)) (View.ld x3 rW1))
    (k1_pay45 (k1_pay34 (View.ld x0 rX)) (View.ld s11 rT) (View.ld x3 rW1) (View.ld x5 rS2))
    (k1_pay46 (k1_pay34 (View.ld x0 rX)) (View.ld s11 rT) (View.ld x2 rW1) (View.ld x4 rS2)) (View.ld x4 rS3) (View.ld x5 rS3)

/-- The codes of a column tile, from the spread inverse scales `s13` and the tile's four chunks of `h`. -/
def codes (s13 : Vec F S512x128 .f32) (H : Fin 4 → Vec F S1x512x128 .f32) : Vec F S512x512 .fp8e4m3 :=
  View.canon [⟨rC3, k1_pay33 (k1_pay32 (View.ld s13 rT) (H 3))⟩, ⟨rC2, k1_pay31 (View.ld s13 rT) (H 2)⟩,
    ⟨rC1, k1_pay30 (View.ld s13 rT) (H 1)⟩, ⟨rC0, k1_pay29 (View.ld s13 rT) (H 0)⟩]

theorem codes_of (s13 : Vec F S512x128 .f32) (H : Fin 4 → Vec F S1x512x128 .f32) (p0 p1 p2 p3 : Vec F S1x512x128 .f32)
    (h0 : p0 = H 0) (h1 : p1 = H 1) (h2 : p2 = H 2) (h3 : p3 = H 3) :
    View.canon [⟨rC3, k1_pay33 (k1_pay32 (View.ld s13 rT) p3)⟩, ⟨rC2, k1_pay31 (View.ld s13 rT) p2⟩,
      ⟨rC1, k1_pay30 (View.ld s13 rT) p1⟩, ⟨rC0, k1_pay29 (View.ld s13 rT) p0⟩] = codes s13 H := by
  subst h0 h1 h2 h3; rfl

theorem cover_codes (p3 p2 p1 p0 : Vec F S512x128 .fp8e4m3) (y : S512x512.Idx) :
    ∃ pc ∈ ([⟨rC3, p3⟩, ⟨rC2, p2⟩, ⟨rC1, p1⟩, ⟨rC0, p0⟩] : List (View.Piece (Elt F) S512x512 .fp8e4m3)), y ∈ pc.1.set :=
  View.cover_of_tiled [⟨rC3, p3⟩, ⟨rC2, p2⟩, ⟨rC1, p1⟩, ⟨rC0, p0⟩] S512x128.size (by rfl) y

/-- The exponents read off the final running maximum, and the branch value the scale takes on a row of zeros. -/
def expo (s12 : Vec F S512x128 .f32) : IVec S512x1 32 :=
  k1_pay77 (k1_pay51 (View.ld s12 rT)) (k1_pay52 (View.ld s12 rT))
    (k1_pay73 (k1_pay60 (View.ld s12 rT)) (k1_pay61 (View.ld s12 rT)) (k1_pay62 (View.ld s12 rT)) (k1_pay63 (F := F)))
    (k1_pay74 (k1_pay60 (View.ld s12 rT)) (k1_pay62 (View.ld s12 rT)) (k1_pay63 (F := F)))
    (k1_pay75 (k1_pay60 (View.ld s12 rT)) (k1_pay62 (View.ld s12 rT)) (k1_pay63 (F := F)))
    (k1_pay76 (k1_pay60 (View.ld s12 rT)) (k1_pay61 (View.ld s12 rT)) (k1_pay62 (View.ld s12 rT)) (k1_pay63 (F := F)))
def expoHalf (s12 : Vec F S512x128 .f32) : IVec S512x1 32 :=
  k1_pay78 (k1_pay51 (View.ld s12 rT)) (k1_pay52 (View.ld s12 rT))
    (k1_pay73 (k1_pay60 (View.ld s12 rT)) (k1_pay61 (View.ld s12 rT)) (k1_pay62 (View.ld s12 rT)) (k1_pay63 (F := F)))
    (k1_pay74 (k1_pay60 (View.ld s12 rT)) (k1_pay62 (View.ld s12 rT)) (k1_pay63 (F := F)))
    (k1_pay75 (k1_pay60 (View.ld s12 rT)) (k1_pay62 (View.ld s12 rT)) (k1_pay63 (F := F)))
    (k1_pay76 (k1_pay60 (View.ld s12 rT)) (k1_pay61 (View.ld s12 rT)) (k1_pay62 (View.ld s12 rT)) (k1_pay63 (F := F)))

/-- The row scales of `h`, from the final running maximum. -/
def hscale (s12 : Vec F S512x128 .f32) : Vec F S512x1 .f32 := k1_pay11 (F := F) (expo s12) (expoHalf s12)
/-- Their inverses, spread over the lanes. -/
def hinv (s12 : Vec F S512x128 .f32) : Vec F S512x128 .f32 := k1_pay12 (F := F) (expo s12)

theorem zeros2 : (![0, 0] : Fin 2 → ℕ) = fun _ => 0 := by funext a; match a with | ⟨0, _⟩ => rfl | ⟨1, _⟩ => rfl

/-- One store over the whole buffer leaves its payload. -/
theorem read_writes_T {sp : Space} (v : View sig .tc sp S512x128 .f32) (f : v.ty.Contents (Elt F)) (p : Vec F S512x128 .f32) :
    v.read (Elt F) (v.writes (Elt F) f [⟨rT, p⟩]) = p := by
  have hcov : ∀ y : S512x128.Idx, ∃ pc ∈ ([⟨rT, p⟩] : List (View.Piece (Elt F) S512x128 .f32)), y ∈ pc.1.set :=
    fun y => ⟨_, List.mem_singleton_self _, View.mem_set_unit_zero (S := S512x128) zeros2 inb_S512x128_S512x128_0_0 y⟩
  rw [View.read_writes_eq_canon v f _ hcov, View.canon_unit_zero (S := S512x128) zeros2 inb_S512x128_S512x128_0_0 p]
theorem read_writes_R {sp : Space} (v : View sig .tc sp S512x1 .f32) (f : v.ty.Contents (Elt F)) (p : Vec F S512x1 .f32) :
    v.read (Elt F) (v.writes (Elt F) f [⟨rR, p⟩]) = p := by
  have hcov : ∀ y : S512x1.Idx, ∃ pc ∈ ([⟨rR, p⟩] : List (View.Piece (Elt F) S512x1 .f32)), y ∈ pc.1.set :=
    fun y => ⟨_, List.mem_singleton_self _, View.mem_set_unit_zero (S := S512x1) zeros2 inb_S512x1_S512x1_0_0 y⟩
  rw [View.read_writes_eq_canon v f _ hcov, View.canon_unit_zero (S := S512x1) zeros2 inb_S512x1_S512x1_0_0 p]

/-! ## The blocks' triples -/

set_option maxHeartbeats 1000000 in
/-- The row scales are spread over the lanes. -/
theorem block1_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : (i 1).val = 0)
    (x1 : Vec F S512x1 .f32) (K : PUnit → sProp 𝕄) :
    iprop(owns (c : Thread nD τ) arg3 fullShare x1 ∗ (∃ d, owns (c : Thread nD τ) arg11 fullShare d)
        ∗ (iprop(owns (c : Thread nD τ) arg3 fullShare x1 ∗ owns (c : Thread nD τ) arg11 fullShare (k1_pay1 (View.ld x1 rR))) -∗ K ⟨⟩))
      ⊢ wp frame (wpE (defs₀ (F := F)) Variants.none c none) E (block1 (F := F) i arg2 harg2 arg3 harg3 arg4 harg4 arg5 harg5 arg6 harg6 arg7 harg7 arg8 harg8 arg9 harg9 arg10 harg10 arg11 harg11 arg12 harg12 arg13 harg13) K := by
  have hc : Scalar.cmpi .ne (Scalar.extui (Scalar.cmpi .eq (BitVec.ofNat 32 (i 1).val) 0#32) : BitVec 32) 0#32 = 1#1 := by
    rw [h]; decide
  unfold block1
  unfold owns
  iintro ⟨⟨%f3, %hf3, H3⟩, ⟨%d11, %f11, -, H11⟩, Hk⟩
  subst hf3
  sl_exec
  sl_step
  iapply Hk
  isplitl [H3]
  · iexists f3; isplitr; · ipureintro; rfl
    iexact H3
  iexists _; isplitr
  swap; · iexact H11
  ipureintro
  exact read_writes_T _ _ _

set_option maxHeartbeats 1000000 in
/-- The first row block: `h` of the column tile into the scratch, the running maximum over it. -/
theorem block2_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond2 i = 1#1)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare s10 ∗ owns (c : Thread nD τ) arg11 fullShare s11 ∗ owns (c : Thread nD τ) arg12 fullShare s12
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (hput (i 1) (hval x0 x2 x3 x4 x5 s11) s10) ∗ owns (c : Thread nD τ) arg11 fullShare s11 ∗ owns (c : Thread nD τ) arg12 fullShare (amax (BitVec.ofNat 32 (i 1).val) x0 x2 x3 x4 x5 s11 s12)) -∗ K ⟨⟩))
      ⊢ wp frame (wpE (defs₀ (F := F)) Variants.none c none) E (block2 (F := F) i arg2 harg2 arg3 harg3 arg4 harg4 arg5 harg5 arg6 harg6 arg7 harg7 arg8 harg8 arg9 harg9 arg10 harg10 arg11 harg11 arg12 harg12 arg13 harg13) K := by
  unfold block2
  simp only [k1_part1_eq_skeleton, k1_part2_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
  subst hf2 hf4 hf5 hf6 hf7 hf10 hf11 hf12
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists _; isplitr
    swap; · iexact H10
    ipureintro
    exact read_writes_hput arg10.view f10 (i 1) (hval (arg2.view.read (Elt F) f2) (arg4.view.read (Elt F) f4) (arg5.view.read (Elt F) f5) (arg6.view.read (Elt F) f6) (arg7.view.read (Elt F) f7) (arg11.view.read (Elt F) f11)) _ _ _ _ (off1_eq i) (off2_eq i) (off3_eq i) (off4_eq i)
  isplitl [H11]
  · iexists f11; isplitr; · ipureintro; rfl
    iexact H11
  iexists _; isplitr
  swap; · iexact H12
  ipureintro
  exact read_writes_T _ _ _

set_option maxHeartbeats 1000000 in
/-- An inner row block: the previous row block's codes for the column tile, then its own `h` and running maximum. -/
theorem block3_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond3 i = 1#1)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes s13 fun q => hget (i 1) q s10) ∗ owns (c : Thread nD τ) arg10 fullShare (hput (i 1) (hval x0 x2 x3 x4 x5 s11) s10) ∗ owns (c : Thread nD τ) arg11 fullShare s11 ∗ owns (c : Thread nD τ) arg12 fullShare (amax (BitVec.ofNat 32 (i 1).val) x0 x2 x3 x4 x5 s11 s12) ∗ owns (c : Thread nD τ) arg13 fullShare s13) -∗ K ⟨⟩))
      ⊢ wp frame (wpE (defs₀ (F := F)) Variants.none c none) E (block3 (F := F) i arg2 harg2 arg3 harg3 arg4 harg4 arg5 harg5 arg6 harg6 arg7 harg7 arg8 harg8 arg9 harg9 arg10 harg10 arg11 harg11 arg12 harg12 arg13 harg13) K := by
  unfold block3
  simp only [k1_part3_eq_skeleton, k1_part4_eq_skeleton, k1_part5_eq_skeleton]
  unfold owns
  iintro ⟨⟨%f2, %hf2, H2⟩, ⟨%f4, %hf4, H4⟩, ⟨%f5, %hf5, H5⟩, ⟨%f6, %hf6, H6⟩, ⟨%f7, %hf7, H7⟩, ⟨%d8, %f8, -, H8⟩, ⟨%f10, %hf10, H10⟩, ⟨%f11, %hf11, H11⟩, ⟨%f12, %hf12, H12⟩, ⟨%f13, %hf13, H13⟩, Hk⟩
  subst hf2 hf4 hf5 hf6 hf7 hf10 hf11 hf12 hf13
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_codes _ _ _ _)).trans ?_
    exact codes_of _ _ _ _ _ _ (ld_eq_hget (arg10.view.read (Elt F) f10) (i 1) 0 _ (off5_eq i)) (ld_eq_hget (arg10.view.read (Elt F) f10) (i 1) 1 _ (off6_eq i))
      (ld_eq_hget (arg10.view.read (Elt F) f10) (i 1) 2 _ (off7_eq i)) (ld_eq_hget (arg10.view.read (Elt F) f10) (i 1) 3 _ (off8_eq i))
  isplitl [H10]
  · iexists _; isplitr
    swap; · iexact H10
    ipureintro
    exact read_writes_hput arg10.view f10 (i 1) (hval (arg2.view.read (Elt F) f2) (arg4.view.read (Elt F) f4) (arg5.view.read (Elt F) f5) (arg6.view.read (Elt F) f6) (arg7.view.read (Elt F) f7) (arg11.view.read (Elt F) f11)) _ _ _ _ (off5_eq i) (off6_eq i) (off7_eq i) (off8_eq i)
  isplitl [H11]
  · iexists f11; isplitr; · ipureintro; rfl
    iexact H11
  isplitl [H12]
  · iexists _; isplitr
    swap; · iexact H12
    ipureintro
    exact read_writes_T _ _ _
  iexists f13; isplitr; · ipureintro; rfl
  iexact H13

set_option maxHeartbeats 1000000 in
/-- Past the last row block: its codes for the column tile. -/
theorem block4_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond4 i = 1#1)
    (s10 : Vec F S36x512x512 .f32) (s13 : Vec F S512x128 .f32) (K : PUnit → sProp 𝕄) :
    iprop((∃ d, owns (c : Thread nD τ) arg8 fullShare d) ∗ owns (c : Thread nD τ) arg10 fullShare s10 ∗ owns (c : Thread nD τ) arg13 fullShare s13
        ∗ (iprop(owns (c : Thread nD τ) arg8 fullShare (codes s13 fun q => hget (i 1) q s10) ∗ owns (c : Thread nD τ) arg10 fullShare s10 ∗ owns (c : Thread nD τ) arg13 fullShare s13) -∗ K ⟨⟩))
      ⊢ wp frame (wpE (defs₀ (F := F)) Variants.none c none) E (block4 (F := F) i arg2 harg2 arg3 harg3 arg4 harg4 arg5 harg5 arg6 harg6 arg7 harg7 arg8 harg8 arg9 harg9 arg10 harg10 arg11 harg11 arg12 harg12 arg13 harg13) K := by
  unfold block4
  simp only [k1_part6_eq_skeleton]
  unfold owns
  iintro ⟨⟨%d8, %f8, -, H8⟩, ⟨%f10, %hf10, H10⟩, ⟨%f13, %hf13, H13⟩, Hk⟩
  subst hf10 hf13
  sl_exec
  sl_step
  iapply Hk
  isplitl [H8]
  · iexists _; isplitr
    swap; · iexact H8
    ipureintro
    refine (View.read_writes_eq_canon _ _ _ (cover_codes _ _ _ _)).trans ?_
    exact codes_of _ _ _ _ _ _ (ld_eq_hget (arg10.view.read (Elt F) f10) (i 1) 0 _ (off9_eq i)) (ld_eq_hget (arg10.view.read (Elt F) f10) (i 1) 1 _ (off10_eq i))
      (ld_eq_hget (arg10.view.read (Elt F) f10) (i 1) 2 _ (off11_eq i)) (ld_eq_hget (arg10.view.read (Elt F) f10) (i 1) 3 _ (off12_eq i))
  isplitl [H10]
  · iexists f10; isplitr; · ipureintro; rfl
    iexact H10
  iexists f13; isplitr; · ipureintro; rfl
  iexact H13

set_option maxHeartbeats 1000000 in
/-- The last column tile: the row block's scales and their inverses. -/
theorem block5_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond5 i = 1#1)
    (s12 : Vec F S512x128 .f32) (K : PUnit → sProp 𝕄) :
    iprop((∃ d, owns (c : Thread nD τ) arg9 fullShare d) ∗ owns (c : Thread nD τ) arg12 fullShare s12 ∗ (∃ d, owns (c : Thread nD τ) arg13 fullShare d)
        ∗ (iprop(owns (c : Thread nD τ) arg9 fullShare (hscale s12) ∗ owns (c : Thread nD τ) arg12 fullShare s12 ∗ owns (c : Thread nD τ) arg13 fullShare (hinv s12)) -∗ K ⟨⟩))
      ⊢ wp frame (wpE (defs₀ (F := F)) Variants.none c none) E (block5 (F := F) i arg2 harg2 arg3 harg3 arg4 harg4 arg5 harg5 arg6 harg6 arg7 harg7 arg8 harg8 arg9 harg9 arg10 harg10 arg11 harg11 arg12 harg12 arg13 harg13) K := by
  unfold block5
  simp only [k1_part7_eq_skeleton, k1_part8_eq_skeleton, k1_part9_eq_skeleton]
  unfold owns
  iintro ⟨⟨%d9, %f9, -, H9⟩, ⟨%f12, %hf12, H12⟩, ⟨%d13, %f13, -, H13⟩, Hk⟩
  subst hf12
  sl_exec
  sl_step
  iapply Hk
  isplitl [H9]
  · iexists _; isplitr
    swap; · iexact H9
    ipureintro
    exact read_writes_R _ _ _
  isplitl [H12]
  · iexists f12; isplitr; · ipureintro; rfl
    iexact H12
  iexists _; isplitr
  swap; · iexact H13
  ipureintro
  exact read_writes_T _ _ _

/-! ## A block whose guard is off does nothing -/

theorem block1_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ (i 1).val = 0) :
    block1 (F := F) i arg2 harg2 arg3 harg3 arg4 harg4 arg5 harg5 arg6 harg6 arg7 harg7 arg8 harg8 arg9 harg9 arg10 harg10 arg11 harg11 arg12 harg12 arg13 harg13 = pure ⟨⟩ := by
  unfold block1
  have hc : ¬ Scalar.cmpi .ne (Scalar.extui (Scalar.cmpi .eq (BitVec.ofNat 32 (i 1).val) 0#32) : BitVec 32) 0#32 = 1#1 := by
    revert h; generalize (i 1) = a; revert a; decide
  exact dif_neg hc

theorem block2_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond2 i = 1#1) :
    block2 (F := F) i arg2 harg2 arg3 harg3 arg4 harg4 arg5 harg5 arg6 harg6 arg7 harg7 arg8 harg8 arg9 harg9 arg10 harg10 arg11 harg11 arg12 harg12 arg13 harg13 = pure ⟨⟩ := by
  unfold block2
  exact dif_neg h

theorem block3_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond3 i = 1#1) :
    block3 (F := F) i arg2 harg2 arg3 harg3 arg4 harg4 arg5 harg5 arg6 harg6 arg7 harg7 arg8 harg8 arg9 harg9 arg10 harg10 arg11 harg11 arg12 harg12 arg13 harg13 = pure ⟨⟩ := by
  unfold block3
  exact dif_neg h

theorem block4_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond4 i = 1#1) :
    block4 (F := F) i arg2 harg2 arg3 harg3 arg4 harg4 arg5 harg5 arg6 harg6 arg7 harg7 arg8 harg8 arg9 harg9 arg10 harg10 arg11 harg11 arg12 harg12 arg13 harg13 = pure ⟨⟩ := by
  unfold block4
  exact dif_neg h

theorem block5_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond5 i = 1#1) :
    block5 (F := F) i arg2 harg2 arg3 harg3 arg4 harg4 arg5 harg5 arg6 harg6 arg7 harg7 arg8 harg8 arg9 harg9 arg10 harg10 arg11 harg11 arg12 harg12 arg13 harg13 = pure ⟨⟩ := by
  unfold block5
  exact dif_neg h

end Cert.Kernel.Gen

end
-- ==== Proof.Kernel.Steps.lean ====
/- One grid point of the second kernel call: its five blocks composed. -/
module

public import proofs.«01_k».proof.Proof.Gen.Kernel.Launch
public import proofs.«01_k».proof.Proof.Gen.Kernel.Skeleton
public import proofs.«01_k».proof.Proof.Gen.Kernel.Points
public import proofs.«01_k».proof.Proof.Kernel.Triples

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The five blocks one after another: what one grid point does to the buffers, whichever guards hold -/

/-- The first block. -/
theorem block1_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x1 : Vec F S512x1 .f32) (s11 : Vec F S512x128 .f32) (K : PUnit → sProp 𝕄) :
    iprop(owns (c : Thread nD τ) arg3 fullShare x1 ∗ owns (c : Thread nD τ) arg11 fullShare s11
        ∗ (iprop(owns (c : Thread nD τ) arg3 fullShare x1 ∗ owns (c : Thread nD τ) arg11 fullShare (if (i 1).val = 0 then k1_pay1 (View.ld x1 rR) else s11)) -∗ K ⟨⟩))
      ⊢ wp frame (wpE (defs₀ (F := F)) Variants.none c none) E (block1 (F := F) i arg2 harg2 arg3 harg3 arg4 harg4 arg5 harg5 arg6 harg6 arg7 harg7 arg8 harg8 arg9 harg9 arg10 harg10 arg11 harg11 arg12 harg12 arg13 harg13) K := by
  by_cases h : (i 1).val = 0
  · simp only [if_pos h]
    iintro ⟨H3, H11, Hk⟩
    iapply (block1_pos c E i arg2 harg2 arg3 harg3 arg4 harg4 arg5 harg5 arg6 harg6 arg7 harg7 arg8 harg8 arg9 harg9 arg10 harg10 arg11 harg11 arg12 harg12 arg13 harg13 h x1 K)
    isplitl [H3]; · iexact H3
    isplitl [H11]; · iexists _; iexact H11
    iexact Hk
  · simp only [if_neg h]
    rw [block1_neg i arg2 harg2 arg3 harg3 arg4 harg4 arg5 harg5 arg6 harg6 arg7 harg7 arg8 harg8 arg9 harg9 arg10 harg10 arg11 harg11 arg12 harg12 arg13 harg13 h]
    iintro ⟨H3, H11, Hk⟩
    sl_step
    iapply Hk
    isplitl [H3]; · iexact H3
    iexact H11

/-- The second block. -/
theorem block2_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare s10 ∗ owns (c : Thread nD τ) arg11 fullShare s11 ∗ owns (c : Thread nD τ) arg12 fullShare s12
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (if k1_cond2 i = 1#1 then hput (i 1) (hval x0 x2 x3 x4 x5 s11) s10 else s10) ∗ owns (c : Thread nD τ) arg11 fullShare s11 ∗ owns (c : Thread nD τ) arg12 fullShare (if k1_cond2 i = 1#1 then amax (BitVec.ofNat 32 (i 1).val) x0 x2 x3 x4 x5 s11 s12 else s12)) -∗ K ⟨⟩))
      ⊢ wp frame (wpE (defs₀ (F := F)) Variants.none c none) E (block2 (F := F) i arg2 harg2 arg3 harg3 arg4 harg4 arg5 harg5 arg6 harg6 arg7 harg7 arg8 harg8 arg9 harg9 arg10 harg10 arg11 harg11 arg12 harg12 arg13 harg13) K := by
  by_cases h : k1_cond2 i = 1#1
  · simp only [if_pos h]
    iintro ⟨H2, H4, H5, H6, H7, H10, H11, H12, Hk⟩
    iapply (block2_pos c E i arg2 harg2 arg3 harg3 arg4 harg4 arg5 harg5 arg6 harg6 arg7 harg7 arg8 harg8 arg9 harg9 arg10 harg10 arg11 harg11 arg12 harg12 arg13 harg13 h x0 x2 x3 x4 x5 s10 s11 s12 K)
    isplitl [H2]; · iexact H2
    isplitl [H4]; · iexact H4
    isplitl [H5]; · iexact H5
    isplitl [H6]; · iexact H6
    isplitl [H7]; · iexact H7
    isplitl [H10]; · iexact H10
    isplitl [H11]; · iexact H11
    isplitl [H12]; · iexact H12
    iexact Hk
  · simp only [if_neg h]
    rw [block2_neg i arg2 harg2 arg3 harg3 arg4 harg4 arg5 harg5 arg6 harg6 arg7 harg7 arg8 harg8 arg9 harg9 arg10 harg10 arg11 harg11 arg12 harg12 arg13 harg13 h]
    iintro ⟨H2, H4, H5, H6, H7, H10, H11, H12, Hk⟩
    sl_step
    iapply Hk
    isplitl [H2]; · iexact H2
    isplitl [H4]; · iexact H4
    isplitl [H5]; · iexact H5
    isplitl [H6]; · iexact H6
    isplitl [H7]; · iexact H7
    isplitl [H10]; · iexact H10
    isplitl [H11]; · iexact H11
    iexact H12

/-- The third block. -/
theorem block3_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x2 : Vec F S4608x512 .fp8e4m3) (x3 : Vec F S4608x512 .fp8e4m3) (x4 : Vec F S1x512 .f32) (x5 : Vec F S1x512 .f32) (x6 : Vec F S512x512 .fp8e4m3) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (if k1_cond3 i = 1#1 then codes s13 fun q => hget (i 1) q s10 else x6) ∗ owns (c : Thread nD τ) arg10 fullShare (if k1_cond3 i = 1#1 then hput (i 1) (hval x0 x2 x3 x4 x5 s11) s10 else s10) ∗ owns (c : Thread nD τ) arg11 fullShare s11 ∗ owns (c : Thread nD τ) arg12 fullShare (if k1_cond3 i = 1#1 then amax (BitVec.ofNat 32 (i 1).val) x0 x2 x3 x4 x5 s11 s12 else s12) ∗ owns (c : Thread nD τ) arg13 fullShare s13) -∗ K ⟨⟩))
      ⊢ wp frame (wpE (defs₀ (F := F)) Variants.none c none) E (block3 (F := F) i arg2 harg2 arg3 harg3 arg4 harg4 arg5 harg5 arg6 harg6 arg7 harg7 arg8 harg8 arg9 harg9 arg10 harg10 arg11 harg11 arg12 harg12 arg13 harg13) K := by
  by_cases h : k1_cond3 i = 1#1
  · simp only [if_pos h]
    iintro ⟨H2, H4, H5, H6, H7, H8, H10, H11, H12, H13, Hk⟩
    iapply (block3_pos c E i arg2 harg2 arg3 harg3 arg4 harg4 arg5 harg5 arg6 harg6 arg7 harg7 arg8 harg8 arg9 harg9 arg10 harg10 arg11 harg11 arg12 harg12 arg13 harg13 h x0 x2 x3 x4 x5 s10 s11 s12 s13 K)
    isplitl [H2]; · iexact H2
    isplitl [H4]; · iexact H4
    isplitl [H5]; · iexact H5
    isplitl [H6]; · iexact H6
    isplitl [H7]; · iexact H7
    isplitl [H8]; · iexists _; iexact H8
    isplitl [H10]; · iexact H10
    isplitl [H11]; · iexact H11
    isplitl [H12]; · iexact H12
    isplitl [H13]; · iexact H13
    iexact Hk
  · simp only [if_neg h]
    rw [block3_neg i arg2 harg2 arg3 harg3 arg4 harg4 arg5 harg5 arg6 harg6 arg7 harg7 arg8 harg8 arg9 harg9 arg10 harg10 arg11 harg11 arg12 harg12 arg13 harg13 h]
    iintro ⟨H2, H4, H5, H6, H7, H8, H10, H11, H12, H13, Hk⟩
    sl_step
    iapply Hk
    isplitl [H2]; · iexact H2
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    iexact H13

/-- The fourth block. -/
theorem block4_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x6 : Vec F S512x512 .fp8e4m3) (s10 : Vec F S36x512x512 .f32) (s13 : Vec F S512x128 .f32) (K : PUnit → sProp 𝕄) :
    iprop(owns (c : Thread nD τ) arg8 fullShare x6 ∗ owns (c : Thread nD τ) arg10 fullShare s10 ∗ owns (c : Thread nD τ) arg13 fullShare s13
        ∗ (iprop(owns (c : Thread nD τ) arg8 fullShare (if k1_cond4 i = 1#1 then codes s13 fun q => hget (i 1) q s10 else x6) ∗ owns (c : Thread nD τ) arg10 fullShare s10 ∗ owns (c : Thread nD τ) arg13 fullShare s13) -∗ K ⟨⟩))
      ⊢ wp frame (wpE (defs₀ (F := F)) Variants.none c none) E (block4 (F := F) i arg2 harg2 arg3 harg3 arg4 harg4 arg5 harg5 arg6 harg6 arg7 harg7 arg8 harg8 arg9 harg9 arg10 harg10 arg11 harg11 arg12 harg12 arg13 harg13) K := by
  by_cases h : k1_cond4 i = 1#1
  · simp only [if_pos h]
    iintro ⟨H8, H10, H13, Hk⟩
    iapply (block4_pos c E i arg2 harg2 arg3 harg3 arg4 harg4 arg5 harg5 arg6 harg6 arg7 harg7 arg8 harg8 arg9 harg9 arg10 harg10 arg11 harg11 arg12 harg12 arg13 harg13 h s10 s13 K)
    isplitl [H8]; · iexists _; iexact H8
    isplitl [H10]; · iexact H10
    isplitl [H13]; · iexact H13
    iexact Hk
  · simp only [if_neg h]
    rw [block4_neg i arg2 harg2 arg3 harg3 arg4 harg4 arg5 harg5 arg6 harg6 arg7 harg7 arg8 harg8 arg9 harg9 arg10 harg10 arg11 harg11 arg12 harg12 arg13 harg13 h]
    iintro ⟨H8, H10, H13, Hk⟩
    sl_step
    iapply Hk
    isplitl [H8]; · iexact H8
    isplitl [H10]; · iexact H10
    iexact H13

/-- The fifth block. -/
theorem block5_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x7 : Vec F S512x1 .f32) (s12 : Vec F S512x128 .f32) (s13 : Vec F S512x128 .f32) (K : PUnit → sProp 𝕄) :
    iprop(owns (c : Thread nD τ) arg9 fullShare x7 ∗ owns (c : Thread nD τ) arg12 fullShare s12 ∗ owns (c : Thread nD τ) arg13 fullShare s13
        ∗ (iprop(owns (c : Thread nD τ) arg9 fullShare (if k1_cond5 i = 1#1 then hscale s12 else x7) ∗ owns (c : Thread nD τ) arg12 fullShare s12 ∗ owns (c : Thread nD τ) arg13 fullShare (if k1_cond5 i = 1#1 then hinv s12 else s13)) -∗ K ⟨⟩))
      ⊢ wp frame (wpE (defs₀ (F := F)) Variants.none c none) E (block5 (F := F) i arg2 harg2 arg3 harg3 arg4 harg4 arg5 harg5 arg6 harg6 arg7 harg7 arg8 harg8 arg9 harg9 arg10 harg10 arg11 harg11 arg12 harg12 arg13 harg13) K := by
  by_cases h : k1_cond5 i = 1#1
  · simp only [if_pos h]
    iintro ⟨H9, H12, H13, Hk⟩
    iapply (block5_pos c E i arg2 harg2 arg3 harg3 arg4 harg4 arg5 harg5 arg6 harg6 arg7 harg7 arg8 harg8 arg9 harg9 arg10 harg10 arg11 harg11 arg12 harg12 arg13 harg13 h s12 K)
    isplitl [H9]; · iexists _; iexact H9
    isplitl [H12]; · iexact H12
    isplitl [H13]; · iexists _; iexact H13
    iexact Hk
  · simp only [if_neg h]
    rw [block5_neg i arg2 harg2 arg3 harg3 arg4 harg4 arg5 harg5 arg6 harg6 arg7 harg7 arg8 harg8 arg9 harg9 arg10 harg10 arg11 harg11 arg12 harg12 arg13 harg13 h]
    iintro ⟨H9, H12, H13, Hk⟩
    sl_step
    iapply Hk
    isplitl [H9]; · iexact H9
    isplitl [H12]; · iexact H12
    iexact H13

/-! ## The buffers after a grid point, from the buffers before it -/

/-- The spread row scales after the point. -/
def n11 (i : grid1.Coords) (x1 : Vec F S512x1 .f32) (s11 : Vec F S512x128 .f32) : Vec F S512x128 .f32 :=
  if (i 1).val = 0 then k1_pay1 (View.ld x1 rR) else s11
/-- The `h` scratch after the point. -/
def n10 (i : grid1.Coords) (x0 : Vec F S512x4608 .fp8e4m3) (x1 : Vec F S512x1 .f32) (x2 x3 : Vec F S4608x512 .fp8e4m3) (x4 x5 : Vec F S1x512 .f32)
    (s10 : Vec F S36x512x512 .f32) (s11 : Vec F S512x128 .f32) : Vec F S36x512x512 .f32 :=
  if k1_cond3 i = 1#1 then hput (i 1) (hval x0 x2 x3 x4 x5 (n11 i x1 s11)) (if k1_cond2 i = 1#1 then hput (i 1) (hval x0 x2 x3 x4 x5 (n11 i x1 s11)) s10 else s10)
  else if k1_cond2 i = 1#1 then hput (i 1) (hval x0 x2 x3 x4 x5 (n11 i x1 s11)) s10 else s10
/-- The running maximum after the point. -/
def n12 (i : grid1.Coords) (x0 : Vec F S512x4608 .fp8e4m3) (x1 : Vec F S512x1 .f32) (x2 x3 : Vec F S4608x512 .fp8e4m3) (x4 x5 : Vec F S1x512 .f32)
    (s11 s12 : Vec F S512x128 .f32) : Vec F S512x128 .f32 :=
  if k1_cond3 i = 1#1 then amax (BitVec.ofNat 32 (i 1).val) x0 x2 x3 x4 x5 (n11 i x1 s11)
    (if k1_cond2 i = 1#1 then amax (BitVec.ofNat 32 (i 1).val) x0 x2 x3 x4 x5 (n11 i x1 s11) s12 else s12)
  else if k1_cond2 i = 1#1 then amax (BitVec.ofNat 32 (i 1).val) x0 x2 x3 x4 x5 (n11 i x1 s11) s12 else s12
/-- The codes' block after the point. -/
def n8 (i : grid1.Coords) (x0 : Vec F S512x4608 .fp8e4m3) (x1 : Vec F S512x1 .f32) (x2 x3 : Vec F S4608x512 .fp8e4m3) (x4 x5 : Vec F S1x512 .f32)
    (x6 : Vec F S512x512 .fp8e4m3) (s10 : Vec F S36x512x512 .f32) (s11 s13 : Vec F S512x128 .f32) : Vec F S512x512 .fp8e4m3 :=
  if k1_cond4 i = 1#1 then codes s13 fun q => hget (i 1) q (n10 i x0 x1 x2 x3 x4 x5 s10 s11)
  else if k1_cond3 i = 1#1 then codes s13 fun q => hget (i 1) q (if k1_cond2 i = 1#1 then hput (i 1) (hval x0 x2 x3 x4 x5 (n11 i x1 s11)) s10 else s10)
  else x6

set_option maxHeartbeats 1000000 in
/-- The whole body, on any memrefs. -/
theorem sound_kernel1 (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x1 : Vec F S512x1 .f32) (x2 : Vec F S4608x512 .fp8e4m3) (x3 : Vec F S4608x512 .fp8e4m3) (x4 : Vec F S1x512 .f32) (x5 : Vec F S1x512 .f32) (x6 : Vec F S512x512 .fp8e4m3) (x7 : Vec F S512x1 .f32) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (n8 i x0 x1 x2 x3 x4 x5 x6 s10 s11 s13) ∗ owns (c : Thread nD τ) arg9 fullShare (if k1_cond5 i = 1#1 then hscale (n12 i x0 x1 x2 x3 x4 x5 s11 s12) else x7) ∗ owns (c : Thread nD τ) arg10 fullShare (n10 i x0 x1 x2 x3 x4 x5 s10 s11) ∗ owns (c : Thread nD τ) arg11 fullShare (n11 i x1 s11) ∗ owns (c : Thread nD τ) arg12 fullShare (n12 i x0 x1 x2 x3 x4 x5 s11 s12) ∗ owns (c : Thread nD τ) arg13 fullShare (if k1_cond5 i = 1#1 then hinv (n12 i x0 x1 x2 x3 x4 x5 s11 s12) else s13)) -∗ K ⟨⟩))
      ⊢ wp frame (wpE (defs₀ (F := F)) Variants.none c none) E (cc1_gate_up_swiglu_quant (F := F) i arg2 harg2 arg3 harg3 arg4 harg4 arg5 harg5 arg6 harg6 arg7 harg7 arg8 harg8 arg9 harg9 arg10 harg10 arg11 harg11 arg12 harg12 arg13 harg13) K := by
  rw [cc1_gate_up_swiglu_quant_eq_skeleton, body_eq_blocks]
  simp only [wp_bind]
  iintro ⟨H2, H3, H4, H5, H6, H7, H8, H9, H10, H11, H12, H13, Hk⟩
  iapply (block1_step c E i arg2 harg2 arg3 harg3 arg4 harg4 arg5 harg5 arg6 harg6 arg7 harg7 arg8 harg8 arg9 harg9 arg10 harg10 arg11 harg11 arg12 harg12 arg13 harg13 x1 s11 _)
  isplitl [H3]; · iexact H3
  isplitl [H11]; · iexact H11
  iintro ⟨H3, H11⟩
  iapply (block2_step c E i arg2 harg2 arg3 harg3 arg4 harg4 arg5 harg5 arg6 harg6 arg7 harg7 arg8 harg8 arg9 harg9 arg10 harg10 arg11 harg11 arg12 harg12 arg13 harg13 x0 x2 x3 x4 x5 s10 _ s12 _)
  isplitl [H2]; · iexact H2
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H2, H4, H5, H6, H7, H10, H11, H12⟩
  iapply (block3_step c E i arg2 harg2 arg3 harg3 arg4 harg4 arg5 harg5 arg6 harg6 arg7 harg7 arg8 harg8 arg9 harg9 arg10 harg10 arg11 harg11 arg12 harg12 arg13 harg13 x0 x2 x3 x4 x5 x6 _ _ _ s13 _)
  isplitl [H2]; · iexact H2
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  iintro ⟨H2, H4, H5, H6, H7, H8, H10, H11, H12, H13⟩
  iapply (block4_step c E i arg2 harg2 arg3 harg3 arg4 harg4 arg5 harg5 arg6 harg6 arg7 harg7 arg8 harg8 arg9 harg9 arg10 harg10 arg11 harg11 arg12 harg12 arg13 harg13 _ _ s13 _)
  isplitl [H8]; · iexact H8
  isplitl [H10]; · iexact H10
  isplitl [H13]; · iexact H13
  iintro ⟨H8, H10, H13⟩
  iapply (block5_step c E i arg2 harg2 arg3 harg3 arg4 harg4 arg5 harg5 arg6 harg6 arg7 harg7 arg8 harg8 arg9 harg9 arg10 harg10 arg11 harg11 arg12 harg12 arg13 harg13 x7 _ s13 _)
  isplitl [H9]; · iexact H9
  isplitl [H12]; · iexact H12
  isplitl [H13]; · iexact H13
  iintro ⟨H9, H12, H13⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.Kernel.Gen

end
-- ==== Proof.Kernel.GateUp.lean ====
/- The second kernel call (gate and up products, SwiGLU, per-token quantisation of `h`), as a pipeline region: what its
   scratches hold between grid points, what it leaves in each output window's buffer, the region's proof data at any
   entry contents `V`, and the body obligation at every grid point. -/
module

public import proofs.«01_k».proof.Proof.Gen.Kernel.Launch
public import proofs.«01_k».proof.Proof.Gen.Kernel.Skeleton
public import proofs.«01_k».proof.Proof.Gen.Kernel.Points
public import proofs.«01_k».proof.Proof.Kernel.Steps
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S512x4608 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4608x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4608x512 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S36x512x512 .f32 := Memref.whole cc1_scratch0
abbrev scM1_1 : Memref sig .tc .vmem S512x128 .f32 := Memref.whole cc1_scratch1
abbrev scM1_2 : Memref sig .tc .vmem S512x128 .f32 := Memref.whole cc1_scratch2
abbrev scM1_3 : Memref sig .tc .vmem S512x128 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The grid: 49 row blocks (the last a drain) of 36 column tiles -/

theorem coord_fst : ∀ t : Fin cfg1.N, ((grid1.coords t) 0).val = t.val / 36 := by decide +kernel
theorem coord_snd : ∀ t : Fin cfg1.N, ((grid1.coords t) 1).val = t.val % 36 := by decide +kernel
theorem N1 : cfg1.N = 1764 := by decide +kernel

theorem cond2_iff (i : grid1.Coords) : k1_cond2 i = 1#1 ↔ (i 0).val = 0 := by
  unfold k1_cond2; generalize i 0 = a; revert a; decide +kernel
theorem cond3_iff (i : grid1.Coords) : k1_cond3 i = 1#1 ↔ 0 < (i 0).val ∧ (i 0).val < 48 := by
  unfold k1_cond3; generalize i 0 = a; revert a; decide +kernel
theorem cond4_iff (i : grid1.Coords) : k1_cond4 i = 1#1 ↔ (i 0).val = 48 := by
  unfold k1_cond4; generalize i 0 = a; revert a; decide +kernel
theorem cond5_iff (i : grid1.Coords) : k1_cond5 i = 1#1 ↔ (i 0).val < 48 ∧ (i 1).val = 35 := by
  unfold k1_cond5; generalize i 0 = a; generalize i 1 = b; revert a b; decide +kernel

theorem flush1_6 : ∀ t : Fin cfg1.N, t.val / 36 = 0 → (cfg1.win 6).flush t = false := by decide +kernel
theorem flush1_7 : ∀ t : Fin cfg1.N, (cfg1.win 7).flush t = true → t.val % 36 = 35 ∧ t.val / 36 ≠ 47 := by decide +kernel
theorem fetch1_7 (t : Fin cfg1.N) : (cfg1.win 7).fetch t = false := rfl

/-- The grid point of row block `i` and column tile `j`. -/
def pt (i j : ℕ) : Fin cfg1.N := ⟨(36 * i + j) % 1764, by rw [N1]; exact Nat.mod_lt _ (by decide)⟩
theorem pt_eq (t : Fin cfg1.N) {i j : ℕ} (hi : t.val / 36 = i) (hj : t.val % 36 = j) : pt i j = t := by
  have h : t.val < 1764 := N1 ▸ t.isLt
  refine Fin.ext ?_
  show (36 * i + j) % 1764 = t.val
  omega

/-! ## What the kernel computes, row block by row block -/

/-- The spread row scales of row block `i`. -/
def sp (c : Dev nD) (i : ℕ) : Vec F S512x128 .f32 := k1_pay1 (View.ld (iblk1 V c 1 (pt i 0)) rR)
/-- The four chunks of `h` at row block `i`, column tile `j`. -/
def hh (c : Dev nD) (i j : ℕ) : Fin 4 → Vec F S1x512x128 .f32 :=
  hval (iblk1 V c 0 (pt i j)) (iblk1 V c 2 (pt i j)) (iblk1 V c 3 (pt i j)) (iblk1 V c 4 (pt i j)) (iblk1 V c 5 (pt i j)) (sp V c i)
/-- The running maximum of row block `i` after its first `j` column tiles. -/
def am (c : Dev nD) (i : ℕ) : ℕ → Vec F S512x128 .f32
  | 0 => fun _ => Scalar.ofBits .f32 0x00000000#32
  | j + 1 => amax (BitVec.ofNat 32 j) (iblk1 V c 0 (pt i j)) (iblk1 V c 2 (pt i j)) (iblk1 V c 3 (pt i j)) (iblk1 V c 4 (pt i j)) (iblk1 V c 5 (pt i j)) (sp V c i) (am c i j)
/-- The inverse scales of row block `i`, spread. -/
def iv (c : Dev nD) (i : ℕ) : Vec F S512x128 .f32 := hinv (am V c i 36)
/-- The scales of row block `i`. -/
def sc (c : Dev nD) (i : ℕ) : Vec F S512x1 .f32 := hscale (am V c i 36)
/-- The codes of row block `i`, column tile `j`. -/
def cd (c : Dev nD) (i j : ℕ) : Vec F S512x512 .fp8e4m3 := codes (iv V c i) (hh V c i j)

/-! ## What the scratches hold between the points -/

/-- Before point `n` (row block `n / 36`, column tile `n % 36`): the spread row scales and the running maximum of the row block
    begun; in the `h` scratch the row block's tiles done so far and, behind them, the previous row block's; the previous row
    block's inverse scales. -/
structure Inv (c : Dev nD) (n : ℕ) (s10 : Vec F S36x512x512 .f32) (s11 s12 s13 : Vec F S512x128 .f32) : Prop where
  sp : 0 < n % 36 → s11 = sp V c (n / 36)
  am : 0 < n % 36 → n / 36 < 48 → s12 = am V c (n / 36) (n % 36)
  new : n / 36 < 48 → ∀ (j : Fin 36) (q : Fin 4), j.val < n % 36 → hget j q s10 = hh V c (n / 36) j.val q
  old : 0 < n / 36 → n / 36 ≤ 48 → ∀ (j : Fin 36) (q : Fin 4), (n % 36 ≤ j.val ∨ n / 36 = 48) → hget j q s10 = hh V c (n / 36 - 1) j.val q
  iv : 0 < n / 36 → n / 36 ≤ 48 → s13 = iv V c (n / 36 - 1)

theorem Inv.zero (c : Dev nD) (s10 : Vec F S36x512x512 .f32) (s11 s12 s13 : Vec F S512x128 .f32) : Inv V c 0 s10 s11 s12 s13 := by
  constructor <;> intro h <;> simp at h ⊢

/-- The first column tile's maximum starts from zero whatever the scratch held. -/
theorem amax_zero (x0 : Vec F S512x4608 .fp8e4m3) (x2 x3 : Vec F S4608x512 .fp8e4m3) (x4 x5 : Vec F S1x512 .f32) (s11 s s' : Vec F S512x128 .f32) :
    amax (BitVec.ofNat 32 0) x0 x2 x3 x4 x5 s11 s = amax (BitVec.ofNat 32 0) x0 x2 x3 x4 x5 s11 s' := by
  have e : k1_pay35 (F := F) (BitVec.ofNat 32 0) (View.ld s rT) = k1_pay35 (BitVec.ofNat 32 0) (View.ld s' rT) := by
    unfold k1_pay35; rfl
  unfold amax; rw [e]

section Step
variable {V} {c : Dev nD} {t : Fin cfg1.N} {s10 : Vec F S36x512x512 .f32} {s11 s12 s13 : Vec F S512x128 .f32}

theorem step11 (h : Inv V c t.val s10 s11 s12 s13) : n11 (grid1.coords t) (iblk1 V c 1 t) s11 = sp V c (t.val / 36) := by
  unfold n11
  rw [coord_snd]
  split
  · rename_i h0; unfold sp; rw [pt_eq t rfl h0]; try rfl
  · rename_i h0; exact h.sp (Nat.pos_of_ne_zero h0)

theorem stepH (h : Inv V c t.val s10 s11 s12 s13) :
    hval (iblk1 V c 0 t) (iblk1 V c 2 t) (iblk1 V c 3 t) (iblk1 V c 4 t) (iblk1 V c 5 t) (n11 (grid1.coords t) (iblk1 V c 1 t) s11)
      = hh V c (t.val / 36) (t.val % 36) := by
  rw [step11 h]; unfold hh; rw [pt_eq t rfl rfl]

theorem stepA (h : Inv V c t.val s10 s11 s12 s13) (hi : t.val / 36 < 48) :
    amax (BitVec.ofNat 32 (grid1.coords t 1).val) (iblk1 V c 0 t) (iblk1 V c 2 t) (iblk1 V c 3 t) (iblk1 V c 4 t) (iblk1 V c 5 t) (n11 (grid1.coords t) (iblk1 V c 1 t) s11) s12
      = am V c (t.val / 36) (t.val % 36 + 1) := by
  rw [step11 h, coord_snd]
  show _ = amax (BitVec.ofNat 32 (t.val % 36)) (iblk1 V c 0 (pt (t.val / 36) (t.val % 36))) _ _ _ _ _ (am V c (t.val / 36) (t.val % 36))
  rw [pt_eq t rfl rfl]
  by_cases h0 : t.val % 36 = 0
  · rw [h0]; exact amax_zero _ _ _ _ _ _ _ _
  · rw [h.am (Nat.pos_of_ne_zero h0) hi]

theorem step10 (h : Inv V c t.val s10 s11 s12 s13) (hi : t.val / 36 < 48) :
    n10 (grid1.coords t) (iblk1 V c 0 t) (iblk1 V c 1 t) (iblk1 V c 2 t) (iblk1 V c 3 t) (iblk1 V c 4 t) (iblk1 V c 5 t) s10 s11
      = hput (grid1.coords t 1) (hh V c (t.val / 36) (t.val % 36)) s10 := by
  unfold n10
  simp only [stepH h, cond2_iff, cond3_iff, coord_fst]
  by_cases h0 : t.val / 36 = 0
  · rw [if_neg (by omega), if_pos h0]
  · rw [if_pos ⟨Nat.pos_of_ne_zero h0, hi⟩, if_neg h0]

theorem step10_drain (hi : t.val / 36 = 48) :
    n10 (grid1.coords t) (iblk1 V c 0 t) (iblk1 V c 1 t) (iblk1 V c 2 t) (iblk1 V c 3 t) (iblk1 V c 4 t) (iblk1 V c 5 t) s10 s11 = s10 := by
  unfold n10
  simp only [cond2_iff, cond3_iff, coord_fst]
  rw [if_neg (by omega), if_neg (by omega)]

theorem step12 (h : Inv V c t.val s10 s11 s12 s13) (hi : t.val / 36 < 48) :
    n12 (grid1.coords t) (iblk1 V c 0 t) (iblk1 V c 1 t) (iblk1 V c 2 t) (iblk1 V c 3 t) (iblk1 V c 4 t) (iblk1 V c 5 t) s11 s12
      = am V c (t.val / 36) (t.val % 36 + 1) := by
  unfold n12
  simp only [cond2_iff, cond3_iff, coord_fst]
  by_cases h0 : t.val / 36 = 0
  · rw [if_neg (by omega), if_pos h0]; exact stepA h hi
  · rw [if_pos ⟨Nat.pos_of_ne_zero h0, hi⟩, if_neg h0]; exact stepA h hi

/-- The codes written at a point past the first row block. -/
theorem step8 (h : Inv V c t.val s10 s11 s12 s13) (hi : 0 < t.val / 36) (x6 : Vec F S512x512 .fp8e4m3) :
    n8 (grid1.coords t) (iblk1 V c 0 t) (iblk1 V c 1 t) (iblk1 V c 2 t) (iblk1 V c 3 t) (iblk1 V c 4 t) (iblk1 V c 5 t) x6 s10 s11 s13
      = cd V c (t.val / 36 - 1) (t.val % 36) := by
  have hN : t.val < 1764 := N1 ▸ t.isLt
  have hold : (fun q => hget (grid1.coords t 1) q s10) = hh V c (t.val / 36 - 1) (t.val % 36) := by
    funext q
    have := h.old hi (by omega) (grid1.coords t 1) q (Or.inl (by rw [coord_snd]))
    rw [coord_snd] at this
    exact this
  unfold n8 cd
  simp only [cond2_iff, cond3_iff, cond4_iff, coord_fst]
  by_cases h4 : t.val / 36 = 48
  · rw [if_pos h4, step10_drain h4, hold, h.iv hi (by omega)]
  · rw [if_neg h4, if_pos ⟨hi, by omega⟩, if_neg (by omega), hold, h.iv hi (by omega)]

/-- The scratches after a point. -/
theorem Inv.step (h : Inv V c t.val s10 s11 s12 s13) :
    Inv V c (t.val + 1)
      (n10 (grid1.coords t) (iblk1 V c 0 t) (iblk1 V c 1 t) (iblk1 V c 2 t) (iblk1 V c 3 t) (iblk1 V c 4 t) (iblk1 V c 5 t) s10 s11)
      (n11 (grid1.coords t) (iblk1 V c 1 t) s11)
      (n12 (grid1.coords t) (iblk1 V c 0 t) (iblk1 V c 1 t) (iblk1 V c 2 t) (iblk1 V c 3 t) (iblk1 V c 4 t) (iblk1 V c 5 t) s11 s12)
      (if k1_cond5 (grid1.coords t) = 1#1 then hinv (n12 (grid1.coords t) (iblk1 V c 0 t) (iblk1 V c 1 t) (iblk1 V c 2 t) (iblk1 V c 3 t) (iblk1 V c 4 t) (iblk1 V c 5 t) s11 s12) else s13) := by
  have hN : t.val < 1764 := N1 ▸ t.isLt
  by_cases hj : t.val % 36 = 35
  · -- the row block ends: the next point opens the next one
    have e1 : (t.val + 1) / 36 = t.val / 36 + 1 := by omega
    have e2 : (t.val + 1) % 36 = 0 := by omega
    refine ⟨fun h0 => by omega, fun h0 => by omega, fun _ j q h0 => by omega, fun _ hle j q _ => ?_, fun _ hle => ?_⟩
    · rw [e1, Nat.add_sub_cancel]
      by_cases hi : t.val / 36 < 48
      · rw [step10 h hi]
        by_cases hjj : j = grid1.coords t 1
        · subst hjj
          exact (hget_hput_same _ _ _ q).trans (by rw [coord_snd])
        · rw [hget_hput_ne hjj]
          have hne : j.val ≠ t.val % 36 := fun e => hjj (Fin.ext (e.trans (coord_snd t).symm))
          exact h.new hi j q (by omega)
      · omega
    · rw [e1, Nat.add_sub_cancel]
      by_cases hi : t.val / 36 < 48
      · rw [if_pos ((cond5_iff _).mpr ⟨by rw [coord_fst]; exact hi, by rw [coord_snd]; exact hj⟩), step12 h hi, hj]; rfl
      · omega
  · have e1 : (t.val + 1) / 36 = t.val / 36 := by omega
    have e2 : (t.val + 1) % 36 = t.val % 36 + 1 := by omega
    refine ⟨fun _ => ?_, fun _ hi => ?_, fun hi j q h0 => ?_, fun hi hle j q h0 => ?_, fun hi hle => ?_⟩
    · rw [e1]; exact step11 h
    · rw [e1] at hi ⊢; rw [e2]; exact step12 h hi
    · rw [e1] at hi ⊢; rw [e2] at h0
      rw [step10 h hi]
      by_cases hjj : j = grid1.coords t 1
      · subst hjj
        exact (hget_hput_same _ _ _ q).trans (by rw [coord_snd])
      · rw [hget_hput_ne hjj]
        have hne : j.val ≠ t.val % 36 := fun e => hjj (Fin.ext (e.trans (coord_snd t).symm))
        exact h.new hi j q (by omega)
    · rw [e1] at hi h0 ⊢; rw [e2] at h0
      by_cases hd : t.val / 36 = 48
      · rw [step10_drain hd]; exact h.old hi (by omega) j q (Or.inr hd)
      · rw [step10 h (by omega)]
        have hjj : j ≠ grid1.coords t 1 := fun e => by
          have := (congrArg Fin.val e).trans (coord_snd t); omega
        rw [hget_hput_ne hjj]
        exact h.old hi (by omega) j q (Or.inl (by omega))
    · rw [e1] at hi ⊢
      rw [if_neg (fun h5 => hj (((cond5_iff _).mp h5).2 ▸ (coord_snd t).symm))]
      exact h.iv hi (by omega)
end Step

/-! ## The pipeline's proof data -/

/-- The invariant between points: the scratches at contents that `Inv` describes, every other scoped buffer at anything, and the
    generator register. -/
def PhiS (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ s10 s11 s12 s13, ⌜Inv V c n s10 s11 s12 s13⌝ ∗ owns (c : Thread nD τ) scM1_0 fullShare s10 ∗ owns (c : Thread nD τ) scM1_1 fullShare s11 ∗ owns (c : Thread nD τ) scM1_2 fullShare s12 ∗ owns (c : Thread nD τ) scM1_3 fullShare s13)) ∗ (∃ r, prngReg c r))

/-- The proof data: the arrays as the region finds them; after a point each input's buffer at its block, the codes' buffer at the
    previous row block's codes, the scales' at the row block's scales (past the last row block, still its). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => cd V c (t.val / 36 - 1) (t.val % 36)
    | ⟨7, _⟩ => sc V c (min (t.val / 36) 47)
  Φ t := PhiS V c t.val
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = cd V c (t.val / 36 - 1) (t.val % 36) := by dsimp only [dat1]
theorem after1_7 (c : Dev nD) (t : Fin cfg1.N) : (dat1 V c).after 7 t = sc V c (min (t.val / 36) 47) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi_castSucc1 (c : Dev nD) (t : Fin cfg1.N) : (dat1 V c).Φ t.castSucc = PhiS V c t.val := by
  dsimp only [dat1]; rfl
theorem Phi_succ1 (c : Dev nD) (t : Fin cfg1.N) : (dat1 V c).Φ t.succ = PhiS V c (t.val + 1) := by
  dsimp only [dat1]; rfl

theorem idle6 (t : Fin cfg1.N) : cfg1.idle 6 (cfg1.grid.coords t) = decide (t.val / 36 = 0) := by
  have hN : t.val < 1764 := N1 ▸ t.isLt
  have h3 := cond3_iff (grid1.coords t)
  have h4 := cond4_iff (grid1.coords t)
  rw [coord_fst] at h3 h4
  show (!(k1_cond3 (grid1.coords t) == 1#1) && !(k1_cond4 (grid1.coords t) == 1#1)) = decide (t.val / 36 = 0)
  rw [Bool.eq_iff_iff, decide_eq_true_iff]
  simp only [Bool.and_eq_true, Bool.not_eq_true', beq_eq_false_iff_ne, ne_eq, h3, h4]
  omega
theorem idle7 (t : Fin cfg1.N) : cfg1.idle 7 (cfg1.grid.coords t) = !decide (t.val / 36 < 48 ∧ t.val % 36 = 35) := by
  have h5 := cond5_iff (grid1.coords t)
  rw [coord_fst, coord_snd] at h5
  show (!(k1_cond5 (grid1.coords t) == 1#1)) = _
  congr 1
  rw [Bool.eq_iff_iff, decide_eq_true_iff, beq_iff_eq, h5]

/-- Past the last row block the scales' buffer still holds the last row block's. -/
theorem before1_7_drain (c : Dev nD) (k : ℕ) : ∀ t : Fin cfg1.N, t.val = 1728 + k → ∀ d, (dat1 V c).before 7 t d = sc V c 47 := by
  induction k with
  | zero =>
    intro t ht d
    rw [(dat1 V c).before_of_pos 7 t (by omega) (fetch1_7 t) d]
    have hf : (cfg1.win 7).flush ⟨t.val - 1, Nat.lt_of_le_of_lt (Nat.sub_le _ _) t.isLt⟩ = false := by
      refine Bool.eq_false_iff.mpr fun hf => ?_
      have h1 := (flush1_7 _ hf).2
      apply h1
      show (t.val - 1) / 36 = 47
      omega
    rw [hf, if_neg Bool.false_ne_true]
    unfold Dat.left
    rw [idle7]
    have e : decide ((t.val - 1) / 36 < 48 ∧ (t.val - 1) % 36 = 35) = true := decide_eq_true (by omega)
    simp only [e]
    unfold Dat.kept
    rw [after1_7]
    have e' : min ((t.val - 1) / 36) 47 = 47 := by omega
    simp only [e']
    rfl
  | succ k ih =>
    intro t ht d
    have hN : t.val < 1764 := N1 ▸ t.isLt
    rw [(dat1 V c).before_of_pos 7 t (by omega) (fetch1_7 t) d]
    have hf : (cfg1.win 7).flush ⟨t.val - 1, Nat.lt_of_le_of_lt (Nat.sub_le _ _) t.isLt⟩ = false := by
      refine Bool.eq_false_iff.mpr fun hf => ?_
      have h1 : (t.val - 1) % 36 = 35 := (flush1_7 _ hf).1
      omega
    rw [hf, if_neg Bool.false_ne_true]
    unfold Dat.left
    rw [idle7]
    have e : decide ((t.val - 1) / 36 < 48 ∧ (t.val - 1) % 36 = 35) = false := decide_eq_false (by omega)
    simp only [e]
    exact ih _ (by show t.val - 1 = 1728 + k; omega) d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ (dat1 V c).leavesExact 6 t
    ∗ (dat1 V c).leavesExact 7 t)

/-- What the codes' buffer is left at. -/
theorem leaves6 (c : Dev nD) (t : Fin cfg1.N) {s10 : Vec F S36x512x512 .f32} {s11 s12 s13 : Vec F S512x128 .f32} (h : Inv V c t.val s10 s11 s12 s13) (d) :
    owns (c : Thread nD τ) (ms1_6 t) fullShare (n8 (grid1.coords t) (iblk1 V c 0 t) (iblk1 V c 1 t) (iblk1 V c 2 t) (iblk1 V c 3 t) (iblk1 V c 4 t) (iblk1 V c 5 t) ((dat1 V c).before 6 t d) s10 s11 s13)
      ⊢ (dat1 V c).leavesExact 6 t := by
  have hN : t.val < 1764 := N1 ▸ t.isLt
  by_cases hi : t.val / 36 = 0
  · rw [(dat1 V c).leavesExact_idle 6 t (by rw [idle6]; exact decide_eq_true hi) (flush1_6 t hi)]
    unfold n8
    simp only [cond3_iff, cond4_iff, coord_fst]
    rw [if_neg (by omega), if_neg (by omega)]
    iintro H; iexists d; iexact H
  · have e : (dat1 V c).leavesExact 6 t = owns (c : Thread nD τ) (ms1_6 t) fullShare ((dat1 V c).after 6 t) := by
      have e1 : cfg1.idle 6 (cfg1.grid.coords t) = false := by rw [idle6]; exact decide_eq_false hi
      unfold Dat.leavesExact; rw [e1]
    rw [e, after1_6, step8 h (Nat.pos_of_ne_zero hi)]

/-- What the scales' buffer is left at. -/
theorem leaves7 (c : Dev nD) (t : Fin cfg1.N) {s10 : Vec F S36x512x512 .f32} {s11 s12 s13 : Vec F S512x128 .f32} (h : Inv V c t.val s10 s11 s12 s13) (d) :
    owns (c : Thread nD τ) (ms1_7 t) fullShare (if k1_cond5 (grid1.coords t) = 1#1 then hscale (n12 (grid1.coords t) (iblk1 V c 0 t) (iblk1 V c 1 t) (iblk1 V c 2 t) (iblk1 V c 3 t) (iblk1 V c 4 t) (iblk1 V c 5 t) s11 s12) else (dat1 V c).before 7 t d)
      ⊢ (dat1 V c).leavesExact 7 t := by
  have hN : t.val < 1764 := N1 ▸ t.isLt
  have h5 := cond5_iff (grid1.coords t)
  rw [coord_fst, coord_snd] at h5
  by_cases hl : t.val / 36 < 48 ∧ t.val % 36 = 35
  · have e : (dat1 V c).leavesExact 7 t = owns (c : Thread nD τ) (ms1_7 t) fullShare ((dat1 V c).after 7 t) := by
      have e1 : cfg1.idle 7 (cfg1.grid.coords t) = false := by rw [idle7, decide_eq_true hl]; rfl
      unfold Dat.leavesExact; rw [e1]
    rw [e, after1_7, if_pos (h5.mpr hl), step12 h hl.1, hl.2]
    have e' : min (t.val / 36) 47 = t.val / 36 := by omega
    rw [e']; exact .rfl
  · have e1 : cfg1.idle 7 (cfg1.grid.coords t) = true := by rw [idle7, decide_eq_false hl]; rfl
    rw [if_neg (fun h => hl (h5.mp h))]
    by_cases hf : (cfg1.win 7).flush t = true
    · have e : (dat1 V c).leavesExact 7 t = owns (c : Thread nD τ) (ms1_7 t) fullShare ((dat1 V c).after 7 t) := by
        unfold Dat.leavesExact; rw [e1, hf]
      have hff := flush1_7 t hf
      have e48 : t.val / 36 = 48 := by omega
      rw [e, after1_7, before1_7_drain V c (t.val - 1728) t (by omega) d]
      have e' : min (t.val / 36) 47 = 47 := by omega
      rw [e']
    · rw [(dat1 V c).leavesExact_idle 7 t e1 (Bool.eq_false_iff.mpr hf)]
      iintro H; iexists d; iexact H

set_option maxHeartbeats 2000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [Phi_castSucc1, Phi_succ1, show (dat1 V c).owesAt () t.succ = (dat1 V c).owesAt () t.castSucc from rfl,
    after1_0, after1_1, after1_2, after1_3, after1_4, after1_5]
  unfold PhiS
  iintro ⟨⟨⟨HR0, HR1, HR2, HR3, HR4, HR5, ⟨%s10, %s11, %s12, %s13, %hI, HS0, HS1, HS2, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) ((dat1 V c).before 6 t d6) ((dat1 V c).before 7 t d7) s10 s11 s12 s13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR0 HR1 HR2 HR3 HR4 HR5 HS0 HS1 HS2 HS3 Hg]
  · isplitl [HR0 HR1 HR2 HR3 HR4 HR5 HS0 HS1 HS2 HS3]
    · isplitl [HR0]; · iexact HR0
      isplitl [HR1]; · iexact HR1
      isplitl [HR2]; · iexact HR2
      isplitl [HR3]; · iexact HR3
      isplitl [HR4]; · iexact HR4
      isplitl [HR5]; · iexact HR5
      iexists _, _, _, _
      isplitr; · ipureintro; exact Inv.step hI
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 V c t hI d6); iexact H6
  iapply (leaves7 V c t hI d7); iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## The invariant at the region's ends -/

/-- Any scratch contents open the loop. -/
theorem Phi_in (c : Dev nD) : (Pipeline.ΦA spec1 c : sProp 𝕄) ⊢ PhiS V c 0 := by
  rw [PhiA1_eq]; unfold PhiS
  iintro ⟨⟨HR0, HR1, HR2, HR3, HR4, HR5, ⟨%s10, HS0⟩, ⟨%s11, HS1⟩, ⟨%s12, HS2⟩, ⟨%s13, HS3⟩⟩, Hg⟩
  isplitl [HR0 HR1 HR2 HR3 HR4 HR5 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    iexists s10, s11, s12, s13
    isplitr; · ipureintro; exact Inv.zero V c s10 s11 s12 s13
    isplitl [HS0]; · iexact HS0
    isplitl [HS1]; · iexact HS1
    isplitl [HS2]; · iexact HS2
    iexact HS3
  iexact Hg

/-- and what they hold at its end is forgotten. -/
theorem Phi_out (c : Dev nD) (n : ℕ) : PhiS V c n ⊢ (Pipeline.ΦA spec1 c : sProp 𝕄) := by
  rw [PhiA1_eq]; unfold PhiS
  iintro ⟨⟨HR0, HR1, HR2, HR3, HR4, HR5, ⟨%s10, %s11, %s12, %s13, -, HS0, HS1, HS2, HS3⟩⟩, Hg⟩
  isplitl [HR0 HR1 HR2 HR3 HR4 HR5 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HS2]; · iexists _; iexact HS2
    iexists _; iexact HS3
  iexact Hg

end Cert.Kernel.Gen

end
-- ==== Proof.Kernel.Whole.lean ====
/- The whole program's run: the buffer contents at every boundary between host operations and kernel calls, the two calls
   as regions over them, and the final state, in which every unscoped buffer holds the last boundary's contents. -/
module

public import proofs.«01_k».proof.Proof.Gen.Kernel.Launch
public import proofs.«01_k».proof.Proof.Gen.Kernel.Skeleton
public import proofs.«01_k».proof.Proof.Gen.Kernel.Points
public import proofs.«01_k».proof.Proof.Kernel.QuantX
public import proofs.«01_k».proof.Proof.Kernel.GateUp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.StableHlo.RunHlo
public import Idealize.ShloMosaic.Lib.Tactic
public import Idealize.ShloMosaic.Lib.UnfoldOut
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS (V2 m ρ) c 0 from rfl]
    refine BIBase.Entails.trans ?_ (Phi_in (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiS (V2 m ρ) c cfg1.N from rfl]
    refine BIBase.Entails.trans (Phi_out (V2 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has each unscoped buffer at the last boundary's contents and every semaphore counter
    at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (run m ρ) fun r h => ⟨fun c => ⟨?_, ?_, ?_⟩, h.2⟩
  · exact (h.1 c _ (mem_uc main_arg0 (by decide))).trans (W4_main_arg0 m ρ c)
  · exact (h.1 c _ (mem_uc main_arg1 (by decide))).trans (W4_main_arg1 m ρ c)
  · exact (h.1 c _ (mem_uc main_arg2 (by decide))).trans (W4_main_arg2 m ρ c)

end Cert.Kernel.Gen

end
-- ==== Proof.KernelIdeal.QuantX.lean ====
/- The first kernel call (the per-token quantisation of the activations), as a pipeline region: what its body leaves in
   each output window's buffer, the body's triple, the region's proof data at any entry contents `V`, and the body
   obligation at every grid point. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffer contents when the region is entered
variable (V : (c : Dev nD) → (b : Ref sig .tc) → Buf (Elt F) ((c : Thread nD τ).loc b))

/-! # REGION 0 of @main: custom_call 0, `cc0_quant_x` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x4608 := Rect.unit (s := S256x4608) ![0, 0] S256x4608.size inb_S256x4608_S256x4608_0_0
abbrev r0_1 : Rect S256x1 := Rect.unit (s := S256x1) ![0, 0] S256x1.size inb_S256x1_S256x1_0_0

/-! ## What the body leaves in each output window's buffer -/

/-! ### Values of the body that the stores' payloads, spelt out, would write more than once

    Each is a vector the body binds (often a part call's result), stated over the input windows' blocks and
    numbered on from the skeleton's payload functions (`k0_pay32` …, after `k0_pay31`), so that
    `out0_W` and the values after it name it instead of spelling it out (`unfold_out out0_W` opens a canon
    with them, `unfold_payloads` opens them with the payloads); the comment after each is the printed function's
    name for the value (a count appended where that name is bound again). -/

def k0_pay32 (x0 : Vec F S256x4608 .bf16) : FVec F S256x1 .f32 :=
  k0_pay11 (View.ld x0 r0_0) -- `v37`
def k0_pay33 (x0 : Vec F S256x4608 .bf16) : IVec S256x1 32 :=
  k0_pay26 (k0_pay3 (View.ld x0 r0_0)) (k0_pay22 (k0_pay32 x0) (Scalar.ofBits .f32 0x41800000#32)) (k0_pay23 (k0_pay32 x0) (k0_pay12 (View.ld x0 r0_0)) (Scalar.ofBits .f32 0x41800000#32)) (k0_pay24 (k0_pay32 x0) (Scalar.ofBits .f32 0x41800000#32)) (k0_pay25 (k0_pay32 x0) (Scalar.ofBits .f32 0x41800000#32)) -- `v124`
def k0_pay34 (x0 : Vec F S256x4608 .bf16) : IVec S256x1 1 :=
  k0_pay27 (k0_pay2 (View.ld x0 r0_0)) -- `v126`
def k0_pay35 (x0 : Vec F S256x4608 .bf16) : IVec S256x1 32 :=
  k0_pay28 -- `v127`

/-- Window 1's staging buffer after the body, from the input windows' blocks: its 1 store as pieces, LAST
    FIRST (Lib/Pipeline/FrameBody.lean `View.canon`; the payloads are the skeleton's and the values stated above). -/
def out0_1 (x0 : Vec F S256x4608 .bf16) : Vec F S256x4608 .fp8e4m3 :=
  View.canon [⟨r0_0, k0_pay31 (k0_pay1 (View.ld x0 r0_0)) (k0_pay33 x0) (k0_pay34 x0) (k0_pay35 x0)⟩]

/-- Its stores tile the buffer (checked by evaluation), so they cover it. -/
theorem cover0_1 (p0 : Vec F S256x4608 .fp8e4m3) (y : S256x4608.Idx) :
    ∃ pc ∈ ([⟨r0_0, p0⟩] : List (View.Piece (Elt F) S256x4608 .fp8e4m3)), y ∈ pc.1.set :=
  View.cover_of_tiled [⟨r0_0, p0⟩] S256x4608.size (by rfl) y

/-- Window 2's staging buffer after the body, from the input windows' blocks: its 1 store as pieces, LAST
    FIRST (Lib/Pipeline/FrameBody.lean `View.canon`; the payloads are the skeleton's and the values stated above). -/
def out0_2 (x0 : Vec F S256x4608 .bf16) : Vec F S256x1 .f32 :=
  View.canon [⟨r0_1, k0_pay30 (F := F) (k0_pay33 x0) (k0_pay34 x0) (k0_pay35 x0)⟩]

/-- Its stores tile the buffer (checked by evaluation), so they cover it. -/
theorem cover0_2 (p0 : Vec F S256x1 .f32) (y : S256x1.Idx) :
    ∃ pc ∈ ([⟨r0_1, p0⟩] : List (View.Piece (Elt F) S256x1 .f32)), y ∈ pc.1.set :=
  View.cover_of_tiled [⟨r0_1, p0⟩] S256x1.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x4608 .bf16) (harg1 : arg1.IsWhole) (arg2 : Memref sig .tc .vmem S256x4608 .fp8e4m3) (harg2 : arg2.IsWhole) (arg3 : Memref sig .tc .vmem S256x1 .f32) (harg3 : arg3.IsWhole)
    (x0 : Vec F S256x4608 .bf16) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0_quant_x i arg1 harg1 arg2 harg2 arg3 harg3) K := by
  simp only [cc0_quant_x_eq_skeleton]; unfold cc0_quant_x_skel
  simp only [k0_part4_eq_skeleton, k0_part1_eq_skeleton, k0_part2_eq_skeleton, k0_part3_eq_skeleton]
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    refine (View.read_writes_eq_canon _ _ _ (cover0_1 _)).trans ?_
    rfl
  iexists _; isplitr
  swap; · iexact H2
  ipureintro
  refine (View.read_writes_eq_canon _ _ _ (cover0_2 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Gen

end
-- ==== Proof.KernelIdeal.Blocks.lean ====
/- The second kernel call's body cut into its five guarded blocks. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- At the first column tile of a row block: the row scales, spread over the lanes, into their scratch. -/
noncomputable def block1 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  let v0 : BitVec 1 := Scalar.cmpi .eq arg1 0#32
  let v1 : BitVec 32 := Scalar.extui v0
  let v2 : BitVec 1 := Scalar.cmpi .ne v1 0#32
  if k1_h1 : v2 = 1#1 then do
    let v19 : Vec F S512x1 .f32 ← Prog.lift (.load arg3 (Rect.unit (s := S512x1) ![0, 0] S512x1.size inb_S512x1_S512x1_0_0).toLoadRect (View.loadsAt_vmem h_S512x1))
    let v23 : Vec F S512x128 .f32 ← Prog.lift (.load arg11 (Rect.unit (s := S512x128) ![0, 0] S512x128.size inb_S512x128_S512x128_0_0).toLoadRect (View.loadsAt_vmem h_S512x128))
    Prog.lift (.store arg11 (Rect.unit (s := S512x128) ![0, 0] S512x128.size inb_S512x128_S512x128_0_0) (k1_pay1 v19) Finset.univ (View.stores_vmem_bits_univ h_S512x128 rfl) (.inl rfl))
    pure ⟨⟩
  else do
    pure ⟨⟩

/-- At the first row block: the four column chunks of `h` into the scratch, and the running maximum of their magnitudes. -/
noncomputable def block2 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h2 : k1_cond2 i = 1#1 then do
    let ⟨v20, v21, v29, v50, v52, v55⟩ : Σ' (v20 : FVec F S512x4608 .fp8e4m3) (v21 : Vec F S512x128 .f32) (v29 : FVec F S512x256 .f32) (v50 : FVec F S512x128 .f32) (v52 : FVec F S512x128 .f32), FVec F S512x128 .f32 ← k1_part1 i arg2 harg2 arg3 harg3 arg4 harg4 arg5 harg5 arg6 harg6 arg7 harg7 arg8 harg8 arg9 harg9 arg10 harg10 arg11 harg11 arg12 harg12 arg13 harg13 arg1 k1_h2
    let ⟨v75, v96, v97⟩ : Σ' (v75 : FVec F S512x256 .f32) (v96 : FVec F S512x128 .f32), FVec F S512x128 .f32 ← k1_part2 i arg2 harg2 arg3 harg3 arg4 harg4 arg5 harg5 arg6 harg6 arg7 harg7 arg8 harg8 arg9 harg9 arg10 harg10 arg11 harg11 arg12 harg12 arg13 harg13 arg1 k1_h2 v20 v21 v29 v50 v52 v55
    let v99 : Vec F S1x128 .f32 ← Prog.lift (.load arg6 (Rect.unit (s := S1x512) ![0, 384] S1x128.size inb_S1x512_S1x128_0_384).toLoadRect (View.loadsAt_vmem h_S1x128))
    let v105 : Vec F S1x128 .f32 ← Prog.lift (.load arg7 (Rect.unit (s := S1x512) ![0, 384] S1x128.size inb_S1x512_S1x128_0_384).toLoadRect (View.loadsAt_vmem h_S1x128))
    let v113 : Vec F S1x512x128 .f32 ← Prog.lift (.load arg10 (Rect.unit (s := S36x512x512) (k1_off4 i) S1x512x128.size (k1_off4_inb i k1_h2)).toLoadRect (View.loadsAt_vmem h_S1x512x128))
    Prog.lift (.store arg10 (Rect.unit (s := S36x512x512) (k1_off4 i) S1x512x128.size (k1_off4_inb i k1_h2)) (k1_pay3 v21 v75 v97 v99 v105) Finset.univ (View.stores_vmem_bits_univ h_S1x512x128 rfl) (.inl rfl))
    let v118 : Vec F S512x128 .f32 ← Prog.lift (.load arg12 (Rect.unit (s := S512x128) ![0, 0] S512x128.size inb_S512x128_S512x128_0_0).toLoadRect (View.loadsAt_vmem h_S512x128))
    Prog.lift (.store arg12 (Rect.unit (s := S512x128) ![0, 0] S512x128.size inb_S512x128_S512x128_0_0) (k1_pay4 v21 v75 v96 v97 v99 v105) Finset.univ (View.stores_vmem_bits_univ h_S512x128 rfl) (.inl rfl))
    pure ⟨⟩
  else do
    pure ⟨⟩

/-- At an inner row block: the codes of the previous row block for this column tile, then this row block's `h` and maximum. -/
noncomputable def block3 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h3 : k1_cond3 i = 1#1 then do
    let v53 : FVec F S512x128 .f32 ← k1_part3 i arg2 harg2 arg3 harg3 arg4 harg4 arg5 harg5 arg6 harg6 arg7 harg7 arg8 harg8 arg9 harg9 arg10 harg10 arg11 harg11 arg12 harg12 arg13 harg13 arg1 k1_h3
    let ⟨v61, v62, v66, v68, v70, v85⟩ : Σ' (v61 : FVec F S512x4608 .fp8e4m3) (v62 : Vec F S512x128 .f32) (v66 : FVec F S512x128 .f32) (v68 : FVec F S512x256 .f32) (v70 : FVec F S512x256 .f32), FVec F S512x128 .f32 ← k1_part4 i arg2 harg2 arg3 harg3 arg4 harg4 arg5 harg5 arg6 harg6 arg7 harg7 arg8 harg8 arg9 harg9 arg10 harg10 arg11 harg11 arg12 harg12 arg13 harg13 arg1 k1_h3 v53
    let ⟨v112, v114, v116, v128, v130⟩ : Σ' (v112 : FVec F S512x128 .f32) (v114 : FVec F S512x256 .f32) (v116 : FVec F S512x256 .f32) (v128 : FVec F S512x128 .f32), FVec F S512x128 .f32 ← k1_part5 i arg2 harg2 arg3 harg3 arg4 harg4 arg5 harg5 arg6 harg6 arg7 harg7 arg8 harg8 arg9 harg9 arg10 harg10 arg11 harg11 arg12 harg12 arg13 harg13 arg1 k1_h3 v61 v62 v66 v68 v70 v85
    let v133 : Vec F S1x512x128 .f32 ← Prog.lift (.load arg10 (Rect.unit (s := S36x512x512) (k1_off7 i) S1x512x128.size (k1_off7_inb i k1_h3)).toLoadRect (View.loadsAt_vmem h_S1x512x128))
    Prog.lift (.store arg10 (Rect.unit (s := S36x512x512) (k1_off7 i) S1x512x128.size (k1_off7_inb i k1_h3)) (k1_pay6 v128 v130) Finset.univ (View.stores_vmem_bits_univ h_S1x512x128 rfl) (.inl rfl))
    let v140 : Vec F S1x128 .f32 ← Prog.lift (.load arg6 (Rect.unit (s := S1x512) ![0, 384] S1x128.size inb_S1x512_S1x128_0_384).toLoadRect (View.loadsAt_vmem h_S1x128))
    let v146 : Vec F S1x128 .f32 ← Prog.lift (.load arg7 (Rect.unit (s := S1x512) ![0, 384] S1x128.size inb_S1x512_S1x128_0_384).toLoadRect (View.loadsAt_vmem h_S1x128))
    let v154 : Vec F S1x512x128 .f32 ← Prog.lift (.load arg10 (Rect.unit (s := S36x512x512) (k1_off8 i) S1x512x128.size (k1_off8_inb i k1_h3)).toLoadRect (View.loadsAt_vmem h_S1x512x128))
    Prog.lift (.store arg10 (Rect.unit (s := S36x512x512) (k1_off8 i) S1x512x128.size (k1_off8_inb i k1_h3)) (k1_pay8 v62 v114 v116 v140 v146) Finset.univ (View.stores_vmem_bits_univ h_S1x512x128 rfl) (.inl rfl))
    let v159 : Vec F S512x128 .f32 ← Prog.lift (.load arg12 (Rect.unit (s := S512x128) ![0, 0] S512x128.size inb_S512x128_S512x128_0_0).toLoadRect (View.loadsAt_vmem h_S512x128))
    Prog.lift (.store arg12 (Rect.unit (s := S512x128) ![0, 0] S512x128.size inb_S512x128_S512x128_0_0) (k1_pay9 v62 v112 v114 v116 v128 v130 v140 v146) Finset.univ (View.stores_vmem_bits_univ h_S512x128 rfl) (.inl rfl))
    pure ⟨⟩
  else do
    pure ⟨⟩

/-- Past the last row block: the codes of the last row block for this column tile. -/
noncomputable def block4 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h4 : k1_cond4 i = 1#1 then do
    let v53 : FVec F S512x128 .f32 ← k1_part6 i arg2 harg2 arg3 harg3 arg4 harg4 arg5 harg5 arg6 harg6 arg7 harg7 arg8 harg8 arg9 harg9 arg10 harg10 arg11 harg11 arg12 harg12 arg13 harg13 arg1 k1_h4
    let v59 : Vec F S512x128 .fp8e4m3 ← Prog.lift (.load arg8 (Rect.unit (s := S512x512) ![0, 384] S512x128.size inb_S512x512_S512x128_0_384).toLoadRect (View.loadsAt_vmem h_S512x128))
    Prog.lift (.store arg8 (Rect.unit (s := S512x512) ![0, 384] S512x128.size inb_S512x512_S512x128_0_384) (k1_pay10 v53) Finset.univ (View.stores_vmem h_S512x128 (harg8.storeExact_slice rfl _ packedfp8e4m3_S512x512_S512x128_0_384) (fun _ => rfl)) (.inl rfl))
    pure ⟨⟩
  else do
    pure ⟨⟩

/-- At the last column tile of a row block: the row block's scales, and their inverses into the scratch. -/
noncomputable def block5 (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    Prog (TpuEff nD τ sig (Elt F) Λ₀ .tc) PUnit := do
  let arg1 : BitVec 32 := BitVec.ofNat 32 (i 1).val
  if k1_h5 : k1_cond5 i = 1#1 then do
    let ⟨v21, v23, v53, v56, v58, v59⟩ : Σ' (v21 : FVec F S512x1 .f32) (v23 : FVec F S512x1 .f32) (v53 : FVec F S512x1 .f32) (v56 : IVec S512x1 32) (v58 : IVec S512x1 1), FVec F S512x1 .f32 ← k1_part7 i arg2 harg2 arg3 harg3 arg4 harg4 arg5 harg5 arg6 harg6 arg7 harg7 arg8 harg8 arg9 harg9 arg10 harg10 arg11 harg11 arg12 harg12 arg13 harg13
    let ⟨v96, v98, v101, v103⟩ : Σ' (v96 : IVec S512x1 32) (v98 : IVec S512x1 1) (v101 : FVec F S512x1 .f32), IVec S512x1 32 ← k1_part8 i arg2 harg2 arg3 harg3 arg4 harg4 arg5 harg5 arg6 harg6 arg7 harg7 arg8 harg8 arg9 harg9 arg10 harg10 arg11 harg11 arg12 harg12 arg13 harg13 v53 v56 v58 v59
    let ⟨v144, v146⟩ : Σ' (v144 : IVec S512x1 32), IVec S512x1 32 ← k1_part9 i arg2 harg2 arg3 harg3 arg4 harg4 arg5 harg5 arg6 harg6 arg7 harg7 arg8 harg8 arg9 harg9 arg10 harg10 arg11 harg11 arg12 harg12 arg13 harg13 v21 v23 v96 v98 v101 v103
    let v175 : Vec F S512x1 .f32 ← Prog.lift (.load arg9 (Rect.unit (s := S512x1) ![0, 0] S512x1.size inb_S512x1_S512x1_0_0).toLoadRect (View.loadsAt_vmem h_S512x1))
    Prog.lift (.store arg9 (Rect.unit (s := S512x1) ![0, 0] S512x1.size inb_S512x1_S512x1_0_0) (k1_pay11 (F := F) v144 v146) Finset.univ (View.stores_vmem_bits_univ h_S512x1 rfl) (.inl rfl))
    let v178 : Vec F S512x128 .f32 ← Prog.lift (.load arg13 (Rect.unit (s := S512x128) ![0, 0] S512x128.size inb_S512x128_S512x128_0_0).toLoadRect (View.loadsAt_vmem h_S512x128))
    Prog.lift (.store arg13 (Rect.unit (s := S512x128) ![0, 0] S512x128.size inb_S512x128_S512x128_0_0) (k1_pay12 (F := F) v144) Finset.univ (View.stores_vmem_bits_univ h_S512x128 rfl) (.inl rfl))
    pure ⟨⟩
  else do
    pure ⟨⟩

/-- A conditional whose continuation is bound outside it is the conditional of the continued branches. -/
theorem dite_bind_prog {α β : Type} {p : Prop} [Decidable p] (A : p → Prog (TpuEff nD τ sig (Elt F) Λ₀ .tc) α)
    (B : ¬ p → Prog (TpuEff nD τ sig (Elt F) Λ₀ .tc) α) (k : α → Prog (TpuEff nD τ sig (Elt F) Λ₀ .tc) β) :
    (dite p A B >>= k) = dite p (fun h => A h >>= k) (fun h => B h >>= k) := by
  split <;> rfl

/-- The body is its five blocks in order. -/
theorem body_eq_blocks (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) :
    cc1_gate_up_swiglu_quant_skel (F := F) i arg2 harg2 arg3 harg3 arg4 harg4 arg5 harg5 arg6 harg6 arg7 harg7 arg8 harg8 arg9 harg9 arg10 harg10 arg11 harg11 arg12 harg12 arg13 harg13 = (do
      block1 i arg2 harg2 arg3 harg3 arg4 harg4 arg5 harg5 arg6 harg6 arg7 harg7 arg8 harg8 arg9 harg9 arg10 harg10 arg11 harg11 arg12 harg12 arg13 harg13
      block2 i arg2 harg2 arg3 harg3 arg4 harg4 arg5 harg5 arg6 harg6 arg7 harg7 arg8 harg8 arg9 harg9 arg10 harg10 arg11 harg11 arg12 harg12 arg13 harg13
      block3 i arg2 harg2 arg3 harg3 arg4 harg4 arg5 harg5 arg6 harg6 arg7 harg7 arg8 harg8 arg9 harg9 arg10 harg10 arg11 harg11 arg12 harg12 arg13 harg13
      block4 i arg2 harg2 arg3 harg3 arg4 harg4 arg5 harg5 arg6 harg6 arg7 harg7 arg8 harg8 arg9 harg9 arg10 harg10 arg11 harg11 arg12 harg12 arg13 harg13
      block5 i arg2 harg2 arg3 harg3 arg4 harg4 arg5 harg5 arg6 harg6 arg7 harg7 arg8 harg8 arg9 harg9 arg10 harg10 arg11 harg11 arg12 harg12 arg13 harg13
      pure ⟨⟩) := by
  unfold cc1_gate_up_swiglu_quant_skel block1 block2 block3 block4 block5
  simp only [dite_bind_prog]
  rfl

end Cert.KernelIdeal.Gen

end
-- ==== Proof.KernelIdeal.Triples.lean ====
/- The triples of the second kernel call's five blocks: what each leaves in the buffers it stores into. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Blocks
public import Idealize.ShloMosaic.Lib.Pipeline.Value
public import Idealize.ShloMosaic.Lib.WritesUnit
public import Idealize.ShloMosaic.Lib.ValueIdxCore

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! ## The four column chunks of a column tile of `h`, held in the scratch -/

/-- Chunk `q` (128 columns) of tile `j` of the `h` scratch. -/
def hget (j : Fin 36) (q : Fin 4) (X : Vec F S36x512x512 .f32) : Vec F S1x512x128 .f32 :=
  fun x => X (ix3 j (x 1) ⟨128 * q.val + (x 2).val, by have h : (x 2).val < 128 := (x 2).isLt; omega⟩)

/-- The `h` scratch with tile `j` replaced by the four chunks `P`. -/
def hput (j : Fin 36) (P : Fin 4 → Vec F S1x512x128 .f32) (X : Vec F S36x512x512 .f32) : Vec F S36x512x512 .f32 :=
  fun y => if (y 0).val = j.val then
    P ⟨(y 2).val / 128, by have h : (y 2).val < 512 := (y 2).isLt; omega⟩
      (ix3 0 (y 1) ⟨(y 2).val % 128, Nat.mod_lt _ (by decide)⟩)
  else X y

theorem hget_hput_same (j : Fin 36) (P : Fin 4 → Vec F S1x512x128 .f32) (X : Vec F S36x512x512 .f32) (q : Fin 4) :
    hget j q (hput j P X) = P q := by
  funext x
  have h2 : (x 2).val < 128 := (x 2).isLt
  have h0 : (x 0) = (0 : Fin 1) := Subsingleton.elim (α := Fin 1) _ _
  unfold hget hput
  rw [if_pos rfl]
  have hq : (⟨(128 * q.val + (x 2).val) / 128, by omega⟩ : Fin 4) = q := Fin.ext (by show (128 * q.val + (x 2).val) / 128 = q.val; omega)
  have hx : (ix3 0 (x 1) ⟨(128 * q.val + (x 2).val) % 128, Nat.mod_lt _ (by decide)⟩ : S1x512x128.Idx) = x := by
    funext a
    match a with
    | ⟨0, _⟩ => exact h0.symm
    | ⟨1, _⟩ => rfl
    | ⟨2, _⟩ => exact Fin.ext (by show (128 * q.val + (x 2).val) % 128 = (x 2).val; omega)
  exact (congrFun (congrArg P hq) _).trans (congrArg (P q) hx)

theorem hget_hput_ne {j j' : Fin 36} (h : j' ≠ j) (P : Fin 4 → Vec F S1x512x128 .f32) (X : Vec F S36x512x512 .f32) (q : Fin 4) :
    hget j' q (hput j P X) = hget j' q X := by
  funext x
  unfold hget hput
  rw [if_neg (show ¬ j'.val = j.val from fun e => h (Fin.ext e))]

/-- A load of the scratch at tile `j`, column `128 q`. -/
theorem ld_eq_hget (X : Vec F S36x512x512 .f32) {off : Fin 3 → ℕ} (j : Fin 36) (q : Fin 4) (inb : ∀ a, off a + S1x512x128.size a ≤ S36x512x512.size a)
    (hoff : off = ![j.val, 0, 128 * q.val]) : View.ld X (Rect.unit (s := S36x512x512) off S1x512x128.size inb) = hget j q X := by
  subst hoff
  funext x
  unfold hget
  refine congrArg X (funext fun a => ?_)
  match a with
  | ⟨0, _⟩ =>
    refine Fin.ext ?_
    have h0 : (x 0).val = 0 := by have : (x 0).val < 1 := (x 0).isLt; omega
    show j.val + 1 * (x 0).val = j.val
    omega
  | ⟨1, _⟩ => exact Fin.ext (by show 0 + 1 * (x 1).val = (x 1).val; omega)
  | ⟨2, _⟩ => exact Fin.ext (by show 128 * q.val + 1 * (x 2).val = 128 * q.val + (x 2).val; omega)

/-- Four stores, one chunk each, replace the tile. -/
theorem read_writes_hput {sp : Space} (v : View sig .tc sp S36x512x512 .f32) (f : v.ty.Contents (Elt F)) (j : Fin 36)
    (P : Fin 4 → Vec F S1x512x128 .f32) {o0 o1 o2 o3 : Fin 3 → ℕ}
    (b0 : ∀ a, o0 a + S1x512x128.size a ≤ S36x512x512.size a) (b1 : ∀ a, o1 a + S1x512x128.size a ≤ S36x512x512.size a)
    (b2 : ∀ a, o2 a + S1x512x128.size a ≤ S36x512x512.size a) (b3 : ∀ a, o3 a + S1x512x128.size a ≤ S36x512x512.size a)
    (h0 : o0 = ![j.val, 0, 0]) (h1 : o1 = ![j.val, 0, 128]) (h2 : o2 = ![j.val, 0, 256]) (h3 : o3 = ![j.val, 0, 384]) :
    v.read (Elt F) (v.writes (Elt F) f
      [⟨Rect.unit (s := S36x512x512) o3 S1x512x128.size b3, P 3⟩, ⟨Rect.unit (s := S36x512x512) o2 S1x512x128.size b2, P 2⟩,
        ⟨Rect.unit (s := S36x512x512) o1 S1x512x128.size b1, P 1⟩, ⟨Rect.unit (s := S36x512x512) o0 S1x512x128.size b0, P 0⟩])
      = hput j P (v.read (Elt F) f) := by
  funext y
  have hy1 : (y 1).val < 512 := (y 1).isLt
  have hy2 : (y 2).val < 512 := (y 2).isLt
  have e : ∀ (q : Fin 4) (x : S1x512x128.Idx) (k : ℕ), (y 2).val / 128 = q.val → (x 1).val = (y 1).val →
      (x 2).val = (y 2).val - k → k = 128 * q.val → y 0 = j → P q x = hput j P (v.read (Elt F) f) y := by
    intro q x k hq h1 h2 hk hj
    unfold hput
    rw [if_pos (congrArg Fin.val hj)]
    have hq' : (⟨(y 2).val / 128, by omega⟩ : Fin 4) = q := Fin.ext hq
    have hx : (ix3 0 (y 1) ⟨(y 2).val % 128, Nat.mod_lt _ (by decide)⟩ : S1x512x128.Idx) = x := by
      funext a
      match a with
      | ⟨0, _⟩ => exact Subsingleton.elim (α := Fin 1) _ _
      | ⟨1, _⟩ => exact Fin.ext h1.symm
      | ⟨2, _⟩ => exact Fin.ext (by show (y 2).val % 128 = (x 2).val; omega)
    exact ((congrFun (congrArg P hq') _).trans (congrArg (P q) hx)).symm
  rw [View.read_writes_cons_unit v f b3 (P 3) _ y h3, View.read_writes_cons_unit v f b2 (P 2) _ y h2,
    View.read_writes_cons_unit v f b1 (P 1) _ y h1, View.read_writes_cons_unit v f b0 (P 0) _ y h0, View.writes_nil]
  have key : ∀ (k : ℕ), (∀ a : Fin 3, (![j.val, 0, k] : Fin 3 → ℕ) a ≤ (y a).val ∧ (y a).val < (![j.val, 0, k] : Fin 3 → ℕ) a + S1x512x128.size a)
      ↔ y 0 = j ∧ k ≤ (y 2).val ∧ (y 2).val < k + 128 := by
    intro k
    constructor
    · intro h
      have ha := h 0; have hc := h 2
      refine ⟨Fin.ext ?_, hc.1, hc.2⟩
      have h1 : j.val ≤ (y 0).val := ha.1
      have h2 : (y 0).val < j.val + 1 := ha.2
      omega
    · rintro ⟨rfl, hk, hk'⟩ a
      match a with
      | ⟨0, _⟩ => exact ⟨le_refl _, Nat.lt_succ_self _⟩
      | ⟨1, _⟩ => exact ⟨Nat.zero_le _, by show (y 1).val < 0 + 512; omega⟩
      | ⟨2, _⟩ => exact ⟨hk, hk'⟩
  by_cases hj : y 0 = j
  · split
    · rename_i h; have h' := (key 384).mp h
      exact e 3 _ 384 (by show (y 2).val / 128 = 3; omega) (by rw [Rect.unitLocal_val]; rfl) (by rw [Rect.unitLocal_val]; rfl) rfl hj
    split
    · rename_i h; have h' := (key 256).mp h
      exact e 2 _ 256 (by show (y 2).val / 128 = 2; omega) (by rw [Rect.unitLocal_val]; rfl) (by rw [Rect.unitLocal_val]; rfl) rfl hj
    split
    · rename_i h; have h' := (key 128).mp h
      exact e 1 _ 128 (by show (y 2).val / 128 = 1; omega) (by rw [Rect.unitLocal_val]; rfl) (by rw [Rect.unitLocal_val]; rfl) rfl hj
    split
    · rename_i h; have h' := (key 0).mp h
      exact e 0 _ 0 (by show (y 2).val / 128 = 0; omega) (by rw [Rect.unitLocal_val]; rfl) (by rw [Rect.unitLocal_val]; rfl) rfl hj
    rename_i g3 g2 g1 g0
    rw [key] at g3 g2 g1 g0
    exfalso
    have hd : (y 2).val < 128 ∨ (128 ≤ (y 2).val ∧ (y 2).val < 256) ∨ (256 ≤ (y 2).val ∧ (y 2).val < 384) ∨ 384 ≤ (y 2).val := by omega
    rcases hd with h | h | h | h
    · exact g0 ⟨hj, Nat.zero_le _, by omega⟩
    · exact g1 ⟨hj, h.1, by omega⟩
    · exact g2 ⟨hj, h.1, by omega⟩
    · exact g3 ⟨hj, h, by omega⟩
  · rw [dif_neg (fun h => hj ((key 384).mp h).1), dif_neg (fun h => hj ((key 256).mp h).1), dif_neg (fun h => hj ((key 128).mp h).1),
      dif_neg (fun h => hj ((key 0).mp h).1)]
    unfold hput
    rw [if_neg (fun e => hj (Fin.ext e))]

/-! ## The offsets in closed form -/

theorem toNat_coord (n : Fin 36) : (Scalar.indexCast (BitVec.ofNat 32 n.val)).toNat = n.val := by
  revert n; decide
theorem off1_eq (i : grid1.Coords) : k1_off1 i = ![(i 1).val, 0, 0] := by
  unfold k1_off1; simp only [toNat_coord (i 1)]; try rfl
theorem off2_eq (i : grid1.Coords) : k1_off2 i = ![(i 1).val, 0, 128] := by
  unfold k1_off2; simp only [toNat_coord (i 1)]; try rfl
theorem off3_eq (i : grid1.Coords) : k1_off3 i = ![(i 1).val, 0, 256] := by
  unfold k1_off3; simp only [toNat_coord (i 1)]; try rfl
theorem off4_eq (i : grid1.Coords) : k1_off4 i = ![(i 1).val, 0, 384] := by
  unfold k1_off4; simp only [toNat_coord (i 1)]; try rfl
theorem off5_eq (i : grid1.Coords) : k1_off5 i = ![(i 1).val, 0, 0] := by
  unfold k1_off5; simp only [toNat_coord (i 1)]; try rfl
theorem off6_eq (i : grid1.Coords) : k1_off6 i = ![(i 1).val, 0, 128] := by
  unfold k1_off6; simp only [toNat_coord (i 1)]; try rfl
theorem off7_eq (i : grid1.Coords) : k1_off7 i = ![(i 1).val, 0, 256] := by
  unfold k1_off7; simp only [toNat_coord (i 1)]; try rfl
theorem off8_eq (i : grid1.Coords) : k1_off8 i = ![(i 1).val, 0, 384] := by
  unfold k1_off8; simp only [toNat_coord (i 1)]; try rfl
theorem off9_eq (i : grid1.Coords) : k1_off9 i = ![(i 1).val, 0, 0] := by
  unfold k1_off9; simp only [toNat_coord (i 1)]; try rfl
theorem off10_eq (i : grid1.Coords) : k1_off10 i = ![(i 1).val, 0, 128] := by
  unfold k1_off10; simp only [toNat_coord (i 1)]; try rfl
theorem off11_eq (i : grid1.Coords) : k1_off11 i = ![(i 1).val, 0, 256] := by
  unfold k1_off11; simp only [toNat_coord (i 1)]; try rfl
theorem off12_eq (i : grid1.Coords) : k1_off12 i = ![(i 1).val, 0, 384] := by
  unfold k1_off12; simp only [toNat_coord (i 1)]; try rfl

/-! ## What one grid point computes, from its blocks and the scratches -/

abbrev rX : Rect S512x4608 := Rect.unit (s := S512x4608) ![0, 0] S512x4608.size inb_S512x4608_S512x4608_0_0
abbrev rT : Rect S512x128 := Rect.unit (s := S512x128) ![0, 0] S512x128.size inb_S512x128_S512x128_0_0
abbrev rR : Rect S512x1 := Rect.unit (s := S512x1) ![0, 0] S512x1.size inb_S512x1_S512x1_0_0
abbrev rW0 : Rect S4608x512 := Rect.unit (s := S4608x512) ![0, 0] S4608x256.size inb_S4608x512_S4608x256_0_0
abbrev rW1 : Rect S4608x512 := Rect.unit (s := S4608x512) ![0, 256] S4608x256.size inb_S4608x512_S4608x256_0_256
abbrev rS0 : Rect S1x512 := Rect.unit (s := S1x512) ![0, 0] S1x128.size inb_S1x512_S1x128_0_0
abbrev rS1 : Rect S1x512 := Rect.unit (s := S1x512) ![0, 128] S1x128.size inb_S1x512_S1x128_0_128
abbrev rS2 : Rect S1x512 := Rect.unit (s := S1x512) ![0, 256] S1x128.size inb_S1x512_S1x128_0_256
abbrev rS3 : Rect S1x512 := Rect.unit (s := S1x512) ![0, 384] S1x128.size inb_S1x512_S1x128_0_384
abbrev rC0 : Rect S512x512 := Rect.unit (s := S512x512) ![0, 0] S512x128.size inb_S512x512_S512x128_0_0
abbrev rC1 : Rect S512x512 := Rect.unit (s := S512x512) ![0, 128] S512x128.size inb_S512x512_S512x128_0_128
abbrev rC2 : Rect S512x512 := Rect.unit (s := S512x512) ![0, 256] S512x128.size inb_S512x512_S512x128_0_256
abbrev rC3 : Rect S512x512 := Rect.unit (s := S512x512) ![0, 384] S512x128.size inb_S512x512_S512x128_0_384

/-- The four chunks of `h` of one column tile, from the row block's codes `x0`, the weights' and their scales' column
    tiles (gate `x2`, `x4`; up `x3`, `x5`), and the spread row scales `s11`. -/
def hval (x0 : Vec F S512x4608 .fp8e4m3) (x2 x3 : Vec F S4608x512 .fp8e4m3) (x4 x5 : Vec F S1x512 .f32) (s11 : Vec F S512x128 .f32) :
    Fin 4 → Vec F S1x512x128 .f32
  | ⟨0, _⟩ => k1_pay39 (k1_pay38 (View.ld x0 rX) (View.ld s11 rT) (View.ld x2 rW0) (View.ld x3 rW0) (View.ld x4 rS0) (View.ld x5 rS0))
  | ⟨1, _⟩ => k1_pay41 (View.ld s11 rT) (k1_pay36 (View.ld x0 rX) (View.ld x2 rW0)) (k1_pay37 (View.ld x0 rX) (View.ld x3 rW0)) (View.ld x4 rS1) (View.ld x5 rS1)
  | ⟨2, _⟩ => k1_pay6 (k1_pay45 (k1_pay34 (View.ld x0 rX)) (View.ld s11 rT) (View.ld x3 rW1) (View.ld x5 rS2))
      (k1_pay46 (k1_pay34 (View.ld x0 rX)) (View.ld s11 rT) (View.ld x2 rW1) (View.ld x4 rS2))
  | ⟨3, _⟩ => k1_pay8 (View.ld s11 rT) (k1_pay43 (k1_pay34 (View.ld x0 rX)) (View.ld x2 rW1)) (k1_pay44 (k1_pay34 (View.ld x0 rX)) (View.ld x3 rW1)) (View.ld x4 rS3) (View.ld x5 rS3)

/-- The running maximum of the magnitudes of `h` after the column tile, from the maximum `s12` before it (started from zero
    at the first column tile, `j`). -/
def amax (j : BitVec 32) (x0 : Vec F S512x4608 .fp8e4m3) (x2 x3 : Vec F S4608x512 .fp8e4m3) (x4 x5 : Vec F S1x512 .f32) (s11 s12 : Vec F S512x128 .f32) :
    Vec F S512x128 .f32 :=
  k1_pay9 (View.ld s11 rT)
    (k1_pay42 (View.ld s11 rT) (k1_pay35 j (View.ld s12 rT)) (k1_pay36 (View.ld x0 rX) (View.ld x2 rW0)) (k1_pay37 (View.ld x0 rX) (View.ld x3 rW0))
      (k1_pay38 (View.ld x0 rX) (View.ld s11 rT) (View.ld x2 rW0) (View.ld x3 rW0) (View.ld x4 rS0) (View.ld x5 rS0)) (View.ld x4 rS1) (View.ld x5 rS1))
    (k1_pay43 (k1_pay34 (View.ld x0 rX)) (View.ld x2 rW1)) (k1_pay44 (k1_pay34 (View.ld x0 rX)) (View.ld x3 rW1))
    (k1_pay45 (k1_pay34 (View.ld x0 rX)) (View.ld s11 rT) (View.ld x3 rW1) (View.ld x5 rS2))
    (k1_pay46 (k1_pay34 (View.ld x0 rX)) (View.ld s11 rT) (View.ld x2 rW1) (View.ld x4 rS2)) (View.ld x4 rS3) (View.ld x5 rS3)

/-- The codes of a column tile, from the spread inverse scales `s13` and the tile's four chunks of `h`. -/
def codes (s13 : Vec F S512x128 .f32) (H : Fin 4 → Vec F S1x512x128 .f32) : Vec F S512x512 .fp8e4m3 :=
  View.canon [⟨rC3, k1_pay33 (k1_pay32 (View.ld s13 rT) (H 3))⟩, ⟨rC2, k1_pay31 (View.ld s13 rT) (H 2)⟩,
    ⟨rC1, k1_pay30 (View.ld s13 rT) (H 1)⟩, ⟨rC0, k1_pay29 (View.ld s13 rT) (H 0)⟩]

theorem codes_of (s13 : Vec F S512x128 .f32) (H : Fin 4 → Vec F S1x512x128 .f32) (p0 p1 p2 p3 : Vec F S1x512x128 .f32)
    (h0 : p0 = H 0) (h1 : p1 = H 1) (h2 : p2 = H 2) (h3 : p3 = H 3) :
    View.canon [⟨rC3, k1_pay33 (k1_pay32 (View.ld s13 rT) p3)⟩, ⟨rC2, k1_pay31 (View.ld s13 rT) p2⟩,
      ⟨rC1, k1_pay30 (View.ld s13 rT) p1⟩, ⟨rC0, k1_pay29 (View.ld s13 rT) p0⟩] = codes s13 H := by
  subst h0 h1 h2 h3; rfl

theorem cover_codes (p3 p2 p1 p0 : Vec F S512x128 .fp8e4m3) (y : S512x512.Idx) :
    ∃ pc ∈ ([⟨rC3, p3⟩, ⟨rC2, p2⟩, ⟨rC1, p1⟩, ⟨rC0, p0⟩] : List (View.Piece (Elt F) S512x512 .fp8e4m3)), y ∈ pc.1.set :=
  View.cover_of_tiled [⟨rC3, p3⟩, ⟨rC2, p2⟩, ⟨rC1, p1⟩, ⟨rC0, p0⟩] S512x128.size (by rfl) y

/-- The exponents read off the final running maximum, and the branch value the scale takes on a row of zeros. -/
def expo (s12 : Vec F S512x128 .f32) : IVec S512x1 32 :=
  k1_pay77 (k1_pay51 (View.ld s12 rT)) (k1_pay52 (View.ld s12 rT))
    (k1_pay73 (k1_pay60 (View.ld s12 rT)) (k1_pay61 (View.ld s12 rT)) (k1_pay62 (View.ld s12 rT)) (k1_pay63 (F := F)))
    (k1_pay74 (k1_pay60 (View.ld s12 rT)) (k1_pay62 (View.ld s12 rT)) (k1_pay63 (F := F)))
    (k1_pay75 (k1_pay60 (View.ld s12 rT)) (k1_pay62 (View.ld s12 rT)) (k1_pay63 (F := F)))
    (k1_pay76 (k1_pay60 (View.ld s12 rT)) (k1_pay61 (View.ld s12 rT)) (k1_pay62 (View.ld s12 rT)) (k1_pay63 (F := F)))
def expoHalf (s12 : Vec F S512x128 .f32) : IVec S512x1 32 :=
  k1_pay78 (k1_pay51 (View.ld s12 rT)) (k1_pay52 (View.ld s12 rT))
    (k1_pay73 (k1_pay60 (View.ld s12 rT)) (k1_pay61 (View.ld s12 rT)) (k1_pay62 (View.ld s12 rT)) (k1_pay63 (F := F)))
    (k1_pay74 (k1_pay60 (View.ld s12 rT)) (k1_pay62 (View.ld s12 rT)) (k1_pay63 (F := F)))
    (k1_pay75 (k1_pay60 (View.ld s12 rT)) (k1_pay62 (View.ld s12 rT)) (k1_pay63 (F := F)))
    (k1_pay76 (k1_pay60 (View.ld s12 rT)) (k1_pay61 (View.ld s12 rT)) (k1_pay62 (View.ld s12 rT)) (k1_pay63 (F := F)))

/-- The row scales of `h`, from the final running maximum. -/
def hscale (s12 : Vec F S512x128 .f32) : Vec F S512x1 .f32 := k1_pay11 (F := F) (expo s12) (expoHalf s12)
/-- Their inverses, spread over the lanes. -/
def hinv (s12 : Vec F S512x128 .f32) : Vec F S512x128 .f32 := k1_pay12 (F := F) (expo s12)

theorem zeros2 : (![0, 0] : Fin 2 → ℕ) = fun _ => 0 := by funext a; match a with | ⟨0, _⟩ => rfl | ⟨1, _⟩ => rfl

/-- One store over the whole buffer leaves its payload. -/
theorem read_writes_T {sp : Space} (v : View sig .tc sp S512x128 .f32) (f : v.ty.Contents (Elt F)) (p : Vec F S512x128 .f32) :
    v.read (Elt F) (v.writes (Elt F) f [⟨rT, p⟩]) = p := by
  have hcov : ∀ y : S512x128.Idx, ∃ pc ∈ ([⟨rT, p⟩] : List (View.Piece (Elt F) S512x128 .f32)), y ∈ pc.1.set :=
    fun y => ⟨_, List.mem_singleton_self _, View.mem_set_unit_zero (S := S512x128) zeros2 inb_S512x128_S512x128_0_0 y⟩
  rw [View.read_writes_eq_canon v f _ hcov, View.canon_unit_zero (S := S512x128) zeros2 inb_S512x128_S512x128_0_0 p]
theorem read_writes_R {sp : Space} (v : View sig .tc sp S512x1 .f32) (f : v.ty.Contents (Elt F)) (p : Vec F S512x1 .f32) :
    v.read (Elt F) (v.writes (Elt F) f [⟨rR, p⟩]) = p := by
  have hcov : ∀ y : S512x1.Idx, ∃ pc ∈ ([⟨rR, p⟩] : List (View.Piece (Elt F) S512x1 .f32)), y ∈ pc.1.set :=
    fun y => ⟨_, List.mem_singleton_self _, View.mem_set_unit_zero (S := S512x1) zeros2 inb_S512x1_S512x1_0_0 y⟩
  rw [View.read_writes_eq_canon v f _ hcov, View.canon_unit_zero (S := S512x1) zeros2 inb_S512x1_S512x1_0_0 p]

/-! ## The blocks' triples -/

set_option maxHeartbeats 1000000 in
/-- The row scales are spread over the lanes. -/
theorem block1_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : (i 1).val = 0)
    (x1 : Vec F S512x1 .f32) (K : PUnit → sProp 𝕄) :
    iprop(owns (c : Thread nD τ) arg3 fullShare x1 ∗ (∃ d, owns (c : Thread nD τ) arg11 fullShare d)
        ∗ (iprop(owns (c : Thread nD τ) arg3 fullShare x1 ∗ owns (c : Thread nD τ) arg11 fullShare (k1_pay1 (View.ld x1 rR))) -∗ K ⟨⟩))
      ⊢ wp frame (wpE (defs₀ (F := F)) Variants.none c none) E (block1 (F := F) i arg2 harg2 arg3 harg3 arg4 harg4 arg5 harg5 arg6 harg6 arg7 harg7 arg8 harg8 arg9 harg9 arg10 harg10 arg11 harg11 arg12 harg12 arg13 harg13) K := by
  have hc : Scalar.cmpi .ne (Scalar.extui (Scalar.cmpi .eq (BitVec.ofNat 32 (i 1).val) 0#32) : BitVec 32) 0#32 = 1#1 := by
    rw [h]; decide
  unfold block1
  unfold owns
  iintro ⟨⟨%f3, %hf3, H3⟩, ⟨%d11, %f11, -, H11⟩, Hk⟩
  subst hf3
  sl_exec
  sl_step
  iapply Hk
  isplitl [H3]
  · iexists f3; isplitr; · ipureintro; rfl
    iexact H3
  iexists _; isplitr
  swap; · iexact H11
  ipureintro
  exact read_writes_T _ _ _

set_option maxHeartbeats 1000000 in
/-- The first row block: `h` of the column tile into the scratch, the running maximum over it. -/
theorem block2_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond2 i = 1#1)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare s10 ∗ owns (c : Thread nD τ) arg11 fullShare s11 ∗ owns (c : Thread nD τ) arg12 fullShare s12
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (hput (i 1) (hval x0 x2 x3 x4 x5 s11) s10) ∗ owns (c : Thread nD τ) arg11 fullShare s11 ∗ owns (c : Thread nD τ) arg12 fullShare (amax (BitVec.ofNat 32 (i 1).val) x0 x2 x3 x4 x5 s11 s12)) -∗ K ⟨⟩))
      ⊢ wp frame (wpE (defs₀ (F := F)) Variants.none c none) E (block2 (F := F) i arg2 harg2 arg3 harg3 arg4 harg4 arg5 harg5 arg6 harg6 arg7 harg7 arg8 harg8 arg9 harg9 arg10 harg10 arg11 harg11 arg12 harg12 arg13 harg13) K := by
  unfold block2
  simp only [k1_part1_eq_skeleton, k1_part2_eq_skeleton]
  unfold owns
  iintro ⟨⟨%f2, %hf2, H2⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
  subst hf2 hf4 hf5 hf6 hf7 hf10 hf11 hf12
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H10]
  · iexists _; isplitr
    swap; · iexact H10
    ipureintro
    exact read_writes_hput arg10.view f10 (i 1) (hval (arg2.view.read (Elt F) f2) (arg4.view.read (Elt F) f4) (arg5.view.read (Elt F) f5) (arg6.view.read (Elt F) f6) (arg7.view.read (Elt F) f7) (arg11.view.read (Elt F) f11)) _ _ _ _ (off1_eq i) (off2_eq i) (off3_eq i) (off4_eq i)
  isplitl [H11]
  · iexists f11; isplitr; · ipureintro; rfl
    iexact H11
  iexists _; isplitr
  swap; · iexact H12
  ipureintro
  exact read_writes_T _ _ _

set_option maxHeartbeats 1000000 in
/-- An inner row block: the previous row block's codes for the column tile, then its own `h` and running maximum. -/
theorem block3_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond3 i = 1#1)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (codes s13 fun q => hget (i 1) q s10) ∗ owns (c : Thread nD τ) arg10 fullShare (hput (i 1) (hval x0 x2 x3 x4 x5 s11) s10) ∗ owns (c : Thread nD τ) arg11 fullShare s11 ∗ owns (c : Thread nD τ) arg12 fullShare (amax (BitVec.ofNat 32 (i 1).val) x0 x2 x3 x4 x5 s11 s12) ∗ owns (c : Thread nD τ) arg13 fullShare s13) -∗ K ⟨⟩))
      ⊢ wp frame (wpE (defs₀ (F := F)) Variants.none c none) E (block3 (F := F) i arg2 harg2 arg3 harg3 arg4 harg4 arg5 harg5 arg6 harg6 arg7 harg7 arg8 harg8 arg9 harg9 arg10 harg10 arg11 harg11 arg12 harg12 arg13 harg13) K := by
  unfold block3
  simp only [k1_part3_eq_skeleton, k1_part4_eq_skeleton, k1_part5_eq_skeleton]
  unfold owns
  iintro ⟨⟨%f2, %hf2, H2⟩, ⟨%f4, %hf4, H4⟩, ⟨%f5, %hf5, H5⟩, ⟨%f6, %hf6, H6⟩, ⟨%f7, %hf7, H7⟩, ⟨%d8, %f8, -, H8⟩, ⟨%f10, %hf10, H10⟩, ⟨%f11, %hf11, H11⟩, ⟨%f12, %hf12, H12⟩, ⟨%f13, %hf13, H13⟩, Hk⟩
  subst hf2 hf4 hf5 hf6 hf7 hf10 hf11 hf12 hf13
  sl_exec
  sl_step
  iapply Hk
  isplitl [H2]
  · iexists f2; isplitr; · ipureintro; rfl
    iexact H2
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover_codes _ _ _ _)).trans ?_
    exact codes_of _ _ _ _ _ _ (ld_eq_hget (arg10.view.read (Elt F) f10) (i 1) 0 _ (off5_eq i)) (ld_eq_hget (arg10.view.read (Elt F) f10) (i 1) 1 _ (off6_eq i))
      (ld_eq_hget (arg10.view.read (Elt F) f10) (i 1) 2 _ (off7_eq i)) (ld_eq_hget (arg10.view.read (Elt F) f10) (i 1) 3 _ (off8_eq i))
  isplitl [H10]
  · iexists _; isplitr
    swap; · iexact H10
    ipureintro
    exact read_writes_hput arg10.view f10 (i 1) (hval (arg2.view.read (Elt F) f2) (arg4.view.read (Elt F) f4) (arg5.view.read (Elt F) f5) (arg6.view.read (Elt F) f6) (arg7.view.read (Elt F) f7) (arg11.view.read (Elt F) f11)) _ _ _ _ (off5_eq i) (off6_eq i) (off7_eq i) (off8_eq i)
  isplitl [H11]
  · iexists f11; isplitr; · ipureintro; rfl
    iexact H11
  isplitl [H12]
  · iexists _; isplitr
    swap; · iexact H12
    ipureintro
    exact read_writes_T _ _ _
  iexists f13; isplitr; · ipureintro; rfl
  iexact H13

set_option maxHeartbeats 1000000 in
/-- Past the last row block: its codes for the column tile. -/
theorem block4_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond4 i = 1#1)
    (s10 : Vec F S36x512x512 .f32) (s13 : Vec F S512x128 .f32) (K : PUnit → sProp 𝕄) :
    iprop((∃ d, owns (c : Thread nD τ) arg8 fullShare d) ∗ owns (c : Thread nD τ) arg10 fullShare s10 ∗ owns (c : Thread nD τ) arg13 fullShare s13
        ∗ (iprop(owns (c : Thread nD τ) arg8 fullShare (codes s13 fun q => hget (i 1) q s10) ∗ owns (c : Thread nD τ) arg10 fullShare s10 ∗ owns (c : Thread nD τ) arg13 fullShare s13) -∗ K ⟨⟩))
      ⊢ wp frame (wpE (defs₀ (F := F)) Variants.none c none) E (block4 (F := F) i arg2 harg2 arg3 harg3 arg4 harg4 arg5 harg5 arg6 harg6 arg7 harg7 arg8 harg8 arg9 harg9 arg10 harg10 arg11 harg11 arg12 harg12 arg13 harg13) K := by
  unfold block4
  simp only [k1_part6_eq_skeleton]
  unfold owns
  iintro ⟨⟨%d8, %f8, -, H8⟩, ⟨%f10, %hf10, H10⟩, ⟨%f13, %hf13, H13⟩, Hk⟩
  subst hf10 hf13
  sl_exec
  sl_step
  iapply Hk
  isplitl [H8]
  · iexists _; isplitr
    swap; · iexact H8
    ipureintro
    refine (View.read_writes_eq_canon _ _ _ (cover_codes _ _ _ _)).trans ?_
    exact codes_of _ _ _ _ _ _ (ld_eq_hget (arg10.view.read (Elt F) f10) (i 1) 0 _ (off9_eq i)) (ld_eq_hget (arg10.view.read (Elt F) f10) (i 1) 1 _ (off10_eq i))
      (ld_eq_hget (arg10.view.read (Elt F) f10) (i 1) 2 _ (off11_eq i)) (ld_eq_hget (arg10.view.read (Elt F) f10) (i 1) 3 _ (off12_eq i))
  isplitl [H10]
  · iexists f10; isplitr; · ipureintro; rfl
    iexact H10
  iexists f13; isplitr; · ipureintro; rfl
  iexact H13

set_option maxHeartbeats 1000000 in
/-- The last column tile: the row block's scales and their inverses. -/
theorem block5_pos (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : k1_cond5 i = 1#1)
    (s12 : Vec F S512x128 .f32) (K : PUnit → sProp 𝕄) :
    iprop((∃ d, owns (c : Thread nD τ) arg9 fullShare d) ∗ owns (c : Thread nD τ) arg12 fullShare s12 ∗ (∃ d, owns (c : Thread nD τ) arg13 fullShare d)
        ∗ (iprop(owns (c : Thread nD τ) arg9 fullShare (hscale s12) ∗ owns (c : Thread nD τ) arg12 fullShare s12 ∗ owns (c : Thread nD τ) arg13 fullShare (hinv s12)) -∗ K ⟨⟩))
      ⊢ wp frame (wpE (defs₀ (F := F)) Variants.none c none) E (block5 (F := F) i arg2 harg2 arg3 harg3 arg4 harg4 arg5 harg5 arg6 harg6 arg7 harg7 arg8 harg8 arg9 harg9 arg10 harg10 arg11 harg11 arg12 harg12 arg13 harg13) K := by
  unfold block5
  simp only [k1_part7_eq_skeleton, k1_part8_eq_skeleton, k1_part9_eq_skeleton]
  unfold owns
  iintro ⟨⟨%d9, %f9, -, H9⟩, ⟨%f12, %hf12, H12⟩, ⟨%d13, %f13, -, H13⟩, Hk⟩
  subst hf12
  sl_exec
  sl_step
  iapply Hk
  isplitl [H9]
  · iexists _; isplitr
    swap; · iexact H9
    ipureintro
    exact read_writes_R _ _ _
  isplitl [H12]
  · iexists f12; isplitr; · ipureintro; rfl
    iexact H12
  iexists _; isplitr
  swap; · iexact H13
  ipureintro
  exact read_writes_T _ _ _

/-! ## A block whose guard is off does nothing -/

theorem block1_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ (i 1).val = 0) :
    block1 (F := F) i arg2 harg2 arg3 harg3 arg4 harg4 arg5 harg5 arg6 harg6 arg7 harg7 arg8 harg8 arg9 harg9 arg10 harg10 arg11 harg11 arg12 harg12 arg13 harg13 = pure ⟨⟩ := by
  unfold block1
  have hc : ¬ Scalar.cmpi .ne (Scalar.extui (Scalar.cmpi .eq (BitVec.ofNat 32 (i 1).val) 0#32) : BitVec 32) 0#32 = 1#1 := by
    revert h; generalize (i 1) = a; revert a; decide
  exact dif_neg hc

theorem block2_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond2 i = 1#1) :
    block2 (F := F) i arg2 harg2 arg3 harg3 arg4 harg4 arg5 harg5 arg6 harg6 arg7 harg7 arg8 harg8 arg9 harg9 arg10 harg10 arg11 harg11 arg12 harg12 arg13 harg13 = pure ⟨⟩ := by
  unfold block2
  exact dif_neg h

theorem block3_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond3 i = 1#1) :
    block3 (F := F) i arg2 harg2 arg3 harg3 arg4 harg4 arg5 harg5 arg6 harg6 arg7 harg7 arg8 harg8 arg9 harg9 arg10 harg10 arg11 harg11 arg12 harg12 arg13 harg13 = pure ⟨⟩ := by
  unfold block3
  exact dif_neg h

theorem block4_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond4 i = 1#1) :
    block4 (F := F) i arg2 harg2 arg3 harg3 arg4 harg4 arg5 harg5 arg6 harg6 arg7 harg7 arg8 harg8 arg9 harg9 arg10 harg10 arg11 harg11 arg12 harg12 arg13 harg13 = pure ⟨⟩ := by
  unfold block4
  exact dif_neg h

theorem block5_neg (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole) (h : ¬ k1_cond5 i = 1#1) :
    block5 (F := F) i arg2 harg2 arg3 harg3 arg4 harg4 arg5 harg5 arg6 harg6 arg7 harg7 arg8 harg8 arg9 harg9 arg10 harg10 arg11 harg11 arg12 harg12 arg13 harg13 = pure ⟨⟩ := by
  unfold block5
  exact dif_neg h

end Cert.KernelIdeal.Gen

end
-- ==== Proof.KernelIdeal.Steps.lean ====
/- One grid point of the second kernel call: its five blocks composed. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Triples

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The five blocks one after another: what one grid point does to the buffers, whichever guards hold -/

/-- The first block. -/
theorem block1_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x1 : Vec F S512x1 .f32) (s11 : Vec F S512x128 .f32) (K : PUnit → sProp 𝕄) :
    iprop(owns (c : Thread nD τ) arg3 fullShare x1 ∗ owns (c : Thread nD τ) arg11 fullShare s11
        ∗ (iprop(owns (c : Thread nD τ) arg3 fullShare x1 ∗ owns (c : Thread nD τ) arg11 fullShare (if (i 1).val = 0 then k1_pay1 (View.ld x1 rR) else s11)) -∗ K ⟨⟩))
      ⊢ wp frame (wpE (defs₀ (F := F)) Variants.none c none) E (block1 (F := F) i arg2 harg2 arg3 harg3 arg4 harg4 arg5 harg5 arg6 harg6 arg7 harg7 arg8 harg8 arg9 harg9 arg10 harg10 arg11 harg11 arg12 harg12 arg13 harg13) K := by
  by_cases h : (i 1).val = 0
  · simp only [if_pos h]
    iintro ⟨H3, H11, Hk⟩
    iapply (block1_pos c E i arg2 harg2 arg3 harg3 arg4 harg4 arg5 harg5 arg6 harg6 arg7 harg7 arg8 harg8 arg9 harg9 arg10 harg10 arg11 harg11 arg12 harg12 arg13 harg13 h x1 K)
    isplitl [H3]; · iexact H3
    isplitl [H11]; · iexists _; iexact H11
    iexact Hk
  · simp only [if_neg h]
    rw [block1_neg i arg2 harg2 arg3 harg3 arg4 harg4 arg5 harg5 arg6 harg6 arg7 harg7 arg8 harg8 arg9 harg9 arg10 harg10 arg11 harg11 arg12 harg12 arg13 harg13 h]
    iintro ⟨H3, H11, Hk⟩
    sl_step
    iapply Hk
    isplitl [H3]; · iexact H3
    iexact H11

/-- The second block. -/
theorem block2_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x2 : Vec F S4608x512 .fp8e4m3) (x3 : Vec F S4608x512 .fp8e4m3) (x4 : Vec F S1x512 .f32) (x5 : Vec F S1x512 .f32) (s10 : Vec F S36x512x512 .f32) (s11 : Vec F S512x128 .f32) (s12 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare s10 ∗ owns (c : Thread nD τ) arg11 fullShare s11 ∗ owns (c : Thread nD τ) arg12 fullShare s12
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg10 fullShare (if k1_cond2 i = 1#1 then hput (i 1) (hval x0 x2 x3 x4 x5 s11) s10 else s10) ∗ owns (c : Thread nD τ) arg11 fullShare s11 ∗ owns (c : Thread nD τ) arg12 fullShare (if k1_cond2 i = 1#1 then amax (BitVec.ofNat 32 (i 1).val) x0 x2 x3 x4 x5 s11 s12 else s12)) -∗ K ⟨⟩))
      ⊢ wp frame (wpE (defs₀ (F := F)) Variants.none c none) E (block2 (F := F) i arg2 harg2 arg3 harg3 arg4 harg4 arg5 harg5 arg6 harg6 arg7 harg7 arg8 harg8 arg9 harg9 arg10 harg10 arg11 harg11 arg12 harg12 arg13 harg13) K := by
  by_cases h : k1_cond2 i = 1#1
  · simp only [if_pos h]
    iintro ⟨H2, H4, H5, H6, H7, H10, H11, H12, Hk⟩
    iapply (block2_pos c E i arg2 harg2 arg3 harg3 arg4 harg4 arg5 harg5 arg6 harg6 arg7 harg7 arg8 harg8 arg9 harg9 arg10 harg10 arg11 harg11 arg12 harg12 arg13 harg13 h x0 x2 x3 x4 x5 s10 s11 s12 K)
    isplitl [H2]; · iexact H2
    isplitl [H4]; · iexact H4
    isplitl [H5]; · iexact H5
    isplitl [H6]; · iexact H6
    isplitl [H7]; · iexact H7
    isplitl [H10]; · iexact H10
    isplitl [H11]; · iexact H11
    isplitl [H12]; · iexact H12
    iexact Hk
  · simp only [if_neg h]
    rw [block2_neg i arg2 harg2 arg3 harg3 arg4 harg4 arg5 harg5 arg6 harg6 arg7 harg7 arg8 harg8 arg9 harg9 arg10 harg10 arg11 harg11 arg12 harg12 arg13 harg13 h]
    iintro ⟨H2, H4, H5, H6, H7, H10, H11, H12, Hk⟩
    sl_step
    iapply Hk
    isplitl [H2]; · iexact H2
    isplitl [H4]; · iexact H4
    isplitl [H5]; · iexact H5
    isplitl [H6]; · iexact H6
    isplitl [H7]; · iexact H7
    isplitl [H10]; · iexact H10
    isplitl [H11]; · iexact H11
    iexact H12

/-- The third block. -/
theorem block3_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x2 : Vec F S4608x512 .fp8e4m3) (x3 : Vec F S4608x512 .fp8e4m3) (x4 : Vec F S1x512 .f32) (x5 : Vec F S1x512 .f32) (x6 : Vec F S512x512 .fp8e4m3) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (if k1_cond3 i = 1#1 then codes s13 fun q => hget (i 1) q s10 else x6) ∗ owns (c : Thread nD τ) arg10 fullShare (if k1_cond3 i = 1#1 then hput (i 1) (hval x0 x2 x3 x4 x5 s11) s10 else s10) ∗ owns (c : Thread nD τ) arg11 fullShare s11 ∗ owns (c : Thread nD τ) arg12 fullShare (if k1_cond3 i = 1#1 then amax (BitVec.ofNat 32 (i 1).val) x0 x2 x3 x4 x5 s11 s12 else s12) ∗ owns (c : Thread nD τ) arg13 fullShare s13) -∗ K ⟨⟩))
      ⊢ wp frame (wpE (defs₀ (F := F)) Variants.none c none) E (block3 (F := F) i arg2 harg2 arg3 harg3 arg4 harg4 arg5 harg5 arg6 harg6 arg7 harg7 arg8 harg8 arg9 harg9 arg10 harg10 arg11 harg11 arg12 harg12 arg13 harg13) K := by
  by_cases h : k1_cond3 i = 1#1
  · simp only [if_pos h]
    iintro ⟨H2, H4, H5, H6, H7, H8, H10, H11, H12, H13, Hk⟩
    iapply (block3_pos c E i arg2 harg2 arg3 harg3 arg4 harg4 arg5 harg5 arg6 harg6 arg7 harg7 arg8 harg8 arg9 harg9 arg10 harg10 arg11 harg11 arg12 harg12 arg13 harg13 h x0 x2 x3 x4 x5 s10 s11 s12 s13 K)
    isplitl [H2]; · iexact H2
    isplitl [H4]; · iexact H4
    isplitl [H5]; · iexact H5
    isplitl [H6]; · iexact H6
    isplitl [H7]; · iexact H7
    isplitl [H8]; · iexists _; iexact H8
    isplitl [H10]; · iexact H10
    isplitl [H11]; · iexact H11
    isplitl [H12]; · iexact H12
    isplitl [H13]; · iexact H13
    iexact Hk
  · simp only [if_neg h]
    rw [block3_neg i arg2 harg2 arg3 harg3 arg4 harg4 arg5 harg5 arg6 harg6 arg7 harg7 arg8 harg8 arg9 harg9 arg10 harg10 arg11 harg11 arg12 harg12 arg13 harg13 h]
    iintro ⟨H2, H4, H5, H6, H7, H8, H10, H11, H12, H13, Hk⟩
    sl_step
    iapply Hk
    isplitl [H2]; · iexact H2
    isplitl [H4]; · iexact H4
    isplitl [H5]; · iexact H5
    isplitl [H6]; · iexact H6
    isplitl [H7]; · iexact H7
    isplitl [H8]; · iexact H8
    isplitl [H10]; · iexact H10
    isplitl [H11]; · iexact H11
    isplitl [H12]; · iexact H12
    iexact H13

/-- The fourth block. -/
theorem block4_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x6 : Vec F S512x512 .fp8e4m3) (s10 : Vec F S36x512x512 .f32) (s13 : Vec F S512x128 .f32) (K : PUnit → sProp 𝕄) :
    iprop(owns (c : Thread nD τ) arg8 fullShare x6 ∗ owns (c : Thread nD τ) arg10 fullShare s10 ∗ owns (c : Thread nD τ) arg13 fullShare s13
        ∗ (iprop(owns (c : Thread nD τ) arg8 fullShare (if k1_cond4 i = 1#1 then codes s13 fun q => hget (i 1) q s10 else x6) ∗ owns (c : Thread nD τ) arg10 fullShare s10 ∗ owns (c : Thread nD τ) arg13 fullShare s13) -∗ K ⟨⟩))
      ⊢ wp frame (wpE (defs₀ (F := F)) Variants.none c none) E (block4 (F := F) i arg2 harg2 arg3 harg3 arg4 harg4 arg5 harg5 arg6 harg6 arg7 harg7 arg8 harg8 arg9 harg9 arg10 harg10 arg11 harg11 arg12 harg12 arg13 harg13) K := by
  by_cases h : k1_cond4 i = 1#1
  · simp only [if_pos h]
    iintro ⟨H8, H10, H13, Hk⟩
    iapply (block4_pos c E i arg2 harg2 arg3 harg3 arg4 harg4 arg5 harg5 arg6 harg6 arg7 harg7 arg8 harg8 arg9 harg9 arg10 harg10 arg11 harg11 arg12 harg12 arg13 harg13 h s10 s13 K)
    isplitl [H8]; · iexists _; iexact H8
    isplitl [H10]; · iexact H10
    isplitl [H13]; · iexact H13
    iexact Hk
  · simp only [if_neg h]
    rw [block4_neg i arg2 harg2 arg3 harg3 arg4 harg4 arg5 harg5 arg6 harg6 arg7 harg7 arg8 harg8 arg9 harg9 arg10 harg10 arg11 harg11 arg12 harg12 arg13 harg13 h]
    iintro ⟨H8, H10, H13, Hk⟩
    sl_step
    iapply Hk
    isplitl [H8]; · iexact H8
    isplitl [H10]; · iexact H10
    iexact H13

/-- The fifth block. -/
theorem block5_step (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x7 : Vec F S512x1 .f32) (s12 : Vec F S512x128 .f32) (s13 : Vec F S512x128 .f32) (K : PUnit → sProp 𝕄) :
    iprop(owns (c : Thread nD τ) arg9 fullShare x7 ∗ owns (c : Thread nD τ) arg12 fullShare s12 ∗ owns (c : Thread nD τ) arg13 fullShare s13
        ∗ (iprop(owns (c : Thread nD τ) arg9 fullShare (if k1_cond5 i = 1#1 then hscale s12 else x7) ∗ owns (c : Thread nD τ) arg12 fullShare s12 ∗ owns (c : Thread nD τ) arg13 fullShare (if k1_cond5 i = 1#1 then hinv s12 else s13)) -∗ K ⟨⟩))
      ⊢ wp frame (wpE (defs₀ (F := F)) Variants.none c none) E (block5 (F := F) i arg2 harg2 arg3 harg3 arg4 harg4 arg5 harg5 arg6 harg6 arg7 harg7 arg8 harg8 arg9 harg9 arg10 harg10 arg11 harg11 arg12 harg12 arg13 harg13) K := by
  by_cases h : k1_cond5 i = 1#1
  · simp only [if_pos h]
    iintro ⟨H9, H12, H13, Hk⟩
    iapply (block5_pos c E i arg2 harg2 arg3 harg3 arg4 harg4 arg5 harg5 arg6 harg6 arg7 harg7 arg8 harg8 arg9 harg9 arg10 harg10 arg11 harg11 arg12 harg12 arg13 harg13 h s12 K)
    isplitl [H9]; · iexists _; iexact H9
    isplitl [H12]; · iexact H12
    isplitl [H13]; · iexists _; iexact H13
    iexact Hk
  · simp only [if_neg h]
    rw [block5_neg i arg2 harg2 arg3 harg3 arg4 harg4 arg5 harg5 arg6 harg6 arg7 harg7 arg8 harg8 arg9 harg9 arg10 harg10 arg11 harg11 arg12 harg12 arg13 harg13 h]
    iintro ⟨H9, H12, H13, Hk⟩
    sl_step
    iapply Hk
    isplitl [H9]; · iexact H9
    isplitl [H12]; · iexact H12
    iexact H13

/-! ## The buffers after a grid point, from the buffers before it -/

/-- The spread row scales after the point. -/
def n11 (i : grid1.Coords) (x1 : Vec F S512x1 .f32) (s11 : Vec F S512x128 .f32) : Vec F S512x128 .f32 :=
  if (i 1).val = 0 then k1_pay1 (View.ld x1 rR) else s11
/-- The `h` scratch after the point. -/
def n10 (i : grid1.Coords) (x0 : Vec F S512x4608 .fp8e4m3) (x1 : Vec F S512x1 .f32) (x2 x3 : Vec F S4608x512 .fp8e4m3) (x4 x5 : Vec F S1x512 .f32)
    (s10 : Vec F S36x512x512 .f32) (s11 : Vec F S512x128 .f32) : Vec F S36x512x512 .f32 :=
  if k1_cond3 i = 1#1 then hput (i 1) (hval x0 x2 x3 x4 x5 (n11 i x1 s11)) (if k1_cond2 i = 1#1 then hput (i 1) (hval x0 x2 x3 x4 x5 (n11 i x1 s11)) s10 else s10)
  else if k1_cond2 i = 1#1 then hput (i 1) (hval x0 x2 x3 x4 x5 (n11 i x1 s11)) s10 else s10
/-- The running maximum after the point. -/
def n12 (i : grid1.Coords) (x0 : Vec F S512x4608 .fp8e4m3) (x1 : Vec F S512x1 .f32) (x2 x3 : Vec F S4608x512 .fp8e4m3) (x4 x5 : Vec F S1x512 .f32)
    (s11 s12 : Vec F S512x128 .f32) : Vec F S512x128 .f32 :=
  if k1_cond3 i = 1#1 then amax (BitVec.ofNat 32 (i 1).val) x0 x2 x3 x4 x5 (n11 i x1 s11)
    (if k1_cond2 i = 1#1 then amax (BitVec.ofNat 32 (i 1).val) x0 x2 x3 x4 x5 (n11 i x1 s11) s12 else s12)
  else if k1_cond2 i = 1#1 then amax (BitVec.ofNat 32 (i 1).val) x0 x2 x3 x4 x5 (n11 i x1 s11) s12 else s12
/-- The codes' block after the point. -/
def n8 (i : grid1.Coords) (x0 : Vec F S512x4608 .fp8e4m3) (x1 : Vec F S512x1 .f32) (x2 x3 : Vec F S4608x512 .fp8e4m3) (x4 x5 : Vec F S1x512 .f32)
    (x6 : Vec F S512x512 .fp8e4m3) (s10 : Vec F S36x512x512 .f32) (s11 s13 : Vec F S512x128 .f32) : Vec F S512x512 .fp8e4m3 :=
  if k1_cond4 i = 1#1 then codes s13 fun q => hget (i 1) q (n10 i x0 x1 x2 x3 x4 x5 s10 s11)
  else if k1_cond3 i = 1#1 then codes s13 fun q => hget (i 1) q (if k1_cond2 i = 1#1 then hput (i 1) (hval x0 x2 x3 x4 x5 (n11 i x1 s11)) s10 else s10)
  else x6

set_option maxHeartbeats 1000000 in
/-- The whole body, on any memrefs. -/
theorem sound_kernel1 (c : Dev nD) (E : Set ℕ) (i : grid1.Coords) (arg2 : Memref sig .tc .vmem S512x4608 .fp8e4m3) (harg2 : arg2.IsWhole) (arg3 : Memref sig .tc .vmem S512x1 .f32) (harg3 : arg3.IsWhole) (arg4 : Memref sig .tc .vmem S4608x512 .fp8e4m3) (harg4 : arg4.IsWhole) (arg5 : Memref sig .tc .vmem S4608x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x512 .fp8e4m3) (harg8 : arg8.IsWhole) (arg9 : Memref sig .tc .vmem S512x1 .f32) (harg9 : arg9.IsWhole) (arg10 : Memref sig .tc .vmem S36x512x512 .f32) (harg10 : arg10.IsWhole) (arg11 : Memref sig .tc .vmem S512x128 .f32) (harg11 : arg11.IsWhole) (arg12 : Memref sig .tc .vmem S512x128 .f32) (harg12 : arg12.IsWhole) (arg13 : Memref sig .tc .vmem S512x128 .f32) (harg13 : arg13.IsWhole)
    (x0 : Vec F S512x4608 .fp8e4m3) (x1 : Vec F S512x1 .f32) (x2 : Vec F S4608x512 .fp8e4m3) (x3 : Vec F S4608x512 .fp8e4m3) (x4 : Vec F S1x512 .f32) (x5 : Vec F S1x512 .f32) (x6 : Vec F S512x512 .fp8e4m3) (x7 : Vec F S512x1 .f32) (s10 : Vec F S36x512x512 .f32) (s11 : Vec F S512x128 .f32) (s12 : Vec F S512x128 .f32) (s13 : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare s10 ∗ owns (c : Thread nD τ) arg11 fullShare s11 ∗ owns (c : Thread nD τ) arg12 fullShare s12 ∗ owns (c : Thread nD τ) arg13 fullShare s13
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (n8 i x0 x1 x2 x3 x4 x5 x6 s10 s11 s13) ∗ owns (c : Thread nD τ) arg9 fullShare (if k1_cond5 i = 1#1 then hscale (n12 i x0 x1 x2 x3 x4 x5 s11 s12) else x7) ∗ owns (c : Thread nD τ) arg10 fullShare (n10 i x0 x1 x2 x3 x4 x5 s10 s11) ∗ owns (c : Thread nD τ) arg11 fullShare (n11 i x1 s11) ∗ owns (c : Thread nD τ) arg12 fullShare (n12 i x0 x1 x2 x3 x4 x5 s11 s12) ∗ owns (c : Thread nD τ) arg13 fullShare (if k1_cond5 i = 1#1 then hinv (n12 i x0 x1 x2 x3 x4 x5 s11 s12) else s13)) -∗ K ⟨⟩))
      ⊢ wp frame (wpE (defs₀ (F := F)) Variants.none c none) E (cc1_gate_up_swiglu_quant (F := F) i arg2 harg2 arg3 harg3 arg4 harg4 arg5 harg5 arg6 harg6 arg7 harg7 arg8 harg8 arg9 harg9 arg10 harg10 arg11 harg11 arg12 harg12 arg13 harg13) K := by
  rw [cc1_gate_up_swiglu_quant_eq_skeleton, body_eq_blocks]
  simp only [wp_bind]
  iintro ⟨H2, H3, H4, H5, H6, H7, H8, H9, H10, H11, H12, H13, Hk⟩
  iapply (block1_step c E i arg2 harg2 arg3 harg3 arg4 harg4 arg5 harg5 arg6 harg6 arg7 harg7 arg8 harg8 arg9 harg9 arg10 harg10 arg11 harg11 arg12 harg12 arg13 harg13 x1 s11 _)
  isplitl [H3]; · iexact H3
  isplitl [H11]; · iexact H11
  iintro ⟨H3, H11⟩
  iapply (block2_step c E i arg2 harg2 arg3 harg3 arg4 harg4 arg5 harg5 arg6 harg6 arg7 harg7 arg8 harg8 arg9 harg9 arg10 harg10 arg11 harg11 arg12 harg12 arg13 harg13 x0 x2 x3 x4 x5 s10 _ s12 _)
  isplitl [H2]; · iexact H2
  isplitl [H4]; · iexact H4
  isplitl [H5]; · iexact H5
  isplitl [H6]; · iexact H6
  isplitl [H7]; · iexact H7
  isplitl [H10]; · iexact H10
  isplitl [H11]; · iexact H11
  isplitl [H12]; · iexact H12
  iintro ⟨H2, H4, H5, H6, H7, H10, H11, H12⟩
  iapply (block3_step c E i arg2 harg2 arg3 harg3 arg4 harg4 arg5 harg5 arg6 harg6 arg7 harg7 arg8 harg8 arg9 harg9 arg10 harg10 arg11 harg11 arg12 harg12 arg13 harg13 x0 x2 x3 x4 x5 x6 _ _ _ s13 _)
  isplitl [H2]; · iexact H2
  isplitl [H4]; · iexact H4
  isplitl [H5]; · iexact H5
  isplitl [H6]; · iexact H6
  isplitl [H7]; · iexact H7
  isplitl [H8]; · iexact H8
  isplitl [H10]; · iexact H10
  isplitl [H11]; · iexact H11
  isplitl [H12]; · iexact H12
  isplitl [H13]; · iexact H13
  iintro ⟨H2, H4, H5, H6, H7, H8, H10, H11, H12, H13⟩
  iapply (block4_step c E i arg2 harg2 arg3 harg3 arg4 harg4 arg5 harg5 arg6 harg6 arg7 harg7 arg8 harg8 arg9 harg9 arg10 harg10 arg11 harg11 arg12 harg12 arg13 harg13 _ _ s13 _)
  isplitl [H8]; · iexact H8
  isplitl [H10]; · iexact H10
  isplitl [H13]; · iexact H13
  iintro ⟨H8, H10, H13⟩
  iapply (block5_step c E i arg2 harg2 arg3 harg3 arg4 harg4 arg5 harg5 arg6 harg6 arg7 harg7 arg8 harg8 arg9 harg9 arg10 harg10 arg11 harg11 arg12 harg12 arg13 harg13 x7 _ s13 _)
  isplitl [H9]; · iexact H9
  isplitl [H12]; · iexact H12
  isplitl [H13]; · iexact H13
  iintro ⟨H9, H12, H13⟩
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

end Cert.KernelIdeal.Gen

end
-- ==== Proof.KernelIdeal.GateUp.lean ====
/- The second kernel call (gate and up products, SwiGLU, per-token quantisation of `h`), as a pipeline region: what its
   scratches hold between grid points, what it leaves in each output window's buffer, the region's proof data at any
   entry contents `V`, and the body obligation at every grid point. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Steps
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

-- the buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Each window's current staging memref at point `t`, spelled as the pipeline passes it (`bodyAt1`), and its wholeness. -/
abbrev ms1_0 (t : Fin cfg1.N) : Memref sig .tc .vmem S512x4608 .fp8e4m3 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4608x512 .fp8e4m3 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4608x512 .fp8e4m3 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x512 .fp8e4m3 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
/-- The scratch operands: whole scoped buffers of the kernel's own, passed beside the windows. -/
abbrev scM1_0 : Memref sig .tc .vmem S36x512x512 .f32 := Memref.whole cc1_scratch0
abbrev scM1_1 : Memref sig .tc .vmem S512x128 .f32 := Memref.whole cc1_scratch1
abbrev scM1_2 : Memref sig .tc .vmem S512x128 .f32 := Memref.whole cc1_scratch2
abbrev scM1_3 : Memref sig .tc .vmem S512x128 .f32 := Memref.whole cc1_scratch3

/-- The frame kit's invariant with the scratch operands as memrefs owned at some contents (`Gen.scopedRest1_eq`,
    Lib/Memref.lean `owns_whole`): what the body obligation hands the run and takes back. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) ∗ (∃ r, prngReg c r)) := by
  unfold Pipeline.ΦA; rw [scopedRest1_eq]; simp only [scM1_0, scM1_1, scM1_2, scM1_3, owns_whole]; try rfl

/-! ## The grid: 49 row blocks (the last a drain) of 36 column tiles -/

theorem coord_fst : ∀ t : Fin cfg1.N, ((grid1.coords t) 0).val = t.val / 36 := by decide +kernel
theorem coord_snd : ∀ t : Fin cfg1.N, ((grid1.coords t) 1).val = t.val % 36 := by decide +kernel
theorem N1 : cfg1.N = 1764 := by decide +kernel

theorem cond2_iff (i : grid1.Coords) : k1_cond2 i = 1#1 ↔ (i 0).val = 0 := by
  unfold k1_cond2; generalize i 0 = a; revert a; decide +kernel
theorem cond3_iff (i : grid1.Coords) : k1_cond3 i = 1#1 ↔ 0 < (i 0).val ∧ (i 0).val < 48 := by
  unfold k1_cond3; generalize i 0 = a; revert a; decide +kernel
theorem cond4_iff (i : grid1.Coords) : k1_cond4 i = 1#1 ↔ (i 0).val = 48 := by
  unfold k1_cond4; generalize i 0 = a; revert a; decide +kernel
theorem cond5_iff (i : grid1.Coords) : k1_cond5 i = 1#1 ↔ (i 0).val < 48 ∧ (i 1).val = 35 := by
  unfold k1_cond5; generalize i 0 = a; generalize i 1 = b; revert a b; decide +kernel

theorem flush1_6 : ∀ t : Fin cfg1.N, t.val / 36 = 0 → (cfg1.win 6).flush t = false := by decide +kernel
theorem flush1_7 : ∀ t : Fin cfg1.N, (cfg1.win 7).flush t = true → t.val % 36 = 35 ∧ t.val / 36 ≠ 47 := by decide +kernel
theorem fetch1_7 (t : Fin cfg1.N) : (cfg1.win 7).fetch t = false := rfl

/-- The grid point of row block `i` and column tile `j`. -/
def pt (i j : ℕ) : Fin cfg1.N := ⟨(36 * i + j) % 1764, by rw [N1]; exact Nat.mod_lt _ (by decide)⟩
theorem pt_eq (t : Fin cfg1.N) {i j : ℕ} (hi : t.val / 36 = i) (hj : t.val % 36 = j) : pt i j = t := by
  have h : t.val < 1764 := N1 ▸ t.isLt
  refine Fin.ext ?_
  show (36 * i + j) % 1764 = t.val
  omega

/-! ## What the kernel computes, row block by row block -/

/-- The spread row scales of row block `i`. -/
def sp (c : Dev nD) (i : ℕ) : Vec F S512x128 .f32 := k1_pay1 (View.ld (iblk1 V c 1 (pt i 0)) rR)
/-- The four chunks of `h` at row block `i`, column tile `j`. -/
def hh (c : Dev nD) (i j : ℕ) : Fin 4 → Vec F S1x512x128 .f32 :=
  hval (iblk1 V c 0 (pt i j)) (iblk1 V c 2 (pt i j)) (iblk1 V c 3 (pt i j)) (iblk1 V c 4 (pt i j)) (iblk1 V c 5 (pt i j)) (sp V c i)
/-- The running maximum of row block `i` after its first `j` column tiles. -/
def am (c : Dev nD) (i : ℕ) : ℕ → Vec F S512x128 .f32
  | 0 => fun _ => Scalar.ofBits .f32 0x00000000#32
  | j + 1 => amax (BitVec.ofNat 32 j) (iblk1 V c 0 (pt i j)) (iblk1 V c 2 (pt i j)) (iblk1 V c 3 (pt i j)) (iblk1 V c 4 (pt i j)) (iblk1 V c 5 (pt i j)) (sp V c i) (am c i j)
/-- The inverse scales of row block `i`, spread. -/
def iv (c : Dev nD) (i : ℕ) : Vec F S512x128 .f32 := hinv (am V c i 36)
/-- The scales of row block `i`. -/
def sc (c : Dev nD) (i : ℕ) : Vec F S512x1 .f32 := hscale (am V c i 36)
/-- The codes of row block `i`, column tile `j`. -/
def cd (c : Dev nD) (i j : ℕ) : Vec F S512x512 .fp8e4m3 := codes (iv V c i) (hh V c i j)

/-! ## What the scratches hold between the points -/

/-- Before point `n` (row block `n / 36`, column tile `n % 36`): the spread row scales and the running maximum of the row block
    begun; in the `h` scratch the row block's tiles done so far and, behind them, the previous row block's; the previous row
    block's inverse scales. -/
structure Inv (c : Dev nD) (n : ℕ) (s10 : Vec F S36x512x512 .f32) (s11 s12 s13 : Vec F S512x128 .f32) : Prop where
  sp : 0 < n % 36 → s11 = sp V c (n / 36)
  am : 0 < n % 36 → n / 36 < 48 → s12 = am V c (n / 36) (n % 36)
  new : n / 36 < 48 → ∀ (j : Fin 36) (q : Fin 4), j.val < n % 36 → hget j q s10 = hh V c (n / 36) j.val q
  old : 0 < n / 36 → n / 36 ≤ 48 → ∀ (j : Fin 36) (q : Fin 4), (n % 36 ≤ j.val ∨ n / 36 = 48) → hget j q s10 = hh V c (n / 36 - 1) j.val q
  iv : 0 < n / 36 → n / 36 ≤ 48 → s13 = iv V c (n / 36 - 1)

theorem Inv.zero (c : Dev nD) (s10 : Vec F S36x512x512 .f32) (s11 s12 s13 : Vec F S512x128 .f32) : Inv V c 0 s10 s11 s12 s13 := by
  constructor <;> intro h <;> simp at h ⊢

/-- The first column tile's maximum starts from zero whatever the scratch held. -/
theorem amax_zero (x0 : Vec F S512x4608 .fp8e4m3) (x2 x3 : Vec F S4608x512 .fp8e4m3) (x4 x5 : Vec F S1x512 .f32) (s11 s s' : Vec F S512x128 .f32) :
    amax (BitVec.ofNat 32 0) x0 x2 x3 x4 x5 s11 s = amax (BitVec.ofNat 32 0) x0 x2 x3 x4 x5 s11 s' := by
  have e : k1_pay35 (F := F) (BitVec.ofNat 32 0) (View.ld s rT) = k1_pay35 (BitVec.ofNat 32 0) (View.ld s' rT) := by
    unfold k1_pay35; rfl
  unfold amax; rw [e]

section Step
variable {V} {c : Dev nD} {t : Fin cfg1.N} {s10 : Vec F S36x512x512 .f32} {s11 s12 s13 : Vec F S512x128 .f32}

theorem step11 (h : Inv V c t.val s10 s11 s12 s13) : n11 (grid1.coords t) (iblk1 V c 1 t) s11 = sp V c (t.val / 36) := by
  unfold n11
  rw [coord_snd]
  split
  · rename_i h0; unfold sp; rw [pt_eq t rfl h0]; try rfl
  · rename_i h0; exact h.sp (Nat.pos_of_ne_zero h0)

theorem stepH (h : Inv V c t.val s10 s11 s12 s13) :
    hval (iblk1 V c 0 t) (iblk1 V c 2 t) (iblk1 V c 3 t) (iblk1 V c 4 t) (iblk1 V c 5 t) (n11 (grid1.coords t) (iblk1 V c 1 t) s11)
      = hh V c (t.val / 36) (t.val % 36) := by
  rw [step11 h]; unfold hh; rw [pt_eq t rfl rfl]

theorem stepA (h : Inv V c t.val s10 s11 s12 s13) (hi : t.val / 36 < 48) :
    amax (BitVec.ofNat 32 (grid1.coords t 1).val) (iblk1 V c 0 t) (iblk1 V c 2 t) (iblk1 V c 3 t) (iblk1 V c 4 t) (iblk1 V c 5 t) (n11 (grid1.coords t) (iblk1 V c 1 t) s11) s12
      = am V c (t.val / 36) (t.val % 36 + 1) := by
  rw [step11 h, coord_snd]
  show _ = amax (BitVec.ofNat 32 (t.val % 36)) (iblk1 V c 0 (pt (t.val / 36) (t.val % 36))) _ _ _ _ _ (am V c (t.val / 36) (t.val % 36))
  rw [pt_eq t rfl rfl]
  by_cases h0 : t.val % 36 = 0
  · rw [h0]; exact amax_zero _ _ _ _ _ _ _ _
  · rw [h.am (Nat.pos_of_ne_zero h0) hi]

theorem step10 (h : Inv V c t.val s10 s11 s12 s13) (hi : t.val / 36 < 48) :
    n10 (grid1.coords t) (iblk1 V c 0 t) (iblk1 V c 1 t) (iblk1 V c 2 t) (iblk1 V c 3 t) (iblk1 V c 4 t) (iblk1 V c 5 t) s10 s11
      = hput (grid1.coords t 1) (hh V c (t.val / 36) (t.val % 36)) s10 := by
  unfold n10
  simp only [stepH h, cond2_iff, cond3_iff, coord_fst]
  by_cases h0 : t.val / 36 = 0
  · rw [if_neg (by omega), if_pos h0]
  · rw [if_pos ⟨Nat.pos_of_ne_zero h0, hi⟩, if_neg h0]

theorem step10_drain (hi : t.val / 36 = 48) :
    n10 (grid1.coords t) (iblk1 V c 0 t) (iblk1 V c 1 t) (iblk1 V c 2 t) (iblk1 V c 3 t) (iblk1 V c 4 t) (iblk1 V c 5 t) s10 s11 = s10 := by
  unfold n10
  simp only [cond2_iff, cond3_iff, coord_fst]
  rw [if_neg (by omega), if_neg (by omega)]

theorem step12 (h : Inv V c t.val s10 s11 s12 s13) (hi : t.val / 36 < 48) :
    n12 (grid1.coords t) (iblk1 V c 0 t) (iblk1 V c 1 t) (iblk1 V c 2 t) (iblk1 V c 3 t) (iblk1 V c 4 t) (iblk1 V c 5 t) s11 s12
      = am V c (t.val / 36) (t.val % 36 + 1) := by
  unfold n12
  simp only [cond2_iff, cond3_iff, coord_fst]
  by_cases h0 : t.val / 36 = 0
  · rw [if_neg (by omega), if_pos h0]; exact stepA h hi
  · rw [if_pos ⟨Nat.pos_of_ne_zero h0, hi⟩, if_neg h0]; exact stepA h hi

/-- The codes written at a point past the first row block. -/
theorem step8 (h : Inv V c t.val s10 s11 s12 s13) (hi : 0 < t.val / 36) (x6 : Vec F S512x512 .fp8e4m3) :
    n8 (grid1.coords t) (iblk1 V c 0 t) (iblk1 V c 1 t) (iblk1 V c 2 t) (iblk1 V c 3 t) (iblk1 V c 4 t) (iblk1 V c 5 t) x6 s10 s11 s13
      = cd V c (t.val / 36 - 1) (t.val % 36) := by
  have hN : t.val < 1764 := N1 ▸ t.isLt
  have hold : (fun q => hget (grid1.coords t 1) q s10) = hh V c (t.val / 36 - 1) (t.val % 36) := by
    funext q
    have := h.old hi (by omega) (grid1.coords t 1) q (Or.inl (by rw [coord_snd]))
    rw [coord_snd] at this
    exact this
  unfold n8 cd
  simp only [cond2_iff, cond3_iff, cond4_iff, coord_fst]
  by_cases h4 : t.val / 36 = 48
  · rw [if_pos h4, step10_drain h4, hold, h.iv hi (by omega)]
  · rw [if_neg h4, if_pos ⟨hi, by omega⟩, if_neg (by omega), hold, h.iv hi (by omega)]

/-- The scratches after a point. -/
theorem Inv.step (h : Inv V c t.val s10 s11 s12 s13) :
    Inv V c (t.val + 1)
      (n10 (grid1.coords t) (iblk1 V c 0 t) (iblk1 V c 1 t) (iblk1 V c 2 t) (iblk1 V c 3 t) (iblk1 V c 4 t) (iblk1 V c 5 t) s10 s11)
      (n11 (grid1.coords t) (iblk1 V c 1 t) s11)
      (n12 (grid1.coords t) (iblk1 V c 0 t) (iblk1 V c 1 t) (iblk1 V c 2 t) (iblk1 V c 3 t) (iblk1 V c 4 t) (iblk1 V c 5 t) s11 s12)
      (if k1_cond5 (grid1.coords t) = 1#1 then hinv (n12 (grid1.coords t) (iblk1 V c 0 t) (iblk1 V c 1 t) (iblk1 V c 2 t) (iblk1 V c 3 t) (iblk1 V c 4 t) (iblk1 V c 5 t) s11 s12) else s13) := by
  have hN : t.val < 1764 := N1 ▸ t.isLt
  by_cases hj : t.val % 36 = 35
  · -- the row block ends: the next point opens the next one
    have e1 : (t.val + 1) / 36 = t.val / 36 + 1 := by omega
    have e2 : (t.val + 1) % 36 = 0 := by omega
    refine ⟨fun h0 => by omega, fun h0 => by omega, fun _ j q h0 => by omega, fun _ hle j q _ => ?_, fun _ hle => ?_⟩
    · rw [e1, Nat.add_sub_cancel]
      by_cases hi : t.val / 36 < 48
      · rw [step10 h hi]
        by_cases hjj : j = grid1.coords t 1
        · subst hjj
          exact (hget_hput_same _ _ _ q).trans (by rw [coord_snd])
        · rw [hget_hput_ne hjj]
          have hne : j.val ≠ t.val % 36 := fun e => hjj (Fin.ext (e.trans (coord_snd t).symm))
          exact h.new hi j q (by omega)
      · omega
    · rw [e1, Nat.add_sub_cancel]
      by_cases hi : t.val / 36 < 48
      · rw [if_pos ((cond5_iff _).mpr ⟨by rw [coord_fst]; exact hi, by rw [coord_snd]; exact hj⟩), step12 h hi, hj]; rfl
      · omega
  · have e1 : (t.val + 1) / 36 = t.val / 36 := by omega
    have e2 : (t.val + 1) % 36 = t.val % 36 + 1 := by omega
    refine ⟨fun _ => ?_, fun _ hi => ?_, fun hi j q h0 => ?_, fun hi hle j q h0 => ?_, fun hi hle => ?_⟩
    · rw [e1]; exact step11 h
    · rw [e1] at hi ⊢; rw [e2]; exact step12 h hi
    · rw [e1] at hi ⊢; rw [e2] at h0
      rw [step10 h hi]
      by_cases hjj : j = grid1.coords t 1
      · subst hjj
        exact (hget_hput_same _ _ _ q).trans (by rw [coord_snd])
      · rw [hget_hput_ne hjj]
        have hne : j.val ≠ t.val % 36 := fun e => hjj (Fin.ext (e.trans (coord_snd t).symm))
        exact h.new hi j q (by omega)
    · rw [e1] at hi h0 ⊢; rw [e2] at h0
      by_cases hd : t.val / 36 = 48
      · rw [step10_drain hd]; exact h.old hi (by omega) j q (Or.inr hd)
      · rw [step10 h (by omega)]
        have hjj : j ≠ grid1.coords t 1 := fun e => by
          have := (congrArg Fin.val e).trans (coord_snd t); omega
        rw [hget_hput_ne hjj]
        exact h.old hi (by omega) j q (Or.inl (by omega))
    · rw [e1] at hi ⊢
      rw [if_neg (fun h5 => hj (((cond5_iff _).mp h5).2 ▸ (coord_snd t).symm))]
      exact h.iv hi (by omega)
end Step

/-! ## The pipeline's proof data -/

/-- The invariant between points: the scratches at contents that `Inv` describes, every other scoped buffer at anything, and the
    generator register. -/
def PhiS (c : Dev nD) (n : ℕ) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ s10 s11 s12 s13, ⌜Inv V c n s10 s11 s12 s13⌝ ∗ owns (c : Thread nD τ) scM1_0 fullShare s10 ∗ owns (c : Thread nD τ) scM1_1 fullShare s11 ∗ owns (c : Thread nD τ) scM1_2 fullShare s12 ∗ owns (c : Thread nD τ) scM1_3 fullShare s13)) ∗ (∃ r, prngReg c r))

/-- The proof data: the arrays as the region finds them; after a point each input's buffer at its block, the codes' buffer at the
    previous row block's codes, the scales' at the row block's scales (past the last row block, still its). -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => cd V c (t.val / 36 - 1) (t.val % 36)
    | ⟨7, _⟩ => sc V c (min (t.val / 36) 47)
  Φ t := PhiS V c t.val
  q w := Pipeline.shareOf spec1 w
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = cd V c (t.val / 36 - 1) (t.val % 36) := by dsimp only [dat1]
theorem after1_7 (c : Dev nD) (t : Fin cfg1.N) : (dat1 V c).after 7 t = sc V c (min (t.val / 36) 47) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

theorem Phi_castSucc1 (c : Dev nD) (t : Fin cfg1.N) : (dat1 V c).Φ t.castSucc = PhiS V c t.val := by
  dsimp only [dat1]; rfl
theorem Phi_succ1 (c : Dev nD) (t : Fin cfg1.N) : (dat1 V c).Φ t.succ = PhiS V c (t.val + 1) := by
  dsimp only [dat1]; rfl

theorem idle6 (t : Fin cfg1.N) : cfg1.idle 6 (cfg1.grid.coords t) = decide (t.val / 36 = 0) := by
  have hN : t.val < 1764 := N1 ▸ t.isLt
  have h3 := cond3_iff (grid1.coords t)
  have h4 := cond4_iff (grid1.coords t)
  rw [coord_fst] at h3 h4
  show (!(k1_cond3 (grid1.coords t) == 1#1) && !(k1_cond4 (grid1.coords t) == 1#1)) = decide (t.val / 36 = 0)
  rw [Bool.eq_iff_iff, decide_eq_true_iff]
  simp only [Bool.and_eq_true, Bool.not_eq_true', beq_eq_false_iff_ne, ne_eq, h3, h4]
  omega
theorem idle7 (t : Fin cfg1.N) : cfg1.idle 7 (cfg1.grid.coords t) = !decide (t.val / 36 < 48 ∧ t.val % 36 = 35) := by
  have h5 := cond5_iff (grid1.coords t)
  rw [coord_fst, coord_snd] at h5
  show (!(k1_cond5 (grid1.coords t) == 1#1)) = _
  congr 1
  rw [Bool.eq_iff_iff, decide_eq_true_iff, beq_iff_eq, h5]

/-- Past the last row block the scales' buffer still holds the last row block's. -/
theorem before1_7_drain (c : Dev nD) (k : ℕ) : ∀ t : Fin cfg1.N, t.val = 1728 + k → ∀ d, (dat1 V c).before 7 t d = sc V c 47 := by
  induction k with
  | zero =>
    intro t ht d
    rw [(dat1 V c).before_of_pos 7 t (by omega) (fetch1_7 t) d]
    have hf : (cfg1.win 7).flush ⟨t.val - 1, Nat.lt_of_le_of_lt (Nat.sub_le _ _) t.isLt⟩ = false := by
      refine Bool.eq_false_iff.mpr fun hf => ?_
      have h1 := (flush1_7 _ hf).2
      apply h1
      show (t.val - 1) / 36 = 47
      omega
    rw [hf, if_neg Bool.false_ne_true]
    unfold Dat.left
    rw [idle7]
    have e : decide ((t.val - 1) / 36 < 48 ∧ (t.val - 1) % 36 = 35) = true := decide_eq_true (by omega)
    simp only [e]
    unfold Dat.kept
    rw [after1_7]
    have e' : min ((t.val - 1) / 36) 47 = 47 := by omega
    simp only [e']
    rfl
  | succ k ih =>
    intro t ht d
    have hN : t.val < 1764 := N1 ▸ t.isLt
    rw [(dat1 V c).before_of_pos 7 t (by omega) (fetch1_7 t) d]
    have hf : (cfg1.win 7).flush ⟨t.val - 1, Nat.lt_of_le_of_lt (Nat.sub_le _ _) t.isLt⟩ = false := by
      refine Bool.eq_false_iff.mpr fun hf => ?_
      have h1 : (t.val - 1) % 36 = 35 := (flush1_7 _ hf).1
      omega
    rw [hf, if_neg Bool.false_ne_true]
    unfold Dat.left
    rw [idle7]
    have e : decide ((t.val - 1) / 36 < 48 ∧ (t.val - 1) % 36 = 35) = false := decide_eq_false (by omega)
    simp only [e]
    exact ih _ (by show t.val - 1 = 1728 + k; omega) d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ (dat1 V c).leavesExact 6 t
    ∗ (dat1 V c).leavesExact 7 t)

/-- What the codes' buffer is left at. -/
theorem leaves6 (c : Dev nD) (t : Fin cfg1.N) {s10 : Vec F S36x512x512 .f32} {s11 s12 s13 : Vec F S512x128 .f32} (h : Inv V c t.val s10 s11 s12 s13) (d) :
    owns (c : Thread nD τ) (ms1_6 t) fullShare (n8 (grid1.coords t) (iblk1 V c 0 t) (iblk1 V c 1 t) (iblk1 V c 2 t) (iblk1 V c 3 t) (iblk1 V c 4 t) (iblk1 V c 5 t) ((dat1 V c).before 6 t d) s10 s11 s13)
      ⊢ (dat1 V c).leavesExact 6 t := by
  have hN : t.val < 1764 := N1 ▸ t.isLt
  by_cases hi : t.val / 36 = 0
  · rw [(dat1 V c).leavesExact_idle 6 t (by rw [idle6]; exact decide_eq_true hi) (flush1_6 t hi)]
    unfold n8
    simp only [cond3_iff, cond4_iff, coord_fst]
    rw [if_neg (by omega), if_neg (by omega)]
    iintro H; iexists d; iexact H
  · have e : (dat1 V c).leavesExact 6 t = owns (c : Thread nD τ) (ms1_6 t) fullShare ((dat1 V c).after 6 t) := by
      have e1 : cfg1.idle 6 (cfg1.grid.coords t) = false := by rw [idle6]; exact decide_eq_false hi
      unfold Dat.leavesExact; rw [e1]
    rw [e, after1_6, step8 h (Nat.pos_of_ne_zero hi)]

/-- What the scales' buffer is left at. -/
theorem leaves7 (c : Dev nD) (t : Fin cfg1.N) {s10 : Vec F S36x512x512 .f32} {s11 s12 s13 : Vec F S512x128 .f32} (h : Inv V c t.val s10 s11 s12 s13) (d) :
    owns (c : Thread nD τ) (ms1_7 t) fullShare (if k1_cond5 (grid1.coords t) = 1#1 then hscale (n12 (grid1.coords t) (iblk1 V c 0 t) (iblk1 V c 1 t) (iblk1 V c 2 t) (iblk1 V c 3 t) (iblk1 V c 4 t) (iblk1 V c 5 t) s11 s12) else (dat1 V c).before 7 t d)
      ⊢ (dat1 V c).leavesExact 7 t := by
  have hN : t.val < 1764 := N1 ▸ t.isLt
  have h5 := cond5_iff (grid1.coords t)
  rw [coord_fst, coord_snd] at h5
  by_cases hl : t.val / 36 < 48 ∧ t.val % 36 = 35
  · have e : (dat1 V c).leavesExact 7 t = owns (c : Thread nD τ) (ms1_7 t) fullShare ((dat1 V c).after 7 t) := by
      have e1 : cfg1.idle 7 (cfg1.grid.coords t) = false := by rw [idle7, decide_eq_true hl]; rfl
      unfold Dat.leavesExact; rw [e1]
    rw [e, after1_7, if_pos (h5.mpr hl), step12 h hl.1, hl.2]
    have e' : min (t.val / 36) 47 = t.val / 36 := by omega
    rw [e']; exact .rfl
  · have e1 : cfg1.idle 7 (cfg1.grid.coords t) = true := by rw [idle7, decide_eq_false hl]; rfl
    rw [if_neg (fun h => hl (h5.mp h))]
    by_cases hf : (cfg1.win 7).flush t = true
    · have e : (dat1 V c).leavesExact 7 t = owns (c : Thread nD τ) (ms1_7 t) fullShare ((dat1 V c).after 7 t) := by
        unfold Dat.leavesExact; rw [e1, hf]
      have hff := flush1_7 t hf
      have e48 : t.val / 36 = 48 := by omega
      rw [e, after1_7, before1_7_drain V c (t.val - 1728) t (by omega) d]
      have e' : min (t.val / 36) 47 = 47 := by omega
      rw [e']
    · rw [(dat1 V c).leavesExact_idle 7 t e1 (Bool.eq_false_iff.mpr hf)]
      iintro H; iexists d; iexact H

set_option maxHeartbeats 2000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [Phi_castSucc1, Phi_succ1, show (dat1 V c).owesAt () t.succ = (dat1 V c).owesAt () t.castSucc from rfl,
    after1_0, after1_1, after1_2, after1_3, after1_4, after1_5]
  unfold PhiS
  iintro ⟨⟨⟨HR0, HR1, HR2, HR3, HR4, HR5, ⟨%s10, %s11, %s12, %s13, %hI, HS0, HS1, HS2, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel1 c Set.univ (grid1.coords t) _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) ((dat1 V c).before 6 t d6) ((dat1 V c).before 7 t d7) s10 s11 s12 s13 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  iintro ⟨H0, H1, H2, H3, H4, H5, H6, H7, HS0, HS1, HS2, HS3⟩
  isplitl [HR0 HR1 HR2 HR3 HR4 HR5 HS0 HS1 HS2 HS3 Hg]
  · isplitl [HR0 HR1 HR2 HR3 HR4 HR5 HS0 HS1 HS2 HS3]
    · isplitl [HR0]; · iexact HR0
      isplitl [HR1]; · iexact HR1
      isplitl [HR2]; · iexact HR2
      isplitl [HR3]; · iexact HR3
      isplitl [HR4]; · iexact HR4
      isplitl [HR5]; · iexact HR5
      iexists _, _, _, _
      isplitr; · ipureintro; exact Inv.step hI
      isplitl [HS0]; · iexact HS0
      isplitl [HS1]; · iexact HS1
      isplitl [HS2]; · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iapply (leaves6 V c t hI d6); iexact H6
  iapply (leaves7 V c t hI d7); iexact H7

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-! ## The invariant at the region's ends -/

/-- Any scratch contents open the loop. -/
theorem Phi_in (c : Dev nD) : (Pipeline.ΦA spec1 c : sProp 𝕄) ⊢ PhiS V c 0 := by
  rw [PhiA1_eq]; unfold PhiS
  iintro ⟨⟨HR0, HR1, HR2, HR3, HR4, HR5, ⟨%s10, HS0⟩, ⟨%s11, HS1⟩, ⟨%s12, HS2⟩, ⟨%s13, HS3⟩⟩, Hg⟩
  isplitl [HR0 HR1 HR2 HR3 HR4 HR5 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    iexists s10, s11, s12, s13
    isplitr; · ipureintro; exact Inv.zero V c s10 s11 s12 s13
    isplitl [HS0]; · iexact HS0
    isplitl [HS1]; · iexact HS1
    isplitl [HS2]; · iexact HS2
    iexact HS3
  iexact Hg

/-- and what they hold at its end is forgotten. -/
theorem Phi_out (c : Dev nD) (n : ℕ) : PhiS V c n ⊢ (Pipeline.ΦA spec1 c : sProp 𝕄) := by
  rw [PhiA1_eq]; unfold PhiS
  iintro ⟨⟨HR0, HR1, HR2, HR3, HR4, HR5, ⟨%s10, %s11, %s12, %s13, -, HS0, HS1, HS2, HS3⟩⟩, Hg⟩
  isplitl [HR0 HR1 HR2 HR3 HR4 HR5 HS0 HS1 HS2 HS3]
  · isplitl [HR0]; · iexact HR0
    isplitl [HR1]; · iexact HR1
    isplitl [HR2]; · iexact HR2
    isplitl [HR3]; · iexact HR3
    isplitl [HR4]; · iexact HR4
    isplitl [HR5]; · iexact HR5
    isplitl [HS0]; · iexists _; iexact HS0
    isplitl [HS1]; · iexists _; iexact HS1
    isplitl [HS2]; · iexists _; iexact HS2
    iexists _; iexact HS3
  iexact Hg

end Cert.KernelIdeal.Gen

end
-- ==== Proof.KernelIdeal.Whole.lean ====
/- The whole program's run: the buffer contents at every boundary between host operations and kernel calls, the two calls
   as regions over them, and the final state, in which every unscoped buffer holds the last boundary's contents. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.QuantX
public import proofs.«01_k».proof.Proof.KernelIdeal.GateUp
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.StableHlo.RunHlo
public import Idealize.ShloMosaic.Lib.Tactic
public import Idealize.ShloMosaic.Lib.UnfoldOut
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v4, main_v5, main_v6, main_v7]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact (dat1 (V2 m ρ) c).withArrays_arrAt launch₀1.sharedIn _ (A_eq1 (V2 m ρ) c) w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays_shared`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs_shared`) and put back at the exit contents (`unscopedBufs_of_arrays_shared`; its input windows on one array (`launch₀1.sharedIn`) each dealt their share of it, `Pipeline.shareOf`, by the proof data); the generator register into the
    class invariant `ΦA` and out; nothing owed; no semaphore of the kernel's own. -/
def reg1 : Pipeline.RegionSeg (pcfgs (F := F)) adm (pdats m ρ) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs_shared (p := 1) (pcfgs (F := F)) adm (pdats m ρ) launch₀1.win launch₀1.sharedIn launch₀1.arr_whole c
      (fun _ _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS (V2 m ρ) c 0 from rfl]
    refine BIBase.Entails.trans ?_ (Phi_in (V2 m ρ) c)
    unfold Pipeline.ΦA
    iintro ⟨Hp, -, Hr⟩
    isplitl [Hr]; · iexact Hr
    iexact Hp
  hout c := by
    rw [Pipeline.ownSems0_none, show (pdats m ρ 1 c).Φ (Fin.last _) = PhiS (V2 m ρ) c cfg1.N from rfl]
    refine BIBase.Entails.trans (Phi_out (V2 m ρ) c cfg1.N) ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m ρ) (fun _ _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution of @main on the TensorCores terminates, nothing
    faulting, and every final state has each unscoped buffer at the last boundary's contents and every semaphore counter
    at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The frame: the argument arrays end as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine θ_run_mono (run m ρ) fun r h => ⟨fun c => ⟨?_, ?_, ?_⟩, h.2⟩
  · exact (h.1 c _ (mem_uc main_arg0 (by decide))).trans (W4_main_arg0 m ρ c)
  · exact (h.1 c _ (mem_uc main_arg1 (by decide))).trans (W4_main_arg1 m ρ c)
  · exact (h.1 c _ (mem_uc main_arg2 (by decide))).trans (W4_main_arg2 m ρ c)

end Cert.KernelIdeal.Gen

end
-- ==== Proof.Value.Math.lean ====
/- The power-of-two quantisation scale at the exact values: the kernel finds the exponent of a row's scaled maximum by
   bisection and builds the power of two from its exponent field; the reference takes twice the largest power of two of a
   table that lies at or below it. The two agree at every extended real. -/
module

public import Idealize.ShloMosaic.PureOps.Ideal.Laws
public import Idealize.ShloMosaic.Lib.Pointwise

@[expose] public section

set_option maxRecDepth 16384

noncomputable section

namespace Cert.Value

open Idealize.ShloMosaic

/-! ## Bit patterns of powers of two -/

/-- The fields of the pattern `n · 2^23`: no sign, exponent `n`, no fraction. -/
theorem fields (n : Fin 255) :
    (BitVec.ofNat 32 (n.val * 2 ^ 23)).extractLsb' 31 1 = 0#1 ∧ ((BitVec.ofNat 32 (n.val * 2 ^ 23)).extractLsb' 23 8).toNat = n.val
      ∧ ((BitVec.ofNat 32 (n.val * 2 ^ 23)).extractLsb' 0 23).toNat = 0 := by
  revert n; decide +kernel

/-- The pattern `n · 2^23` of a normal exponent field `n` denotes `2^(n - 127)`. -/
theorem ofBits_pow (n : ℕ) (h1 : 1 ≤ n) (h2 : n ≤ 254) (b : BitVec 32) (hb : b = BitVec.ofNat 32 (n * 2 ^ 23)) :
    Ideal.ofBits .f32 b = (((2 : ℝ) ^ ((n : ℤ) - 127) : ℝ) : EReal) := by
  subst hb
  obtain ⟨f1, f2, f3⟩ := fields ⟨n, by omega⟩
  simp only at f1 f2 f3
  unfold Ideal.ofBits Ideal.ieee
  simp only [f1, f2, f3]
  have hn : n ≠ 2 ^ 8 - 1 := by omega
  have hn0 : n ≠ 0 := by omega
  simp only [hn, hn0, if_false]
  congr 1
  have h2 : (2 : ℝ) ≠ 0 := two_ne_zero
  have : ((n : ℤ) - 127) = 23 + ((n : ℤ) - (2 ^ (8 - 1) - 1) - (23 : ℕ)) := by norm_num
  rw [this, zpow_add₀ h2]
  norm_num

theorem ofBits_inf : Ideal.ofBits .f32 0x7F800000#32 = ⊤ := by
  have h1 : (0x7F800000#32).extractLsb' 31 1 = 0#1 := by decide
  have h2 : ((0x7F800000#32).extractLsb' 23 8).toNat = 255 := by decide
  have h3 : ((0x7F800000#32).extractLsb' 0 23).toNat = 0 := by decide
  unfold Ideal.ofBits Ideal.ieee
  simp [h1, h2, h3]

theorem ofBits_neg_inf : Ideal.ofBits .f32 0xFF800000#32 = ⊥ := by
  have h1 : (0xFF800000#32).extractLsb' 31 1 = 1#1 := by decide
  have h2 : ((0xFF800000#32).extractLsb' 23 8).toNat = 255 := by decide
  have h3 : ((0xFF800000#32).extractLsb' 0 23).toNat = 0 := by decide
  unfold Ideal.ofBits Ideal.ieee
  simp [h1, h2, h3]

/-! ## The bisection, one element -/

/-- One up-step of the bisection: `k` binades down where the value is at least `th = 2^k`. -/
def upM (th fac : BitVec 32) (m : Ideal .f32) : Ideal .f32 :=
  Scalar.select (FloatOps.cmpf .oge m (Scalar.ofBits .f32 th)) (FloatOps.mulf m (Scalar.ofBits .f32 fac)) m
/-- … and its exponent. -/
def upE (th : BitVec 32) (k : BitVec 32) (m : Ideal .f32) (e : BitVec 32) : BitVec 32 :=
  Scalar.select (FloatOps.cmpf .oge m (Scalar.ofBits .f32 th)) (IntOp.addi e k) e
/-- One down-step of the bisection: `k` binades up where the value is below `th = 2^(1-k)`. -/
def dnM (th fac : BitVec 32) (m : Ideal .f32) : Ideal .f32 :=
  Scalar.select (FloatOps.cmpf .olt m (Scalar.ofBits .f32 th)) (FloatOps.mulf m (Scalar.ofBits .f32 fac)) m
/-- … and its exponent. -/
def dnE (th : BitVec 32) (k : BitVec 32) (m : Ideal .f32) (e : BitVec 32) : BitVec 32 :=
  Scalar.select (FloatOps.cmpf .olt m (Scalar.ofBits .f32 th)) (IntOp.subi e k) e

def m1 (t : Ideal .f32) := upM 0x5F800000#32 0x1F800000#32 t
def m2 (t : Ideal .f32) := upM 0x4F800000#32 0x2F800000#32 (m1 t)
def m3 (t : Ideal .f32) := upM 0x47800000#32 0x37800000#32 (m2 t)
def m4 (t : Ideal .f32) := upM 0x43800000#32 0x3B800000#32 (m3 t)
def m5 (t : Ideal .f32) := upM 0x41800000#32 0x3D800000#32 (m4 t)
def m6 (t : Ideal .f32) := upM 0x40800000#32 0x3E800000#32 (m5 t)
def m7 (t : Ideal .f32) := upM 0x40000000#32 0x3F000000#32 (m6 t)
def m8 (t : Ideal .f32) := dnM 0x20000000#32 0x5F800000#32 (m7 t)
def m9 (t : Ideal .f32) := dnM 0x30000000#32 0x4F800000#32 (m8 t)
def m10 (t : Ideal .f32) := dnM 0x38000000#32 0x47800000#32 (m9 t)
def m11 (t : Ideal .f32) := dnM 0x3C000000#32 0x43800000#32 (m10 t)
def m12 (t : Ideal .f32) := dnM 0x3E000000#32 0x41800000#32 (m11 t)
def m13 (t : Ideal .f32) := dnM 0x3F000000#32 0x40800000#32 (m12 t)

def e1 (t : Ideal .f32) := upE 0x5F800000#32 64#32 t 1#32
def e2 (t : Ideal .f32) := upE 0x4F800000#32 32#32 (m1 t) (e1 t)
def e3 (t : Ideal .f32) := upE 0x47800000#32 16#32 (m2 t) (e2 t)
def e4 (t : Ideal .f32) := upE 0x43800000#32 8#32 (m3 t) (e3 t)
def e5 (t : Ideal .f32) := upE 0x41800000#32 4#32 (m4 t) (e4 t)
def e6 (t : Ideal .f32) := upE 0x40800000#32 2#32 (m5 t) (e5 t)
def e7 (t : Ideal .f32) := upE 0x40000000#32 1#32 (m6 t) (e6 t)
def e8 (t : Ideal .f32) := dnE 0x20000000#32 64#32 (m7 t) (e7 t)
def e9 (t : Ideal .f32) := dnE 0x30000000#32 32#32 (m8 t) (e8 t)
def e10 (t : Ideal .f32) := dnE 0x38000000#32 16#32 (m9 t) (e9 t)
def e11 (t : Ideal .f32) := dnE 0x3C000000#32 8#32 (m10 t) (e10 t)
def e12 (t : Ideal .f32) := dnE 0x3E000000#32 4#32 (m11 t) (e11 t)
def e13 (t : Ideal .f32) := dnE 0x3F000000#32 2#32 (m12 t) (e12 t)
def e14 (t : Ideal .f32) := dnE 0x3F800000#32 1#32 (m13 t) (e13 t)

/-- The exponent of a scaled maximum `t`: the bisection's where `t` is a normal number, zero elsewhere. -/
def expN (t : Ideal .f32) : BitVec 32 :=
  Scalar.select (IntOp.andi (FloatOps.cmpf .oge t (Scalar.ofBits .f32 0x00800000#32)) (FloatOps.cmpf .olt t (Scalar.ofBits .f32 0x7F800000#32)))
    (e14 t) 0#32
/-- A row's maximum over 448, as the programs round that constant. -/
def scaled (a : Ideal .f32) : Ideal .f32 := FloatOps.mulf a (Scalar.ofBits .f32 0x3B124925#32)
/-- The exponent the kernel takes for a row of maximum `a`. -/
def expA (a : Ideal .f32) : BitVec 32 :=
  Scalar.select (FloatOps.cmpf .oeq a (Scalar.ofBits .f32 0x00000000#32)) 0#32 (expN (scaled a))
/-- The power of two of exponent `e`, built as the product of two read off their exponent fields. -/
def pow2 (e : BitVec 32) : Ideal .f32 :=
  FloatOps.mulf (FloatOps.ofBits .f32 (IntOp.shli .vector (IntOp.addi (IntOp.shrsi .vector e 1#32) 127#32) 23#32))
    (FloatOps.ofBits .f32 (IntOp.shli .vector (IntOp.addi (IntOp.subi e (IntOp.shrsi .vector e 1#32)) 127#32) 23#32))

/-! ## One step at a real -/

theorem cmpf_oge_coe (m : Ideal .f32) (b : BitVec 32) : FloatOps.cmpf .oge m (Scalar.ofBits .f32 b) = BitVec.ofBool (decide (Ideal.ofBits .f32 b ≤ m)) := rfl
theorem cmpf_olt_coe (m : Ideal .f32) (b : BitVec 32) : FloatOps.cmpf .olt m (Scalar.ofBits .f32 b) = BitVec.ofBool (decide (m < Ideal.ofBits .f32 b)) := rfl
theorem cmpf_oeq_coe (m : Ideal .f32) (b : BitVec 32) : FloatOps.cmpf .oeq m (Scalar.ofBits .f32 b) = BitVec.ofBool (decide (m = Ideal.ofBits .f32 b)) := rfl
theorem select_ofBool {α : Type} (p : Prop) [Decidable p] (a b : α) : Scalar.select (BitVec.ofBool (decide p)) a b = if p then a else b := by
  unfold Scalar.select; by_cases h : p <;> simp [h]

/-- A value `m` and an exponent `e` that stand for `r`: `m = r · 2^(1 - z)`, `e` the word of `z`. -/
def Stands (r : ℝ) (m : Ideal .f32) (e : BitVec 32) (P : ℝ → ℤ → Prop) : Prop :=
  ∃ (z : ℤ) (q : ℝ), e = BitVec.ofInt 32 z ∧ m = (q : EReal) ∧ r = q * (2 : ℝ) ^ (z - 1) ∧ P q z

/-- While going up: below one untouched, or at least one and below `2^s` (or every step so far taken). -/
def Up (s : ℕ) (q : ℝ) (z : ℤ) : Prop := ((2 : ℝ) ^ (-126 : ℤ) ≤ q) ∧ ((q < 1 ∧ z = 1) ∨ (1 ≤ q ∧ z ≤ 129 - s ∧ 1 ≤ z ∧ (q < (2 : ℝ) ^ s ∨ z = 129 - s)))
/-- While going down: at least `2^(1 - s)`, and below two (or at the largest exponent). -/
def Down (s : ℕ) (q : ℝ) (z : ℤ) : Prop := ((2 : ℝ) ^ (1 - (s : ℤ)) ≤ q) ∧ z ≤ 128 ∧ (q < 2 ∨ z = 128)

theorem up_step (r : ℝ) (m : Ideal .f32) (e : BitVec 32) (s : ℕ) (hs : 1 ≤ s) (hs' : s ≤ 64) (th fac k : BitVec 32)
    (hth : th = BitVec.ofNat 32 ((127 + s) * 2 ^ 23)) (hfac : fac = BitVec.ofNat 32 ((127 - s) * 2 ^ 23)) (hk : k = BitVec.ofNat 32 s)
    (h : Stands r m e (Up (2 * s))) : Stands r (upM th fac m) (upE th k m e) (Up s) := by
  obtain ⟨z, q, he, hm, hr, hq, hP⟩ := h
  have t1 : Ideal.ofBits .f32 th = (((2 : ℝ) ^ s : ℝ) : EReal) := by
    rw [ofBits_pow (127 + s) (by omega) (by omega) th hth]; congr 1
    rw [← zpow_natCast]; congr 1; push_cast; ring
  have t2 : Ideal.ofBits .f32 fac = (((2 : ℝ) ^ (-(s : ℤ)) : ℝ) : EReal) := by
    rw [ofBits_pow (127 - s) (by omega) (by omega) fac hfac]; congr 2; omega
  have p1 : (1 : ℝ) ≤ (2 : ℝ) ^ s := one_le_pow₀ (by norm_num)
  have p0 : (0 : ℝ) < (2 : ℝ) ^ s := by positivity
  have pz : (2 : ℝ) ^ (-(s : ℤ)) = ((2 : ℝ) ^ s)⁻¹ := by rw [zpow_neg, zpow_natCast]
  have hM : upM th fac m = if (2 : ℝ) ^ s ≤ q then ((q * (2 : ℝ) ^ (-(s : ℤ)) : ℝ) : EReal) else m := by
    unfold upM
    rw [cmpf_oge_coe, select_ofBool, t1, hm]
    simp only [EReal.coe_le_coe_iff]
    split
    · show (q : EReal) * Ideal.ofBits .f32 fac = _
      rw [t2, EReal.coe_mul]
    · rfl
  have hE : upE th k m e = if (2 : ℝ) ^ s ≤ q then BitVec.ofInt 32 (z + s) else e := by
    unfold upE
    rw [cmpf_oge_coe, select_ofBool, t1, hm]
    simp only [EReal.coe_le_coe_iff]
    split
    · show e + k = _
      rw [he, hk, BitVec.ofInt_add]; congr 1
    · rfl
  rw [hM, hE]
  by_cases hc : (2 : ℝ) ^ s ≤ q
  · rw [if_pos hc, if_pos hc]
    refine ⟨z + s, q * (2 : ℝ) ^ (-(s : ℤ)), rfl, rfl, ?_, ?_, ?_⟩
    · rw [hr, mul_assoc, ← zpow_add₀ (two_ne_zero)]; congr 2; ring
    · rw [pz]
      have : (1 : ℝ) ≤ q * ((2 : ℝ) ^ s)⁻¹ := by rw [← div_eq_mul_inv, le_div_iff₀ p0]; linarith
      refine le_trans ?_ this
      rw [show (1 : ℝ) = (2 : ℝ) ^ (0 : ℤ) by simp]
      exact zpow_le_zpow_right₀ (by norm_num) (by norm_num)
    · right
      rcases hP with ⟨h1, _⟩ | ⟨h1, hz, hz1, h2⟩
      · exfalso; linarith
      · refine ⟨?_, ?_, ?_, ?_⟩
        · rw [pz, ← div_eq_mul_inv, le_div_iff₀ p0]; linarith
        · push_cast at hz; omega
        · omega
        · rcases h2 with h2 | h2
          · left
            rw [pz, ← div_eq_mul_inv, div_lt_iff₀ p0, ← pow_add]
            rwa [two_mul] at h2
          · right; push_cast at h2; omega
  · rw [if_neg hc, if_neg hc]
    refine ⟨z, q, he, hm, hr, hq, ?_⟩
    rcases hP with h1 | ⟨h1, hz, hz1, h2⟩
    · exact Or.inl h1
    · exact Or.inr ⟨h1, by push_cast at hz; omega, hz1, Or.inl (not_le.mp hc)⟩

theorem down_step (r : ℝ) (m : Ideal .f32) (e : BitVec 32) (s : ℕ) (hs : 1 ≤ s) (hs' : s ≤ 64) (th fac k : BitVec 32)
    (hth : th = BitVec.ofNat 32 ((128 - s) * 2 ^ 23)) (hfac : fac = BitVec.ofNat 32 ((127 + s) * 2 ^ 23)) (hk : k = BitVec.ofNat 32 s)
    (h : Stands r m e (Down (2 * s))) : Stands r (dnM th fac m) (dnE th k m e) (Down s) := by
  obtain ⟨z, q, he, hm, hr, hq, hz, hP⟩ := h
  have t1 : Ideal.ofBits .f32 th = (((2 : ℝ) ^ (1 - (s : ℤ)) : ℝ) : EReal) := by
    rw [ofBits_pow (128 - s) (by omega) (by omega) th hth]; congr 2; omega
  have t2 : Ideal.ofBits .f32 fac = (((2 : ℝ) ^ (s : ℤ) : ℝ) : EReal) := by
    rw [ofBits_pow (127 + s) (by omega) (by omega) fac hfac]; congr 2; omega
  have p0 : (0 : ℝ) < (2 : ℝ) ^ (s : ℤ) := by positivity
  have hM : dnM th fac m = if q < (2 : ℝ) ^ (1 - (s : ℤ)) then ((q * (2 : ℝ) ^ (s : ℤ) : ℝ) : EReal) else m := by
    unfold dnM
    rw [cmpf_olt_coe, select_ofBool, t1, hm]
    simp only [EReal.coe_lt_coe_iff]
    split
    · show (q : EReal) * Ideal.ofBits .f32 fac = _
      rw [t2, EReal.coe_mul]
    · rfl
  have hE : dnE th k m e = if q < (2 : ℝ) ^ (1 - (s : ℤ)) then BitVec.ofInt 32 (z - s) else e := by
    unfold dnE
    rw [cmpf_olt_coe, select_ofBool, t1, hm]
    simp only [EReal.coe_lt_coe_iff]
    split
    · show e - k = _
      rw [he, hk, sub_eq_add_neg z, BitVec.ofInt_add, BitVec.ofInt_neg, BitVec.ofInt_natCast, BitVec.sub_eq_add_neg]
    · rfl
  rw [hM, hE]
  by_cases hc : q < (2 : ℝ) ^ (1 - (s : ℤ))
  · rw [if_pos hc, if_pos hc]
    refine ⟨z - s, q * (2 : ℝ) ^ (s : ℤ), rfl, rfl, ?_, ?_, ?_, ?_⟩
    · rw [hr, mul_assoc, ← zpow_add₀ (two_ne_zero)]; congr 2; ring
    · have : (2 : ℝ) ^ (1 - (s : ℤ)) = (2 : ℝ) ^ (1 - ((2 * s : ℕ) : ℤ)) * (2 : ℝ) ^ (s : ℤ) := by
        rw [← zpow_add₀ (two_ne_zero)]; congr 1; push_cast; ring
      rw [this]; exact mul_le_mul_of_nonneg_right hq p0.le
    · omega
    · left
      have : (2 : ℝ) = (2 : ℝ) ^ (1 - (s : ℤ)) * (2 : ℝ) ^ (s : ℤ) := by
        rw [← zpow_add₀ (two_ne_zero)]; simp
      conv_rhs => rw [this]
      exact mul_lt_mul_of_pos_right hc p0
  · rw [if_neg hc, if_neg hc]
    exact ⟨z, q, he, hm, hr, not_lt.mp hc, hz, hP⟩

/-- The bisection's exponent at a real of at least the smallest normal number. -/
theorem e14_real (r : ℝ) (hr : (2 : ℝ) ^ (-126 : ℤ) ≤ r) :
    ∃ z : ℤ, -125 ≤ z ∧ z ≤ 128 ∧ e14 (r : EReal) = BitVec.ofInt 32 z ∧ (2 : ℝ) ^ (z - 1) ≤ r ∧ (r < (2 : ℝ) ^ z ∨ z = 128) := by
  have h0 : Stands r (r : EReal) 1#32 (Up (2 * 64)) := by
    refine ⟨1, r, by decide, rfl, by simp, hr, ?_⟩
    by_cases h : r < 1
    · exact Or.inl ⟨h, rfl⟩
    · exact Or.inr ⟨not_lt.mp h, by norm_num, by norm_num, Or.inr (by norm_num)⟩
  have h1 := up_step r _ _ 64 (by decide) (by decide) 0x5F800000#32 0x1F800000#32 64#32 (by decide) (by decide) (by decide) h0
  have h2 := up_step r _ _ 32 (by decide) (by decide) 0x4F800000#32 0x2F800000#32 32#32 (by decide) (by decide) (by decide) h1
  have h3 := up_step r _ _ 16 (by decide) (by decide) 0x47800000#32 0x37800000#32 16#32 (by decide) (by decide) (by decide) h2
  have h4 := up_step r _ _ 8 (by decide) (by decide) 0x43800000#32 0x3B800000#32 8#32 (by decide) (by decide) (by decide) h3
  have h5 := up_step r _ _ 4 (by decide) (by decide) 0x41800000#32 0x3D800000#32 4#32 (by decide) (by decide) (by decide) h4
  have h6 := up_step r _ _ 2 (by decide) (by decide) 0x40800000#32 0x3E800000#32 2#32 (by decide) (by decide) (by decide) h5
  have h7 := up_step r _ _ 1 (by decide) (by decide) 0x40000000#32 0x3F000000#32 1#32 (by decide) (by decide) (by decide) h6
  have g0 : Stands r (m7 (r : EReal)) (e7 (r : EReal)) (Down (2 * 64)) := by
    obtain ⟨z, q, he, hm, hr', hq, hP⟩ := h7
    refine ⟨z, q, he, hm, hr', le_trans (zpow_le_zpow_right₀ (by norm_num) (by norm_num)) hq, ?_, ?_⟩
    · rcases hP with ⟨_, h⟩ | ⟨_, h, _⟩ <;> omega
    · rcases hP with ⟨h, _⟩ | ⟨_, _, _, h | h⟩
      · left; linarith
      · left; simpa using h
      · right; omega
  have g1 := down_step r _ _ 64 (by decide) (by decide) 0x20000000#32 0x5F800000#32 64#32 (by decide) (by decide) (by decide) g0
  have g2 := down_step r _ _ 32 (by decide) (by decide) 0x30000000#32 0x4F800000#32 32#32 (by decide) (by decide) (by decide) g1
  have g3 := down_step r _ _ 16 (by decide) (by decide) 0x38000000#32 0x47800000#32 16#32 (by decide) (by decide) (by decide) g2
  have g4 := down_step r _ _ 8 (by decide) (by decide) 0x3C000000#32 0x43800000#32 8#32 (by decide) (by decide) (by decide) g3
  have g5 := down_step r _ _ 4 (by decide) (by decide) 0x3E000000#32 0x41800000#32 4#32 (by decide) (by decide) (by decide) g4
  have g6 := down_step r _ _ 2 (by decide) (by decide) 0x3F000000#32 0x40800000#32 2#32 (by decide) (by decide) (by decide) g5
  have g7 := down_step r _ _ 1 (by decide) (by decide) 0x3F800000#32 0x40000000#32 1#32 (by decide) (by decide) (by decide) g6
  obtain ⟨z, q, he, hm, hr', hq, hz, hP⟩ := g7
  have hq1 : (1 : ℝ) ≤ q := by simpa using hq
  have hp : (0 : ℝ) < (2 : ℝ) ^ (z - 1) := by positivity
  have hz2 : (2 : ℝ) ^ z = 2 * (2 : ℝ) ^ (z - 1) := by
    rw [show z = 1 + (z - 1) by ring, zpow_add₀ two_ne_zero]; simp
  have hup : r < (2 : ℝ) ^ z ∨ z = 128 := by
    rcases hP with h | h
    · left; rw [hr', hz2]; exact mul_lt_mul_of_pos_right h hp
    · exact Or.inr h
  refine ⟨z, ?_, hz, he, ?_, hup⟩
  · rcases hup with h | h
    · have := (zpow_lt_zpow_iff_right₀ (a := (2 : ℝ)) (by norm_num)).mp (lt_of_le_of_lt hr h)
      omega
    · omega
  · rw [hr']; nlinarith

/-! ## The power of two -/

theorem pow2_fields (n : Fin 257) :
    IntOp.shli .vector (IntOp.addi (IntOp.shrsi .vector (BitVec.ofInt 32 ((n.val : ℤ) - 128)) 1#32) 127#32) 23#32
        = BitVec.ofNat 32 ((((n.val : ℤ) - 128) / 2 + 127).toNat * 2 ^ 23)
    ∧ IntOp.shli .vector (IntOp.addi (IntOp.subi (BitVec.ofInt 32 ((n.val : ℤ) - 128)) (IntOp.shrsi .vector (BitVec.ofInt 32 ((n.val : ℤ) - 128)) 1#32)) 127#32) 23#32
        = BitVec.ofNat 32 ((((n.val : ℤ) - 128) - ((n.val : ℤ) - 128) / 2 + 127).toNat * 2 ^ 23) := by
  revert n; decide +kernel

/-- `pow2` of the word of `z` is `2^z`. -/
theorem pow2_ofInt (z : ℤ) (h1 : -128 ≤ z) (h2 : z ≤ 128) : pow2 (BitVec.ofInt 32 z) = (((2 : ℝ) ^ z : ℝ) : EReal) := by
  have hn : z = (((z + 128).toNat : ℕ) : ℤ) - 128 := by omega
  obtain ⟨f1, f2⟩ := pow2_fields ⟨(z + 128).toNat, by omega⟩
  simp only at f1 f2
  rw [← hn] at f1 f2
  unfold pow2
  rw [f1, f2]
  show Ideal.ofBits .f32 _ * Ideal.ofBits .f32 _ = _
  rw [ofBits_pow (z / 2 + 127).toNat (by omega) (by omega) _ rfl, ofBits_pow (z - z / 2 + 127).toNat (by omega) (by omega) _ rfl,
    ← EReal.coe_mul, ← zpow_add₀ two_ne_zero]
  congr 2
  omega

/-! ## The reference's scale -/

/-- The reference's table of powers of two: `2^(k - 126)`, `k` below 254. -/
def Table (pw : Fin 254 → Ideal .f32) : Prop := ∀ k, pw k = (((2 : ℝ) ^ ((k.val : ℤ) - 126) : ℝ) : EReal)

/-- The largest power of the table at or below `t` (zero where there is none). -/
def below (pw : Fin 254 → Ideal .f32) (t : EReal) : EReal :=
  (Finset.univ : Finset (Fin 254)).fold max ⊥ fun k => if pw k ≤ t then pw k else 0

/-- The reference's scale. -/
def refScale (pw : Fin 254 → Ideal .f32) (t : EReal) : EReal :=
  if 0 < below pw t ∧ t < ⊤ then ((2 : ℝ) : EReal) * below pw t else 1

theorem below_small (pw : Fin 254 → Ideal .f32) (hpw : Table pw) (t : EReal) (ht : t < (((2 : ℝ) ^ (-126 : ℤ) : ℝ) : EReal)) :
    below pw t ≤ 0 := by
  unfold below
  rw [Finset.fold_max_le]
  refine ⟨bot_le, fun k _ => ?_⟩
  rw [if_neg]
  rw [hpw k, not_le]
  refine lt_of_lt_of_le ht ?_
  rw [EReal.coe_le_coe_iff]
  exact zpow_le_zpow_right₀ (by norm_num) (by omega)

theorem below_real (pw : Fin 254 → Ideal .f32) (hpw : Table pw) (r : ℝ) (z : ℤ) (h1 : -125 ≤ z) (h2 : z ≤ 128)
    (h3 : (2 : ℝ) ^ (z - 1) ≤ r) (h4 : r < (2 : ℝ) ^ z ∨ z = 128) : below pw (r : EReal) = (((2 : ℝ) ^ (z - 1) : ℝ) : EReal) := by
  unfold below
  apply le_antisymm
  · rw [Finset.fold_max_le]
    refine ⟨bot_le, fun k _ => ?_⟩
    split
    · next h =>
      rw [hpw k] at h ⊢
      rw [EReal.coe_le_coe_iff] at h ⊢
      refine zpow_le_zpow_right₀ (by norm_num) ?_
      rcases h4 with h4 | h4
      · have := (zpow_lt_zpow_iff_right₀ (a := (2 : ℝ)) (by norm_num)).mp (lt_of_le_of_lt h h4)
        omega
      · have := k.isLt; omega
    · rw [← EReal.coe_zero, EReal.coe_le_coe_iff]; positivity
  · rw [Finset.le_fold_max]
    right
    refine ⟨⟨(z + 125).toNat, by omega⟩, Finset.mem_univ _, ?_⟩
    have hk : pw ⟨(z + 125).toNat, by omega⟩ = (((2 : ℝ) ^ (z - 1) : ℝ) : EReal) := by
      rw [hpw]; congr 2; simp only; omega
    rw [hk, if_pos (by rw [EReal.coe_le_coe_iff]; exact h3)]

theorem refScale_real (pw : Fin 254 → Ideal .f32) (hpw : Table pw) (r : ℝ) (z : ℤ) (h1 : -125 ≤ z) (h2 : z ≤ 128)
    (h3 : (2 : ℝ) ^ (z - 1) ≤ r) (h4 : r < (2 : ℝ) ^ z ∨ z = 128) : refScale pw (r : EReal) = (((2 : ℝ) ^ z : ℝ) : EReal) := by
  unfold refScale
  have hb := below_real pw hpw r z h1 h2 h3 h4
  generalize below pw (r : EReal) = B at hb ⊢
  subst hb
  rw [if_pos, ← EReal.coe_mul]
  · have hz2 : (2 : ℝ) ^ z = 2 * (2 : ℝ) ^ (z - 1) := by
      rw [show z = 1 + (z - 1) by ring, zpow_add₀ two_ne_zero]; simp
    rw [hz2]
  · refine ⟨?_, EReal.coe_lt_top r⟩
    rw [← EReal.coe_zero, EReal.coe_lt_coe_iff]; positivity

/-- The kernel's exponent is the reference's scale's: one `z` for both. -/
theorem expA_spec (pw : Fin 254 → Ideal .f32) (hpw : Table pw) (a : EReal) :
    ∃ z : ℤ, -125 ≤ z ∧ z ≤ 128 ∧ expA a = BitVec.ofInt 32 z ∧ refScale pw (scaled a) = (((2 : ℝ) ^ z : ℝ) : EReal) := by
  have hmin : Ideal.ofBits .f32 0x00800000#32 = (((2 : ℝ) ^ (-126 : ℤ) : ℝ) : EReal) := by
    rw [ofBits_pow 1 (by decide) (by decide) _ (by decide)]; norm_num
  have hN : expN (scaled a) = if Ideal.ofBits .f32 0x00800000#32 ≤ scaled a ∧ scaled a < ⊤ then e14 (scaled a) else 0#32 := by
    unfold expN
    rw [cmpf_oge_coe, cmpf_olt_coe, ofBits_inf]
    have : IntOp.andi (BitVec.ofBool (decide (Ideal.ofBits .f32 0x00800000#32 ≤ scaled a))) (BitVec.ofBool (decide (scaled a < ⊤)))
        = BitVec.ofBool (decide (Ideal.ofBits .f32 0x00800000#32 ≤ scaled a ∧ scaled a < ⊤)) := by
      by_cases p : Ideal.ofBits .f32 0x00800000#32 ≤ scaled a <;> by_cases q : scaled a < ⊤ <;> simp [p, q, IntOp.andi]
    rw [this, select_ofBool]
  have hA : expA a = if a = 0 then 0#32 else expN (scaled a) := by
    unfold expA
    rw [cmpf_oeq_coe, select_ofBool, Ideal.ofBits_zero_f32]
  have small : ∀ t : EReal, ¬(Ideal.ofBits .f32 0x00800000#32 ≤ t ∧ t < ⊤) → refScale pw t = (((2 : ℝ) ^ (0 : ℤ) : ℝ) : EReal) := by
    intro t ht
    unfold refScale
    rw [if_neg]
    · simp
    · rintro ⟨hb, hT⟩
      apply ht
      refine ⟨?_, hT⟩
      by_contra hlt
      rw [hmin, not_le] at hlt
      exact absurd (below_small pw hpw t hlt) (not_le.mpr hb)
  by_cases hz : a = 0
  · refine ⟨0, by decide, by decide, ?_, ?_⟩
    · rw [hA, if_pos hz]; decide
    · apply small
      rw [hz]
      rintro ⟨h, -⟩
      have : scaled 0 = 0 := zero_mul _
      rw [this, hmin, ← EReal.coe_zero, EReal.coe_le_coe_iff] at h
      exact absurd h (not_le.mpr (by positivity))
  rw [hA, if_neg hz, hN]
  by_cases hc : Ideal.ofBits .f32 0x00800000#32 ≤ scaled a ∧ scaled a < ⊤
  · rw [if_pos hc]
    obtain ⟨hl, hT⟩ := hc
    have hbot : scaled a ≠ ⊥ := by
      intro h; rw [h, hmin, le_bot_iff] at hl; exact EReal.coe_ne_bot _ hl
    obtain ⟨r, hr⟩ : ∃ r : ℝ, scaled a = (r : EReal) := ⟨(scaled a).toReal, (EReal.coe_toReal hT.ne hbot).symm⟩
    rw [hr] at hl ⊢
    rw [hmin, EReal.coe_le_coe_iff] at hl
    obtain ⟨z, z1, z2, z3, z4, z5⟩ := e14_real r hl
    exact ⟨z, z1, z2, z3, refScale_real pw hpw r z z1 z2 z4 z5⟩
  · rw [if_neg hc]
    exact ⟨0, by decide, by decide, by decide, small _ hc⟩

/-- The kernel's scale is the reference's. -/
theorem pow2_expA (pw : Fin 254 → Ideal .f32) (hpw : Table pw) (a : EReal) : pow2 (expA a) = refScale pw (scaled a) := by
  obtain ⟨z, z1, z2, z3, z4⟩ := expA_spec pw hpw a
  rw [z3, z4, pow2_ofInt z (by omega) (by omega)]

/-- The kernel's inverse scale is one over the reference's. -/
theorem pow2_neg_expA (pw : Fin 254 → Ideal .f32) (hpw : Table pw) (a : EReal) :
    pow2 (IntOp.subi 0#32 (expA a)) = Ideal.div 1 (refScale pw (scaled a)) := by
  obtain ⟨z, z1, z2, z3, z4⟩ := expA_spec pw hpw a
  have hs : IntOp.subi 0#32 (BitVec.ofInt 32 z) = BitVec.ofInt 32 (-z) := by
    show 0#32 - _ = _
    rw [BitVec.ofInt_neg, BitVec.zero_sub]
  rw [z3, z4, hs, pow2_ofInt (-z) (by omega) (by omega)]
  unfold Ideal.div
  have hp : (0 : ℝ) < (2 : ℝ) ^ z := by positivity
  rw [if_neg (by rw [← EReal.coe_zero, EReal.coe_eq_coe_iff]; exact hp.ne'), one_mul, zpow_neg, EReal.coe_inv]

end Cert.Value
-- ==== Proof.Value.Exponent.lean ====
/- The exponent chains of the two kernel calls, read at one element: each is the bisection of `Cert.Value`. -/
module

public import proofs.«01_k».proof.Proof.KernelIdeal.Whole
public import proofs.«01_k».proof.Proof.Value.Math

@[expose] public section

set_option maxRecDepth 16384

noncomputable section

namespace Cert.KernelIdeal.Gen

open Idealize.ShloMosaic Cert.Value

/-- The bisection from its tenth value on, and the two tests around it, as a function of the value and exponent before. -/
def tailE (t m : Ideal .f32) (e : BitVec 32) : BitVec 32 :=
  Scalar.select (IntOp.andi (FloatOps.cmpf .oge t (Scalar.ofBits .f32 0x00800000#32)) (FloatOps.cmpf .olt t (Scalar.ofBits .f32 0x7F800000#32)))
    (dnE 0x3F800000#32 1#32 (dnM 0x3F000000#32 0x40800000#32 (dnM 0x3E000000#32 0x41800000#32 (dnM 0x3C000000#32 0x43800000#32 m)))
      (dnE 0x3F000000#32 2#32 (dnM 0x3E000000#32 0x41800000#32 (dnM 0x3C000000#32 0x43800000#32 m))
        (dnE 0x3E000000#32 4#32 (dnM 0x3C000000#32 0x43800000#32 m) (dnE 0x3C000000#32 8#32 m e)))) 0#32

theorem tailE_eq (t : Ideal .f32) : tailE t (m10 t) (e10 t) = expN t := rfl

/-! ## The first call's chain -/

theorem k0_m1 (v : Vec Ideal S256x4608 .bf16) (i : S256x1.Idx) : k0_pay5 v i = m1 (k0_pay3 v i) := by
  show upM 0x5F800000#32 0x1F800000#32 (k0_pay3 v i) = _
  rfl

theorem k0_m2 (v : Vec Ideal S256x4608 .bf16) (i : S256x1.Idx) : k0_pay7 v i = m2 (k0_pay3 v i) := by
  show upM 0x4F800000#32 0x2F800000#32 (k0_pay5 v i) = _
  rw [k0_m1]; rfl

theorem k0_m3 (v : Vec Ideal S256x4608 .bf16) (i : S256x1.Idx) : k0_pay9 v i = m3 (k0_pay3 v i) := by
  show upM 0x47800000#32 0x37800000#32 (k0_pay7 v i) = _
  rw [k0_m2]; rfl

theorem k0_m4 (v : Vec Ideal S256x4608 .bf16) (i : S256x1.Idx) : k0_pay11 v i = m4 (k0_pay3 v i) := by
  show upM 0x43800000#32 0x3B800000#32 (k0_pay9 v i) = _
  rw [k0_m3]; rfl

theorem k0_e4 (v : Vec Ideal S256x4608 .bf16) (i : S256x1.Idx) : k0_pay12 v i = e4 (k0_pay3 v i) := by
  show upE 0x43800000#32 8#32 (k0_pay9 v i) (upE 0x47800000#32 16#32 (k0_pay7 v i) (upE 0x4F800000#32 32#32 (k0_pay5 v i) (upE 0x5F800000#32 64#32 (k0_pay3 v i) (1#32)))) = _
  rw [k0_m1, k0_m2, k0_m3]; rfl

theorem k0_m5 (v37 : FVec Ideal S256x1 .f32) (i : S256x1.Idx) (t : Ideal .f32) (h : v37 i = m4 t) : k0_pay14 v37 (Scalar.ofBits .f32 0x41800000#32) i = m5 t := by
  show upM 0x41800000#32 0x3D800000#32 (v37 i) = _
  rw [h]; rfl

theorem k0_m6 (v37 : FVec Ideal S256x1 .f32) (i : S256x1.Idx) (t : Ideal .f32) (h : v37 i = m4 t) : k0_pay16 v37 (Scalar.ofBits .f32 0x41800000#32) i = m6 t := by
  show upM 0x40800000#32 0x3E800000#32 (k0_pay14 v37 (Scalar.ofBits .f32 0x41800000#32) i) = _
  rw [k0_m5 v37 i t h]; rfl

theorem k0_m7 (v37 : FVec Ideal S256x1 .f32) (i : S256x1.Idx) (t : Ideal .f32) (h : v37 i = m4 t) : k0_pay18 v37 (Scalar.ofBits .f32 0x41800000#32) i = m7 t := by
  show upM 0x40000000#32 0x3F000000#32 (k0_pay16 v37 (Scalar.ofBits .f32 0x41800000#32) i) = _
  rw [k0_m6 v37 i t h]; rfl

theorem k0_m8 (v37 : FVec Ideal S256x1 .f32) (i : S256x1.Idx) (t : Ideal .f32) (h : v37 i = m4 t) : k0_pay20 v37 (Scalar.ofBits .f32 0x41800000#32) i = m8 t := by
  show dnM 0x20000000#32 0x5F800000#32 (k0_pay18 v37 (Scalar.ofBits .f32 0x41800000#32) i) = _
  rw [k0_m7 v37 i t h]; rfl

theorem k0_m9 (v37 : FVec Ideal S256x1 .f32) (i : S256x1.Idx) (t : Ideal .f32) (h : v37 i = m4 t) : k0_pay22 v37 (Scalar.ofBits .f32 0x41800000#32) i = m9 t := by
  show dnM 0x30000000#32 0x4F800000#32 (k0_pay20 v37 (Scalar.ofBits .f32 0x41800000#32) i) = _
  rw [k0_m8 v37 i t h]; rfl

theorem k0_e9 (v37 : FVec Ideal S256x1 .f32) (i : S256x1.Idx) (t : Ideal .f32) (h : v37 i = m4 t) (v40 : IVec S256x1 32) (he : v40 i = e4 t) : k0_pay23 v37 v40 (Scalar.ofBits .f32 0x41800000#32) i = e9 t := by
  show dnE 0x30000000#32 32#32 (k0_pay20 v37 (Scalar.ofBits .f32 0x41800000#32) i) (dnE 0x20000000#32 64#32 (k0_pay18 v37 (Scalar.ofBits .f32 0x41800000#32) i) (upE 0x40000000#32 1#32 (k0_pay16 v37 (Scalar.ofBits .f32 0x41800000#32) i) (upE 0x40800000#32 2#32 (k0_pay14 v37 (Scalar.ofBits .f32 0x41800000#32) i) (upE 0x41800000#32 4#32 (v37 i) (v40 i))))) = _
  rw [he, h, k0_m5 v37 i t h, k0_m6 v37 i t h, k0_m7 v37 i t h, k0_m8 v37 i t h]; rfl

theorem k0_tail (v7 v77 v84 : FVec Ideal S256x1 .f32) (v80 : IVec S256x1 32) (v82 : IVec S256x1 1) (i : S256x1.Idx)
    (h82 : v82 i = FloatOps.cmpf .olt (v77 i) (Scalar.ofBits .f32 0x38000000#32)) (h84 : v84 i = FloatOps.mulf (v77 i) (Scalar.ofBits .f32 0x47800000#32)) :
    k0_pay26 v7 v77 v80 v82 v84 i = tailE (v7 i) (dnM 0x38000000#32 0x47800000#32 (v77 i)) (dnE 0x38000000#32 16#32 (v77 i) (v80 i)) := by
  have hm : select v82 v84 v77 i = dnM 0x38000000#32 0x47800000#32 (v77 i) := by
    show Scalar.select (v82 i) (v84 i) (v77 i) = _
    rw [h82, h84]; rfl
  have he : select v82 (subi v80 (broadcast S256x1 16#32)) v80 i = dnE 0x38000000#32 16#32 (v77 i) (v80 i) := by
    show Scalar.select (v82 i) _ _ = _
    rw [h82]; rfl
  rw [← hm, ← he]; rfl

/-- The exponent the first call takes for a row is `expA` of the row's maximum. -/
theorem k0_exp (x : Vec Ideal S256x4608 .bf16) (i : S256x1.Idx) :
    k0_pay29 (k0_pay33 x) (k0_pay34 x) (k0_pay35 x) i = expA (k0_pay2 (View.ld x r0_0) i) := by
  have h4 : k0_pay32 x i = m4 (k0_pay3 (View.ld x r0_0) i) := k0_m4 _ i
  have h : k0_pay33 x i = expN (k0_pay3 (View.ld x r0_0) i) := by
    unfold k0_pay33
    rw [k0_tail _ _ _ _ _ i rfl rfl, k0_m9 _ i _ h4, k0_e9 _ i _ h4 _ (k0_e4 _ i)]; rfl
  show Scalar.select (FloatOps.cmpf .oeq (k0_pay2 (View.ld x r0_0) i) (Scalar.ofBits .f32 0x00000000#32)) 0#32 (k0_pay33 x i) = _
  rw [h]; rfl

/-! ## The second call's chain -/

theorem k1_m1 (v : Vec Ideal S512x128 .f32) (i : S512x1.Idx) : k1_pay54 v i = m1 (k1_pay52 v i) := by
  show upM 0x5F800000#32 0x1F800000#32 (k1_pay52 v i) = _
  rfl

theorem k1_m2 (v : Vec Ideal S512x128 .f32) (i : S512x1.Idx) : k1_pay56 v i = m2 (k1_pay52 v i) := by
  show upM 0x4F800000#32 0x2F800000#32 (k1_pay54 v i) = _
  rw [k1_m1]; rfl

theorem k1_m3 (v : Vec Ideal S512x128 .f32) (i : S512x1.Idx) : k1_pay58 v i = m3 (k1_pay52 v i) := by
  show upM 0x47800000#32 0x37800000#32 (k1_pay56 v i) = _
  rw [k1_m2]; rfl

theorem k1_m4 (v : Vec Ideal S512x128 .f32) (i : S512x1.Idx) : k1_pay60 v i = m4 (k1_pay52 v i) := by
  show upM 0x43800000#32 0x3B800000#32 (k1_pay58 v i) = _
  rw [k1_m3]; rfl

theorem k1_e4 (v : Vec Ideal S512x128 .f32) (i : S512x1.Idx) : k1_pay61 v i = e4 (k1_pay52 v i) := by
  show upE 0x43800000#32 8#32 (k1_pay58 v i) (upE 0x47800000#32 16#32 (k1_pay56 v i) (upE 0x4F800000#32 32#32 (k1_pay54 v i) (upE 0x5F800000#32 64#32 (k1_pay52 v i) (1#32)))) = _
  rw [k1_m1, k1_m2, k1_m3]; rfl

theorem k1_m5 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay64 v53 v58 k1_pay63 i = m5 t := by
  show Scalar.select (v58 i) (FloatOps.mulf (v53 i) (Scalar.ofBits .f32 0x3D800000#32)) (v53 i) = _
  rw [h58, h]; rfl

theorem k1_m6 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay66 v53 v58 k1_pay63 i = m6 t := by
  show upM 0x40800000#32 0x3E800000#32 (k1_pay64 v53 v58 k1_pay63 i) = _
  rw [k1_m5 v53 v58 i t h h58]; rfl

theorem k1_m7 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay68 v53 v58 k1_pay63 i = m7 t := by
  show upM 0x40000000#32 0x3F000000#32 (k1_pay66 v53 v58 k1_pay63 i) = _
  rw [k1_m6 v53 v58 i t h h58]; rfl

theorem k1_m8 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay70 v53 v58 k1_pay63 i = m8 t := by
  show dnM 0x20000000#32 0x5F800000#32 (k1_pay68 v53 v58 k1_pay63 i) = _
  rw [k1_m7 v53 v58 i t h h58]; rfl

theorem k1_m9 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay72 v53 v58 k1_pay63 i = m9 t := by
  show dnM 0x30000000#32 0x4F800000#32 (k1_pay70 v53 v58 k1_pay63 i) = _
  rw [k1_m8 v53 v58 i t h h58]; rfl

theorem k1_m10 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay75 v53 v58 k1_pay63 i = m10 t := by
  show dnM 0x38000000#32 0x47800000#32 (k1_pay72 v53 v58 k1_pay63 i) = _
  rw [k1_m9 v53 v58 i t h h58]; rfl

theorem k1_e9 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) (v56 : IVec S512x1 32) (he : v56 i = e4 t) : k1_pay73 v53 v56 v58 k1_pay63 i = e9 t := by
  show dnE 0x30000000#32 32#32 (k1_pay70 v53 v58 k1_pay63 i) (dnE 0x20000000#32 64#32 (k1_pay68 v53 v58 k1_pay63 i) (upE 0x40000000#32 1#32 (k1_pay66 v53 v58 k1_pay63 i) (upE 0x40800000#32 2#32 (k1_pay64 v53 v58 k1_pay63 i) (Scalar.select (v58 i) (IntOp.addi (v56 i) 4#32) (v56 i))))) = _
  rw [he, h58, h, k1_m5 v53 v58 i t h h58, k1_m6 v53 v58 i t h h58, k1_m7 v53 v58 i t h h58, k1_m8 v53 v58 i t h h58]; rfl

theorem k1_c10 (v53 : FVec Ideal S512x1 .f32) (v58 : IVec S512x1 1) (i : S512x1.Idx) (t : Ideal .f32) (h : v53 i = m4 t) (h58 : v58 i = FloatOps.cmpf .oge (v53 i) (Scalar.ofBits .f32 0x41800000#32)) : k1_pay74 v53 v58 k1_pay63 i = FloatOps.cmpf .olt (m9 t) (Scalar.ofBits .f32 0x38000000#32) := by
  show FloatOps.cmpf .olt (k1_pay72 v53 v58 k1_pay63 i) (Scalar.ofBits .f32 0x38000000#32) = _
  rw [k1_m9 v53 v58 i t h h58]

theorem k1_tail (v21 v23 v101 : FVec Ideal S512x1 .f32) (v96 v103 : IVec S512x1 32) (v98 : IVec S512x1 1) (i : S512x1.Idx) :
    k1_pay77 v21 v23 v96 v98 v101 v103 i = Scalar.select (FloatOps.cmpf .oeq (v21 i) (Scalar.ofBits .f32 0x00000000#32)) 0#32
      (tailE (v23 i) (v101 i) (Scalar.select (v98 i) (v103 i) (v96 i))) := by
  have he : select v98 v103 v96 i = Scalar.select (v98 i) (v103 i) (v96 i) := rfl
  rw [← he]; rfl

/-- The exponent the second call takes for a row is `expA` of the row's maximum. -/
theorem k1_exp (s : Vec Ideal S512x128 .f32) (i : S512x1.Idx) : expo s i = expA (k1_pay51 (View.ld s rT) i) := by
  have h4 : k1_pay60 (View.ld s rT) i = m4 (k1_pay52 (View.ld s rT) i) := k1_m4 _ i
  have h58 : k1_pay62 (View.ld s rT) i = FloatOps.cmpf .oge (k1_pay60 (View.ld s rT) i) (Scalar.ofBits .f32 0x41800000#32) := rfl
  have h9 := k1_e9 _ _ i _ h4 h58 _ (k1_e4 _ i)
  have h76 : k1_pay76 (k1_pay60 (View.ld s rT)) (k1_pay61 (View.ld s rT)) (k1_pay62 (View.ld s rT)) (k1_pay63 (F := Ideal)) i
      = IntOp.subi (k1_pay73 (k1_pay60 (View.ld s rT)) (k1_pay61 (View.ld s rT)) (k1_pay62 (View.ld s rT)) (k1_pay63 (F := Ideal)) i) 16#32 := rfl
  unfold expo
  rw [k1_tail, k1_m10 _ _ i _ h4 h58, h76, h9, k1_c10 _ _ i _ h4 h58]
  rfl

end Cert.KernelIdeal.Gen
-- ==== Proof.Value.Spec.lean ====
/- What both programs compute, as functions of the two-dimensional arrays: the quantised rows of `x`, `h`, and the quantised
   rows of `h`. -/
module

public import proofs.«01_k».proof.Proof.Value.Math

@[expose] public section

noncomputable section

namespace Cert.Value

open Idealize.ShloMosaic

/-- The greatest magnitude of a row. -/
def rowMax {n : ℕ} (f : Fin n → EReal) : EReal := (Finset.univ : Finset (Fin n)).fold max ⊥ fun k => FloatOps.absf (F := Ideal) (φ := .f32) (f k)

/-- A value in units of an inverse scale, clipped to the codes' range. -/
def clip (v inv : EReal) : EReal := min (Ideal.ofBits .f32 0x43E00000#32) (max (Ideal.ofBits .f32 0xC3E00000#32) (v * inv))

/-- One element of `silu(gate) · up`: the two dot products, each by the row's scale and the column's. -/
def hElem {n : ℕ} (xr wg wu : Fin n → EReal) (xs sg su : EReal) : EReal :=
  ((∑ k, xr k * wg k) * xs * sg) * Ideal.logistic ((∑ k, xr k * wg k) * xs * sg) * ((∑ k, xr k * wu k) * xs * su)

/-- The power-of-two scale of a row, off the table of powers `pw`. -/
def scaleOf (pw : Fin 254 → EReal) {n : ℕ} (f : Fin n → EReal) : EReal := refScale pw (scaled (rowMax f))

variable (pw : Fin 254 → EReal) (x : Fin 24576 → Fin 4608 → EReal) (w : Fin 4608 → Fin 36864 → EReal) (s : Fin 36864 → EReal)

/-- The scale of row `R` of `x`. -/
def xScale (R : Fin 24576) : EReal := scaleOf pw (x R)
/-- The code of an element of `x`. -/
def xCode (R : Fin 24576) (k : Fin 4608) : EReal := clip (x R k) (Ideal.div 1 (xScale pw x R))
/-- An element of `h`: the gate's column is `C`, the up projection's `18432 + C`. -/
def hAt (R : Fin 24576) (C : Fin 18432) : EReal :=
  hElem (xCode pw x R) (fun k => w k ⟨C.val, by omega⟩) (fun k => w k ⟨18432 + C.val, by omega⟩) (xScale pw x R)
    (s ⟨C.val, by omega⟩) (s ⟨18432 + C.val, by omega⟩)
/-- The scale of row `R` of `h`. -/
def hScale (R : Fin 24576) : EReal := scaleOf pw (hAt pw x w s R)
/-- The code of an element of `h`. -/
def hCode (R : Fin 24576) (C : Fin 18432) : EReal := clip (hAt pw x w s R C) (Ideal.div 1 (hScale pw x w s R))

end Cert.Value
-- ==== Proof.Value.Rows.lean ====
/- The kernel's payloads read at one element, at the exact values. -/
module

public import proofs.«01_k».proof.Proof.KernelIdeal.Whole
public import proofs.«01_k».proof.Proof.Value.Exponent
public import proofs.«01_k».proof.Proof.Value.Spec
public import Idealize.ShloMosaic.Lib.Pointwise

@[expose] public section

set_option maxRecDepth 16384

noncomputable section

namespace Cert.KernelIdeal.Gen

open Idealize.ShloMosaic Cert.Value

/-! ## The first call -/

theorem k0_rowMax (v : Vec Ideal S256x4608 .bf16) (r : Fin 256) (z : Fin 1) :
    k0_pay2 v (ix2 r z) = rowMax fun k : Fin 4608 => v (ix2 r k) := by
  pointwise [k0_pay2, k0_pay1]
  rw [ofBits_neg_inf]; rfl

theorem k0_scale (v124 : IVec S256x1 32) (v126 : IVec S256x1 1) (v127 : IVec S256x1 32) (i : S256x1.Idx) :
    k0_pay30 (F := Ideal) v124 v126 v127 i = pow2 (k0_pay29 v124 v126 v127 i) := rfl

theorem k0_code (v2 : FVec Ideal S256x4608 .f32) (v124 : IVec S256x1 32) (v126 : IVec S256x1 1) (v127 : IVec S256x1 32) (r : Fin 256) (k : Fin 4608) :
    k0_pay31 v2 v124 v126 v127 (ix2 r k) = clip (v2 (ix2 r k)) (pow2 (IntOp.subi 0#32 (k0_pay29 v124 v126 v127 (ix2 r 0)))) := by
  pointwise [k0_pay31]
  rfl

/-! ## The second call -/

theorem k1_h0 (X : Vec Ideal S512x4608 .fp8e4m3) (T : Vec Ideal S512x128 .f32) (A B : Vec Ideal S4608x256 .fp8e4m3) (a b : Vec Ideal S1x128 .f32)
    (r : Fin 512) (l : Fin 128) : k1_pay38 X T A B a b (ix2 r l)
      = hElem (fun k : Fin 4608 => X (ix2 r k)) (fun k => A (ix2 k ⟨l.val, by omega⟩)) (fun k => B (ix2 k ⟨l.val, by omega⟩))
        (T (ix2 r l)) (a (ix2 0 l)) (b (ix2 0 l)) := by
  pointwise [k1_pay38, k1_pay36, k1_pay37, k1_pay34]
  rfl

theorem k1_h1 (X : Vec Ideal S512x4608 .fp8e4m3) (T : Vec Ideal S512x128 .f32) (A B : Vec Ideal S4608x256 .fp8e4m3) (a b : Vec Ideal S1x128 .f32)
    (r : Fin 512) (l : Fin 128) : k1_pay40 T (k1_pay36 X A) (k1_pay37 X B) a b (ix2 r l)
      = hElem (fun k : Fin 4608 => X (ix2 r k)) (fun k => A (ix2 k ⟨128 + l.val, by omega⟩)) (fun k => B (ix2 k ⟨128 + l.val, by omega⟩))
        (T (ix2 r l)) (a (ix2 0 l)) (b (ix2 0 l)) := by
  pointwise [k1_pay40, k1_pay36, k1_pay37, k1_pay34]
  rfl

theorem k1_h3 (X : Vec Ideal S512x4608 .fp8e4m3) (T : Vec Ideal S512x128 .f32) (A B : Vec Ideal S4608x256 .fp8e4m3) (a b : Vec Ideal S1x128 .f32)
    (r : Fin 512) (l : Fin 128) : k1_pay7 T (k1_pay43 (k1_pay34 X) A) (k1_pay44 (k1_pay34 X) B) a b (ix2 r l)
      = hElem (fun k : Fin 4608 => X (ix2 r k)) (fun k => A (ix2 k ⟨128 + l.val, by omega⟩)) (fun k => B (ix2 k ⟨128 + l.val, by omega⟩))
        (T (ix2 r l)) (a (ix2 0 l)) (b (ix2 0 l)) := by
  pointwise [k1_pay7, k1_pay43, k1_pay44, k1_pay34]
  rfl

theorem k1_h2 (X : Vec Ideal S512x4608 .fp8e4m3) (T : Vec Ideal S512x128 .f32) (A B : Vec Ideal S4608x256 .fp8e4m3) (a b : Vec Ideal S1x128 .f32)
    (r : Fin 512) (l : Fin 128) : k1_pay5 (k1_pay45 (k1_pay34 X) T B b) (k1_pay46 (k1_pay34 X) T A a) (ix2 r l)
      = hElem (fun k : Fin 4608 => X (ix2 r k)) (fun k => A (ix2 k ⟨l.val, by omega⟩)) (fun k => B (ix2 k ⟨l.val, by omega⟩))
        (T (ix2 r l)) (a (ix2 0 l)) (b (ix2 0 l)) := by
  pointwise [k1_pay5, k1_pay45, k1_pay46, k1_pay43, k1_pay44, k1_pay34]
  rfl

/-- A load through a rectangle of unit strides, at an element. -/
theorem ld_ix2 {m n m' n' : ℕ} {e : EltTy} (X : Vec Ideal ⟨2, ![m, n]⟩ e) (off : Fin 2 → ℕ)
    (inb : ∀ a, off a + (⟨2, ![m', n']⟩ : Shape).size a ≤ (⟨2, ![m, n]⟩ : Shape).size a)
    (a : Fin m') (b : Fin n') (a' : Fin m) (b' : Fin n) (ha : a'.val = off 0 + a.val) (hb : b'.val = off 1 + b.val) :
    View.ld X (Rect.unit (s := ⟨2, ![m, n]⟩) off (⟨2, ![m', n']⟩ : Shape).size inb) (ix2 a b) = X (ix2 a' b') := by
  refine congrArg X (funext fun k => ?_)
  match k with
  | ⟨0, _⟩ => exact Fin.ext (by show off 0 + 1 * a.val = a'.val; omega)
  | ⟨1, _⟩ => exact Fin.ext (by show off 1 + 1 * b.val = b'.val; omega)

theorem ld_rX (X : Vec Ideal S512x4608 .fp8e4m3) : View.ld X rX = X := View.ld_unit_zero (S := S512x4608) zeros2 inb_S512x4608_S512x4608_0_0 X
theorem ld_rT (X : Vec Ideal S512x128 .f32) : View.ld X rT = X := View.ld_unit_zero (S := S512x128) zeros2 inb_S512x128_S512x128_0_0 X

/-- Column `128 q + l` of a column tile. -/
def tcol (q : Fin 4) (l : Fin 128) : Fin 512 := ⟨128 * q.val + l.val, by omega⟩

/-- An element of a chunk of `h`. -/
theorem hval_apply (x0 : Vec Ideal S512x4608 .fp8e4m3) (x2 x3 : Vec Ideal S4608x512 .fp8e4m3) (x4 x5 : Vec Ideal S1x512 .f32) (s : Vec Ideal S512x128 .f32)
    (q : Fin 4) (z : Fin 1) (r : Fin 512) (l : Fin 128) :
    hval x0 x2 x3 x4 x5 s q (ix3 z r l) = hElem (fun k : Fin 4608 => x0 (ix2 r k)) (fun k => x2 (ix2 k (tcol q l))) (fun k => x3 (ix2 k (tcol q l)))
      (s (ix2 r l)) (x4 (ix2 0 (tcol q l))) (x5 (ix2 0 (tcol q l))) := by
  have hA : ∀ (x : Vec Ideal S4608x512 .fp8e4m3) (k : Fin 4608) (c : Fin 256) (hc : c.val = (tcol q l).val), View.ld x rW0 (ix2 k c) = x (ix2 k (tcol q l)) :=
    fun x k c hc => ld_ix2 x _ _ k c k (tcol q l) (by show k.val = 0 + k.val; omega) (by show _ = 0 + c.val; omega)
  have hB : ∀ (x : Vec Ideal S4608x512 .fp8e4m3) (k : Fin 4608) (c : Fin 256) (hc : 256 + c.val = (tcol q l).val), View.ld x rW1 (ix2 k c) = x (ix2 k (tcol q l)) :=
    fun x k c hc => ld_ix2 x _ _ k c k (tcol q l) (by show k.val = 0 + k.val; omega) (by show _ = 256 + c.val; omega)
  have hS : ∀ (x : Vec Ideal S1x512 .f32) (o : ℕ) (inb : ∀ a, (![0, o] : Fin 2 → ℕ) a + S1x128.size a ≤ S1x512.size a) (ho : o + l.val = (tcol q l).val),
      View.ld x (Rect.unit (s := S1x512) ![0, o] S1x128.size inb) (ix2 0 l) = x (ix2 0 (tcol q l)) :=
    fun x o inb ho => ld_ix2 x _ _ 0 l 0 (tcol q l) (by rfl) (by show _ = o + l.val; omega)
  match q with
  | ⟨0, h⟩ =>
    have e : hval x0 x2 x3 x4 x5 s ⟨0, h⟩ (ix3 z r l) = k1_pay38 (View.ld x0 rX) (View.ld s rT) (View.ld x2 rW0) (View.ld x3 rW0) (View.ld x4 rS0) (View.ld x5 rS0) (ix2 r l) := by
      simp only [hval]; pointwise [k1_pay39]
    rw [e, k1_h0, ld_rX, ld_rT, hS x4 0 _ (by show _ = 128 * 0 + l.val; omega), hS x5 0 _ (by show _ = 128 * 0 + l.val; omega)]
    simp only [fun k => hA x2 k ⟨l.val, by omega⟩ (by show l.val = 128 * 0 + l.val; omega), fun k => hA x3 k ⟨l.val, by omega⟩ (by show l.val = 128 * 0 + l.val; omega)]
  | ⟨1, h⟩ =>
    have e : hval x0 x2 x3 x4 x5 s ⟨1, h⟩ (ix3 z r l) = k1_pay40 (View.ld s rT) (k1_pay36 (View.ld x0 rX) (View.ld x2 rW0)) (k1_pay37 (View.ld x0 rX) (View.ld x3 rW0)) (View.ld x4 rS1) (View.ld x5 rS1) (ix2 r l) := by
      simp only [hval]; pointwise [k1_pay41]
    rw [e, k1_h1, ld_rX, ld_rT, hS x4 128 _ (by show _ = 128 * 1 + l.val; omega), hS x5 128 _ (by show _ = 128 * 1 + l.val; omega)]
    simp only [fun k => hA x2 k ⟨128 + l.val, by omega⟩ (by show 128 + l.val = 128 * 1 + l.val; omega), fun k => hA x3 k ⟨128 + l.val, by omega⟩ (by show 128 + l.val = 128 * 1 + l.val; omega)]
  | ⟨2, h⟩ =>
    have e : hval x0 x2 x3 x4 x5 s ⟨2, h⟩ (ix3 z r l) = k1_pay5 (k1_pay45 (k1_pay34 (View.ld x0 rX)) (View.ld s rT) (View.ld x3 rW1) (View.ld x5 rS2))
        (k1_pay46 (k1_pay34 (View.ld x0 rX)) (View.ld s rT) (View.ld x2 rW1) (View.ld x4 rS2)) (ix2 r l) := by
      simp only [hval]; pointwise [k1_pay6]
    rw [e, k1_h2, ld_rX, ld_rT, hS x4 256 _ (by show _ = 128 * 2 + l.val; omega), hS x5 256 _ (by show _ = 128 * 2 + l.val; omega)]
    simp only [fun k => hB x2 k ⟨l.val, by omega⟩ (by show 256 + l.val = 128 * 2 + l.val; omega), fun k => hB x3 k ⟨l.val, by omega⟩ (by show 256 + l.val = 128 * 2 + l.val; omega)]
  | ⟨3, h⟩ =>
    have e : hval x0 x2 x3 x4 x5 s ⟨3, h⟩ (ix3 z r l) = k1_pay7 (View.ld s rT) (k1_pay43 (k1_pay34 (View.ld x0 rX)) (View.ld x2 rW1)) (k1_pay44 (k1_pay34 (View.ld x0 rX)) (View.ld x3 rW1)) (View.ld x4 rS3) (View.ld x5 rS3) (ix2 r l) := by
      simp only [hval]; pointwise [k1_pay8]
    rw [e, k1_h3, ld_rX, ld_rT, hS x4 384 _ (by show _ = 128 * 3 + l.val; omega), hS x5 384 _ (by show _ = 128 * 3 + l.val; omega)]
    simp only [fun k => hB x2 k ⟨128 + l.val, by omega⟩ (by show 256 + (128 + l.val) = 128 * 3 + l.val; omega), fun k => hB x3 k ⟨128 + l.val, by omega⟩ (by show 256 + (128 + l.val) = 128 * 3 + l.val; omega)]

/-- The running maximum after a column tile: of its old value (zero at the first tile) and the four chunks' magnitudes. -/
theorem amax_apply (j : BitVec 32) (x0 : Vec Ideal S512x4608 .fp8e4m3) (x2 x3 : Vec Ideal S4608x512 .fp8e4m3) (x4 x5 : Vec Ideal S1x512 .f32) (s s' : Vec Ideal S512x128 .f32)
    (r : Fin 512) (l : Fin 128) :
    amax j x0 x2 x3 x4 x5 s s' (ix2 r l) = max (max (max (max (if j = 0#32 then 0 else s' (ix2 r l))
      (FloatOps.absf (F := Ideal) (φ := .f32) (hval x0 x2 x3 x4 x5 s 0 (ix3 0 r l)))) (FloatOps.absf (F := Ideal) (φ := .f32) (hval x0 x2 x3 x4 x5 s 1 (ix3 0 r l))))
      (FloatOps.absf (F := Ideal) (φ := .f32) (hval x0 x2 x3 x4 x5 s 2 (ix3 0 r l)))) (FloatOps.absf (F := Ideal) (φ := .f32) (hval x0 x2 x3 x4 x5 s 3 (ix3 0 r l))) := by
  have hold : k1_pay35 j (View.ld s' rT) (ix2 r l) = if j = 0#32 then (0 : EReal) else s' (ix2 r l) := by
    rw [ld_rT]
    by_cases h : j = 0#32
    · subst h; rw [if_pos rfl]; exact Ideal.ofBits_zero_f32
    · rw [if_neg h]
      have hc : Scalar.cmpi .eq j 0#32 = 0#1 := by
        show BitVec.ofBool (j == 0#32) = 0#1
        rw [beq_false_of_ne h]; rfl
      show Scalar.select (Scalar.cmpi .eq j 0#32) _ s' (ix2 r l) = _
      rw [hc]; rfl
  rw [← hold]
  unfold amax
  simp only [hval]
  pointwise [k1_pay9, k1_pay42, k1_pay39, k1_pay41, k1_pay6, k1_pay8]

theorem k1_rowMax (v : Vec Ideal S512x128 .f32) (r : Fin 512) (z : Fin 1) :
    k1_pay51 v (ix2 r z) = (Finset.univ : Finset (Fin 128)).fold max ⊥ fun k => v (ix2 r k) := by
  pointwise [k1_pay51]
  rw [ofBits_neg_inf]

theorem k1_inv (e : IVec S512x1 32) (r : Fin 512) (l : Fin 128) :
    k1_pay12 (F := Ideal) e (ix2 r l) = pow2 (IntOp.subi 0#32 (e (ix2 r 0))) := by
  pointwise [k1_pay12]
  rfl

/-- The scales the last column tile stores. -/
theorem hscale_apply (s : Vec Ideal S512x128 .f32) (i : S512x1.Idx) : hscale s i = pow2 (expA (k1_pay51 s i)) := by
  have e : hscale s i = pow2 (expo s i) := rfl
  rw [e, k1_exp, ld_rT]
/-- Their inverses, as spread for the stores of the codes. -/
theorem hinv_apply (s : Vec Ideal S512x128 .f32) (r : Fin 512) (l : Fin 128) :
    hinv s (ix2 r l) = pow2 (IntOp.subi 0#32 (expA (k1_pay51 s (ix2 r 0)))) := by
  unfold hinv
  rw [k1_inv, k1_exp, ld_rT]

theorem k1_code0 (T : Vec Ideal S512x128 .f32) (h : Vec Ideal S1x512x128 .f32) (r : Fin 512) (l : Fin 128) :
    k1_pay29 T h (ix2 r l) = clip (h (ix3 0 r l)) (T (ix2 r l)) := by
  pointwise [k1_pay29]
  rfl
theorem k1_code1 (T : Vec Ideal S512x128 .f32) (h : Vec Ideal S1x512x128 .f32) (r : Fin 512) (l : Fin 128) :
    k1_pay30 T h (ix2 r l) = clip (h (ix3 0 r l)) (T (ix2 r l)) := by
  pointwise [k1_pay30]
  rfl
theorem k1_code2 (T : Vec Ideal S512x128 .f32) (h : Vec Ideal S1x512x128 .f32) (r : Fin 512) (l : Fin 128) :
    k1_pay31 T h (ix2 r l) = clip (h (ix3 0 r l)) (T (ix2 r l)) := by
  pointwise [k1_pay31]
  rfl
theorem k1_code3 (T : Vec Ideal S512x128 .f32) (h : Vec Ideal S1x512x128 .f32) (r : Fin 512) (l : Fin 128) :
    k1_pay33 (k1_pay32 T h) (ix2 r l) = clip (h (ix3 0 r l)) (T (ix2 r l)) := by
  pointwise [k1_pay33, k1_pay32]
  rfl

/-- The codes of a column tile, as one function of the element. -/
def codeF (T : Vec Ideal S512x128 .f32) (H : Fin 4 → Vec Ideal S1x512x128 .f32) : Vec Ideal S512x512 .fp8e4m3 := fun y =>
  clip (H ⟨(y 1).val / 128, by have h : (y 1).val < 512 := (y 1).isLt; omega⟩ (ix3 0 (y 0) ⟨(y 1).val % 128, Nat.mod_lt _ (by decide)⟩))
    (T (ix2 (y 0) ⟨(y 1).val % 128, Nat.mod_lt _ (by decide)⟩))

theorem codeF_eq (T : Vec Ideal S512x128 .f32) (H : Fin 4 → Vec Ideal S1x512x128 .f32) (y : S512x512.Idx) (r : Fin 512) (q : Fin 4) (l : Fin 128)
    (h0 : (y 0).val = r.val) (h1 : (y 1).val = 128 * q.val + l.val) : codeF T H y = clip (H q (ix3 0 r l)) (T (ix2 r l)) := by
  have e0 : y 0 = r := Fin.ext h0
  have e1 : (⟨(y 1).val / 128, by have h : (y 1).val < 512 := (y 1).isLt; omega⟩ : Fin 4) = q := Fin.ext (by show (y 1).val / 128 = q.val; omega)
  have e2 : (⟨(y 1).val % 128, Nat.mod_lt _ (by decide)⟩ : Fin 128) = l := Fin.ext (by show (y 1).val % 128 = l.val; omega)
  unfold codeF
  rw [e1, e2]
  exact congrArg (fun z => clip (H q (ix3 0 z l)) (T (ix2 z l))) e0

theorem eta2 {m n : ℕ} (x : (⟨2, ![m, n]⟩ : Shape).Idx) : x = ix2 (x 0) (x 1) := by
  funext a
  match a with
  | ⟨0, _⟩ => rfl
  | ⟨1, _⟩ => rfl

/-- The codes of a column tile, at an element. -/
theorem codes_apply (T : Vec Ideal S512x128 .f32) (H : Fin 4 → Vec Ideal S1x512x128 .f32) (y : S512x512.Idx) : codes T H y = codeF T H y := by
  unfold codes
  rw [ld_rT]
  refine View.canon_apply_of_pieces (codeF T H) _ ?_ y (cover_codes _ _ _ _ y)
  intro p hp
  simp only [List.mem_cons, List.mem_nil_iff, or_false] at hp
  have hx : ∀ x : S512x128.Idx, x = ix2 (n0 := 512) (n1 := 128) (x 0) (x 1) := fun x => eta2 x
  rcases hp with rfl | rfl | rfl | rfl <;> intro x
  · exact ((congrArg (k1_pay33 (k1_pay32 T (H 3))) (hx x)).trans (k1_code3 T (H 3) (x 0) (x 1))).trans
      (codeF_eq T H _ (x 0) 3 (x 1) (by show 0 + 1 * (x 0).val = _; omega) (by show 384 + 1 * (x 1).val = 128 * 3 + _; omega)).symm
  · exact ((congrArg (k1_pay31 T (H 2)) (hx x)).trans (k1_code2 T (H 2) (x 0) (x 1))).trans
      (codeF_eq T H _ (x 0) 2 (x 1) (by show 0 + 1 * (x 0).val = _; omega) (by show 256 + 1 * (x 1).val = 128 * 2 + _; omega)).symm
  · exact ((congrArg (k1_pay30 T (H 1)) (hx x)).trans (k1_code1 T (H 1) (x 0) (x 1))).trans
      (codeF_eq T H _ (x 0) 1 (x 1) (by show 0 + 1 * (x 0).val = _; omega) (by show 128 + 1 * (x 1).val = 128 * 1 + _; omega)).symm
  · exact ((congrArg (k1_pay29 T (H 0)) (hx x)).trans (k1_code0 T (H 0) (x 0) (x 1))).trans
      (codeF_eq T H _ (x 0) 0 (x 1) (by show 0 + 1 * (x 0).val = _; omega) (by show 0 + 1 * (x 1).val = 128 * 0 + _; omega)).symm

/-- The spread of the row scales. -/
theorem k1_spread (v : Vec Ideal S512x1 .f32) (r : Fin 512) (l : Fin 128) : k1_pay1 v (ix2 r l) = v (ix2 r 0) := by
  pointwise [k1_pay1]

/-! ## The first call's results, at an element -/

theorem out0_2_apply (x : Vec Ideal S256x4608 .bf16) (r : Fin 256) (z : Fin 1) :
    out0_2 x (ix2 r z) = pow2 (expA (rowMax fun k : Fin 4608 => x (ix2 r k))) := by
  have e : out0_2 x = k0_pay30 (F := Ideal) (k0_pay33 x) (k0_pay34 x) (k0_pay35 x) :=
    View.canon_unit_zero (S := S256x1) zeros2 inb_S256x1_S256x1_0_0 _
  have ex : View.ld x r0_0 = x := View.ld_unit_zero (S := S256x4608) zeros2 inb_S256x4608_S256x4608_0_0 x
  rw [e, k0_scale, k0_exp, ex, k0_rowMax]
theorem out0_1_apply (x : Vec Ideal S256x4608 .bf16) (r : Fin 256) (k : Fin 4608) :
    out0_1 x (ix2 r k) = clip (x (ix2 r k)) (pow2 (IntOp.subi 0#32 (expA (rowMax fun k : Fin 4608 => x (ix2 r k))))) := by
  have ex : View.ld x r0_0 = x := View.ld_unit_zero (S := S256x4608) zeros2 inb_S256x4608_S256x4608_0_0 x
  have e : out0_1 x = k0_pay31 (k0_pay1 (View.ld x r0_0)) (k0_pay33 x) (k0_pay34 x) (k0_pay35 x) :=
    View.canon_unit_zero (S := S256x4608) zeros2 inb_S256x4608_S256x4608_0_0 _
  have e1 : k0_pay1 x (ix2 r k) = x (ix2 r k) := by pointwise [k0_pay1]
  rw [e, k0_code, k0_exp, ex, k0_rowMax, e1]

end Cert.KernelIdeal.Gen
-- ==== Proof.Value.Blocks.lean ====
/- The windows' blocks, read as elements of their arrays. -/
module

public import proofs.«01_k».proof.Proof.Value.Rows

@[expose] public section

set_option maxRecDepth 16384

noncomputable section

namespace Cert.KernelIdeal.Gen

open Idealize.ShloMosaic Idealize.ShloMosaic.TcCoe Cert.Value

variable (V : (c : Dev nD) → (b : Ref sig .tc) → Buf (Elt Ideal) ((c : Thread nD τ).loc b))

/-! ## Where each window's block sits -/

theorem index0_0 : ∀ t : Fin cfg0.N, win0_0.index t 0 = t.val ∧ win0_0.index t 1 = 0 := by decide +kernel
theorem index0_1 : ∀ t : Fin cfg0.N, win0_1.index t 0 = t.val ∧ win0_1.index t 1 = 0 := by decide +kernel
theorem index0_2 : ∀ t : Fin cfg0.N, win0_2.index t 0 = t.val ∧ win0_2.index t 1 = 0 := by decide +kernel
theorem N0 : cfg0.N = 96 := by decide +kernel

theorem index1_0 : ∀ t : Fin cfg1.N, win1_0.index t 0 = min (t.val / 36) 47 ∧ win1_0.index t 1 = 0 := by decide +kernel
theorem index1_1 : ∀ t : Fin cfg1.N, win1_1.index t 0 = min (t.val / 36) 47 ∧ win1_1.index t 1 = 0 := by decide +kernel
theorem index1_2 : ∀ t : Fin cfg1.N, win1_2.index t 0 = 0 ∧ win1_2.index t 1 = if t.val / 36 = 48 then 35 else t.val % 36 := by decide +kernel
theorem index1_3 : ∀ t : Fin cfg1.N, win1_3.index t 0 = 0 ∧ win1_3.index t 1 = 36 + if t.val / 36 = 48 then 35 else t.val % 36 := by decide +kernel
theorem index1_4 : ∀ t : Fin cfg1.N, win1_4.index t 0 = 0 ∧ win1_4.index t 1 = if t.val / 36 = 48 then 35 else t.val % 36 := by decide +kernel
theorem index1_5 : ∀ t : Fin cfg1.N, win1_5.index t 0 = 0 ∧ win1_5.index t 1 = 36 + if t.val / 36 = 48 then 35 else t.val % 36 := by decide +kernel
theorem index1_6 : ∀ t : Fin cfg1.N, win1_6.index t 0 = t.val / 36 - 1 ∧ win1_6.index t 1 = if t.val / 36 = 0 then 0 else t.val % 36 := by decide +kernel
theorem index1_7 : ∀ t : Fin cfg1.N, win1_7.index t 0 = min (t.val / 36) 47 ∧ win1_7.index t 1 = 0 := by decide +kernel
theorem flushes1_6 : ∀ t : Fin cfg1.N, t.val / 36 ≠ 0 → (cfg1.win 6).flush t = true := by decide +kernel
theorem flushes1_7 : ∀ t : Fin cfg1.N, t.val % 36 = 35 → t.val / 36 ≠ 47 → (cfg1.win 7).flush t = true := by decide +kernel

theorem iblk0_0_apply (c : Dev nD) (t : Fin cfg0.N) (a : Fin 256) (b : Fin 4608) (R : Fin 24576) (C : Fin 4608) (hR : R.val = t.val * 256 + a.val)
    (hC : C.val = 0 * 4608 + b.val) : iblk0 V c 0 t (ix2 a b) = V c main_v0 (ix2 R C) := by
  refine congrArg (V c main_v0) (funext fun x => ?_)
  match x with
  | ⟨0, _⟩ =>
    refine Fin.ext ((win0_0.rect_emb_val t (ix2 a b) 0).trans ?_)
    rw [(index0_0 t).1]
    exact hR.symm
  | ⟨1, _⟩ =>
    refine Fin.ext ((win0_0.rect_emb_val t (ix2 a b) 1).trans ?_)
    rw [(index0_0 t).2]
    exact hC.symm

theorem iblk1_0_apply (c : Dev nD) (t : Fin cfg1.N) (a : Fin 512) (b : Fin 4608) (R : Fin 24576) (C : Fin 4608) (ht : t.val / 36 < 48) (hR : R.val = (t.val / 36) * 512 + a.val)
    (hC : C.val = 0 * 4608 + b.val) : iblk1 V c 0 t (ix2 a b) = V c main_v2_0 (ix2 R C) := by
  refine congrArg (V c main_v2_0) (funext fun x => ?_)
  match x with
  | ⟨0, _⟩ =>
    refine Fin.ext ((win1_0.rect_emb_val t (ix2 a b) 0).trans ?_)
    rw [(index1_0 t).1, min_eq_left (by omega)]
    exact hR.symm
  | ⟨1, _⟩ =>
    refine Fin.ext ((win1_0.rect_emb_val t (ix2 a b) 1).trans ?_)
    rw [(index1_0 t).2]
    exact hC.symm

theorem iblk1_1_apply (c : Dev nD) (t : Fin cfg1.N) (a : Fin 512) (b : Fin 1) (R : Fin 24576) (C : Fin 1) (ht : t.val / 36 < 48) (hR : R.val = (t.val / 36) * 512 + a.val)
    (hC : C.val = 0 * 1 + b.val) : iblk1 V c 1 t (ix2 a b) = V c main_v2_1 (ix2 R C) := by
  refine congrArg (V c main_v2_1) (funext fun x => ?_)
  match x with
  | ⟨0, _⟩ =>
    refine Fin.ext ((win1_1.rect_emb_val t (ix2 a b) 0).trans ?_)
    rw [(index1_1 t).1, min_eq_left (by omega)]
    exact hR.symm
  | ⟨1, _⟩ =>
    refine Fin.ext ((win1_1.rect_emb_val t (ix2 a b) 1).trans ?_)
    rw [(index1_1 t).2]
    exact hC.symm

theorem iblk1_2_apply (c : Dev nD) (t : Fin cfg1.N) (a : Fin 4608) (b : Fin 512) (R : Fin 4608) (C : Fin 36864) (ht : t.val / 36 < 48) (hR : R.val = 0 * 4608 + a.val)
    (hC : C.val = (t.val % 36) * 512 + b.val) : iblk1 V c 2 t (ix2 a b) = V c main_arg1 (ix2 R C) := by
  refine congrArg (V c main_arg1) (funext fun x => ?_)
  match x with
  | ⟨0, _⟩ =>
    refine Fin.ext ((win1_2.rect_emb_val t (ix2 a b) 0).trans ?_)
    rw [(index1_2 t).1]
    exact hR.symm
  | ⟨1, _⟩ =>
    refine Fin.ext ((win1_2.rect_emb_val t (ix2 a b) 1).trans ?_)
    rw [(index1_2 t).2, if_neg (by omega)]
    exact hC.symm

theorem iblk1_3_apply (c : Dev nD) (t : Fin cfg1.N) (a : Fin 4608) (b : Fin 512) (R : Fin 4608) (C : Fin 36864) (ht : t.val / 36 < 48) (hR : R.val = 0 * 4608 + a.val)
    (hC : C.val = (36 + t.val % 36) * 512 + b.val) : iblk1 V c 3 t (ix2 a b) = V c main_arg1 (ix2 R C) := by
  refine congrArg (V c main_arg1) (funext fun x => ?_)
  match x with
  | ⟨0, _⟩ =>
    refine Fin.ext ((win1_3.rect_emb_val t (ix2 a b) 0).trans ?_)
    rw [(index1_3 t).1]
    exact hR.symm
  | ⟨1, _⟩ =>
    refine Fin.ext ((win1_3.rect_emb_val t (ix2 a b) 1).trans ?_)
    rw [(index1_3 t).2, if_neg (by omega)]
    exact hC.symm

theorem iblk1_4_apply (c : Dev nD) (t : Fin cfg1.N) (a : Fin 1) (b : Fin 512) (R : Fin 1) (C : Fin 36864) (ht : t.val / 36 < 48) (hR : R.val = 0 * 1 + a.val)
    (hC : C.val = (t.val % 36) * 512 + b.val) : iblk1 V c 4 t (ix2 a b) = V c main_v1 (ix2 R C) := by
  refine congrArg (V c main_v1) (funext fun x => ?_)
  match x with
  | ⟨0, _⟩ =>
    refine Fin.ext ((win1_4.rect_emb_val t (ix2 a b) 0).trans ?_)
    rw [(index1_4 t).1]
    exact hR.symm
  | ⟨1, _⟩ =>
    refine Fin.ext ((win1_4.rect_emb_val t (ix2 a b) 1).trans ?_)
    rw [(index1_4 t).2, if_neg (by omega)]
    exact hC.symm

theorem iblk1_5_apply (c : Dev nD) (t : Fin cfg1.N) (a : Fin 1) (b : Fin 512) (R : Fin 1) (C : Fin 36864) (ht : t.val / 36 < 48) (hR : R.val = 0 * 1 + a.val)
    (hC : C.val = (36 + t.val % 36) * 512 + b.val) : iblk1 V c 5 t (ix2 a b) = V c main_v1 (ix2 R C) := by
  refine congrArg (V c main_v1) (funext fun x => ?_)
  match x with
  | ⟨0, _⟩ =>
    refine Fin.ext ((win1_5.rect_emb_val t (ix2 a b) 0).trans ?_)
    rw [(index1_5 t).1]
    exact hR.symm
  | ⟨1, _⟩ =>
    refine Fin.ext ((win1_5.rect_emb_val t (ix2 a b) 1).trans ?_)
    rw [(index1_5 t).2, if_neg (by omega)]
    exact hC.symm

/-! ## `h` over the arrays -/

/-- An element of `h`: row `R`, column `C`, from the codes and row scales the first call left, the weights and their scales. -/
def hK (c : Dev nD) (R : Fin 24576) (C : Fin 18432) : EReal :=
  hElem (fun k : Fin 4608 => V c main_v2_0 (ix2 R k)) (fun k => V c main_arg1 (ix2 k (⟨C.val, by omega⟩ : Fin 36864)))
    (fun k => V c main_arg1 (ix2 k (⟨18432 + C.val, by omega⟩ : Fin 36864))) (V c main_v2_1 (ix2 R (0 : Fin 1)))
    (V c main_v1 (ix2 (0 : Fin 1) (⟨C.val, by omega⟩ : Fin 36864))) (V c main_v1 (ix2 (0 : Fin 1) (⟨18432 + C.val, by omega⟩ : Fin 36864)))

theorem pt_val {i j : ℕ} (hi : i < 48) (hj : j < 36) : (pt i j).val = 36 * i + j := by
  show (36 * i + j) % 1764 = _
  omega

theorem sp_apply (c : Dev nD) {i : ℕ} (hi : i < 48) (r : Fin 512) (l : Fin 128) (R : Fin 24576) (hR : R.val = i * 512 + r.val) :
    sp V c i (ix2 r l) = V c main_v2_1 (ix2 R (0 : Fin 1)) := by
  have hp := pt_val hi (show 0 < 36 by omega)
  have ex : View.ld (iblk1 V c 1 (pt i 0)) rR = iblk1 V c 1 (pt i 0) := View.ld_unit_zero (S := S512x1) zeros2 inb_S512x1_S512x1_0_0 _
  unfold sp
  rw [ex, k1_spread]
  exact iblk1_1_apply V c (pt i 0) r 0 R 0 (by rw [hp]; omega) (by rw [hp, hR]; omega) (by rfl)

theorem hh_apply (c : Dev nD) {i j : ℕ} (hi : i < 48) (hj : j < 36) (q : Fin 4) (z : Fin 1) (r : Fin 512) (l : Fin 128) (R : Fin 24576) (C : Fin 18432)
    (hR : R.val = i * 512 + r.val) (hC : C.val = j * 512 + (128 * q.val + l.val)) : hh V c i j q (ix3 z r l) = hK V c R C := by
  have hp := pt_val hi hj
  have h0 : (pt i j).val / 36 < 48 := by rw [hp]; omega
  have hq : (pt i j).val / 36 = i := by rw [hp]; omega
  have hm : (pt i j).val % 36 = j := by rw [hp]; omega
  unfold hh
  rw [hval_apply, sp_apply V c hi r l R hR]
  unfold hK
  have e0 : ∀ k : Fin 4608, iblk1 V c 0 (pt i j) (ix2 r k) = V c main_v2_0 (ix2 R k) := fun k =>
    iblk1_0_apply V c (pt i j) r k R k h0 (by rw [hq, hR]) (by omega)
  have e2 : ∀ k : Fin 4608, iblk1 V c 2 (pt i j) (ix2 k (tcol q l)) = V c main_arg1 (ix2 k (⟨C.val, by omega⟩ : Fin 36864)) := fun k =>
    iblk1_2_apply V c (pt i j) k (tcol q l) k ⟨C.val, by omega⟩ h0 (by omega) (by rw [hm]; exact hC)
  have e3 : ∀ k : Fin 4608, iblk1 V c 3 (pt i j) (ix2 k (tcol q l)) = V c main_arg1 (ix2 k (⟨18432 + C.val, by omega⟩ : Fin 36864)) := fun k =>
    iblk1_3_apply V c (pt i j) k (tcol q l) k ⟨18432 + C.val, by omega⟩ h0 (by omega)
      (by rw [hm]; show 18432 + C.val = (36 + j) * 512 + (128 * q.val + l.val); omega)
  have e4 : iblk1 V c 4 (pt i j) (ix2 0 (tcol q l)) = V c main_v1 (ix2 (0 : Fin 1) (⟨C.val, by omega⟩ : Fin 36864)) :=
    iblk1_4_apply V c (pt i j) 0 (tcol q l) 0 ⟨C.val, by omega⟩ h0 (by rfl) (by rw [hm]; exact hC)
  have e5 : iblk1 V c 5 (pt i j) (ix2 0 (tcol q l)) = V c main_v1 (ix2 (0 : Fin 1) (⟨18432 + C.val, by omega⟩ : Fin 36864)) :=
    iblk1_5_apply V c (pt i j) 0 (tcol q l) 0 ⟨18432 + C.val, by omega⟩ h0 (by rfl)
      (by rw [hm]; show 18432 + C.val = (36 + j) * 512 + (128 * q.val + l.val); omega)
  rw [show (fun k : Fin 4608 => iblk1 V c 0 (pt i j) (ix2 r k)) = _ from funext e0, show (fun k : Fin 4608 => iblk1 V c 2 (pt i j) (ix2 k (tcol q l))) = _ from funext e2,
    show (fun k : Fin 4608 => iblk1 V c 3 (pt i j) (ix2 k (tcol q l))) = _ from funext e3, e4, e5]

/-! ## The running maximum is the row's maximum -/

theorem am_le (c : Dev nD) (i : ℕ) (r : Fin 512) (l : Fin 128) (B : EReal) : ∀ n : ℕ, n ≤ 36 →
    (am V c i n (ix2 r l) ≤ B ↔ 0 ≤ B ∧ ∀ j < n, ∀ q : Fin 4, FloatOps.absf (F := Ideal) (φ := .f32) (hh V c i j q (ix3 0 r l)) ≤ B)
  | 0, _ => by
    have e : am V c i 0 (ix2 r l) = (0 : EReal) := Ideal.ofBits_zero_f32
    rw [e]
    exact ⟨fun h => ⟨h, fun j hj => absurd hj (Nat.not_lt_zero j)⟩, fun h => h.1⟩
  | n + 1, hn => by
    have ih := am_le c i r l B n (by omega)
    have e : am V c i (n + 1) (ix2 r l) = _ := amax_apply (BitVec.ofNat 32 n) _ _ _ _ _ _ (am V c i n) r l
    have hold : (if BitVec.ofNat 32 n = 0#32 then (0 : EReal) else am V c i n (ix2 r l)) = am V c i n (ix2 r l) := by
      split
      · rename_i h0
        have hn0 : n = 0 := by
          have := congrArg BitVec.toNat h0
          simp at this; omega
        subst hn0
        exact Ideal.ofBits_zero_f32.symm
      · rfl
    rw [e, hold]
    change max (max (max (max (am V c i n (ix2 r l)) (FloatOps.absf (F := Ideal) (φ := .f32) (hh V c i n 0 (ix3 0 r l)))) (FloatOps.absf (F := Ideal) (φ := .f32) (hh V c i n 1 (ix3 0 r l))))
      (FloatOps.absf (F := Ideal) (φ := .f32) (hh V c i n 2 (ix3 0 r l)))) (FloatOps.absf (F := Ideal) (φ := .f32) (hh V c i n 3 (ix3 0 r l))) ≤ B ↔ _
    rw [max_le_iff, max_le_iff, max_le_iff, max_le_iff, ih]
    constructor
    · rintro ⟨⟨⟨⟨⟨hB, ho⟩, a0⟩, a1⟩, a2⟩, a3⟩
      refine ⟨hB, fun j hj q => ?_⟩
      rcases Nat.lt_succ_iff_lt_or_eq.mp hj with h | rfl
      · exact ho j h q
      · match q with
        | ⟨0, _⟩ => exact a0
        | ⟨1, _⟩ => exact a1
        | ⟨2, _⟩ => exact a2
        | ⟨3, _⟩ => exact a3
    · rintro ⟨hB, ho⟩
      exact ⟨⟨⟨⟨⟨hB, fun j hj q => ho j (by omega) q⟩, ho n (by omega) 0⟩, ho n (by omega) 1⟩, ho n (by omega) 2⟩, ho n (by omega) 3⟩

theorem absf_nonneg (x : EReal) : 0 ≤ FloatOps.absf (F := Ideal) (φ := .f32) x := by
  show 0 ≤ max x (-x)
  rcases le_total 0 x with h | h
  · exact le_max_of_le_left h
  · exact le_max_of_le_right (EReal.neg_nonneg.mpr h)

theorem am_rowMax (c : Dev nD) {i : ℕ} (hi : i < 48) (r : Fin 512) (z : Fin 1) (R : Fin 24576) (hR : R.val = i * 512 + r.val) :
    k1_pay51 (am V c i 36) (ix2 r z) = rowMax (hK V c R) := by
  rw [k1_rowMax]
  refine eq_of_forall_ge_iff fun B => ?_
  unfold rowMax
  rw [Finset.fold_max_le, Finset.fold_max_le]
  simp only [am_le V c i r _ B 36 le_rfl, bot_le, true_and, Finset.mem_univ, forall_true_left]
  constructor
  · intro h C
    have h1 := (h ⟨C.val % 128, Nat.mod_lt _ (by decide)⟩).2 (C.val / 512) (by omega) ⟨C.val % 512 / 128, by omega⟩
    rwa [hh_apply V c hi (by omega) _ _ _ _ R C hR (by show C.val = C.val / 512 * 512 + (128 * (C.val % 512 / 128) + C.val % 128); omega)] at h1
  · intro h l
    refine ⟨(absf_nonneg _).trans (h 0), fun j hj q => ?_⟩
    rw [hh_apply V c hi hj q 0 r l R ⟨j * 512 + (128 * q.val + l.val), by omega⟩ hR rfl]
    exact h _

end Cert.KernelIdeal.Gen
-- ==== Proof.Value.Arrays.lean ====
/- What the kernel's two calls leave in their result arrays, over the arrays they read. -/
module

public import proofs.«01_k».proof.Proof.Value.Blocks

@[expose] public section

set_option maxRecDepth 16384

noncomputable section

namespace Cert.KernelIdeal.Gen

open Idealize.ShloMosaic Idealize.ShloMosaic.TcCoe Cert.Value

theorem forall2 {m n : ℕ} (P : (⟨2, ![m, n]⟩ : Shape).Idx → Prop) (h : ∀ (a : Fin m) (b : Fin n), P (ix2 a b)) (y : (⟨2, ![m, n]⟩ : Shape).Idx) : P y := by
  rw [eta2 y]; exact h _ _

/-! ## Where a result's block sits in its array -/

theorem emb0_1 (t : Fin cfg0.N) (a : Fin 256) (b : Fin 4608) (R : Fin 24576) (C : Fin 4608) (hR : R.val = t.val * 256 + a.val)
    (hC : C.val = 0 * 4608 + b.val) : (((cfg0.win 1).blk t).view.emb (ix2 a b : S256x4608.Idx) : S24576x4608.Idx) = ix2 R C := by
  funext x
  match x with
  | ⟨0, _⟩ =>
    refine Fin.ext ((win0_1.rect_emb_val t (ix2 a b) 0).trans ?_)
    rw [(index0_1 t).1]
    exact hR.symm
  | ⟨1, _⟩ =>
    refine Fin.ext ((win0_1.rect_emb_val t (ix2 a b) 1).trans ?_)
    rw [(index0_1 t).2]
    exact hC.symm

theorem emb0_2 (t : Fin cfg0.N) (a : Fin 256) (b : Fin 1) (R : Fin 24576) (C : Fin 1) (hR : R.val = t.val * 256 + a.val)
    (hC : C.val = 0 * 1 + b.val) : (((cfg0.win 2).blk t).view.emb (ix2 a b : S256x1.Idx) : S24576x1.Idx) = ix2 R C := by
  funext x
  match x with
  | ⟨0, _⟩ =>
    refine Fin.ext ((win0_2.rect_emb_val t (ix2 a b) 0).trans ?_)
    rw [(index0_2 t).1]
    exact hR.symm
  | ⟨1, _⟩ =>
    refine Fin.ext ((win0_2.rect_emb_val t (ix2 a b) 1).trans ?_)
    rw [(index0_2 t).2]
    exact hC.symm

theorem emb1_6 (t : Fin cfg1.N) (a : Fin 512) (b : Fin 512) (R : Fin 24576) (C : Fin 18432) (h : t.val / 36 ≠ 0) (hR : R.val = (t.val / 36 - 1) * 512 + a.val)
    (hC : C.val = (t.val % 36) * 512 + b.val) : (((cfg1.win 6).blk t).view.emb (ix2 a b : S512x512.Idx) : S24576x18432.Idx) = ix2 R C := by
  funext x
  match x with
  | ⟨0, _⟩ =>
    refine Fin.ext ((win1_6.rect_emb_val t (ix2 a b) 0).trans ?_)
    rw [(index1_6 t).1]
    exact hR.symm
  | ⟨1, _⟩ =>
    refine Fin.ext ((win1_6.rect_emb_val t (ix2 a b) 1).trans ?_)
    rw [(index1_6 t).2, if_neg h]
    exact hC.symm

theorem emb1_7 (t : Fin cfg1.N) (a : Fin 512) (b : Fin 1) (R : Fin 24576) (C : Fin 1) (hR : R.val = (min (t.val / 36) 47) * 512 + a.val)
    (hC : C.val = 0 * 1 + b.val) : (((cfg1.win 7).blk t).view.emb (ix2 a b : S512x1.Idx) : S24576x1.Idx) = ix2 R C := by
  funext x
  match x with
  | ⟨0, _⟩ =>
    refine Fin.ext ((win1_7.rect_emb_val t (ix2 a b) 0).trans ?_)
    rw [(index1_7 t).1]
    exact hR.symm
  | ⟨1, _⟩ =>
    refine Fin.ext ((win1_7.rect_emb_val t (ix2 a b) 1).trans ?_)
    rw [(index1_7 t).2]
    exact hC.symm

variable (V : (c : Dev nD) → (b : Ref sig .tc) → Buf (Elt Ideal) ((c : Thread nD τ).loc b))

/-! ## The first call -/

/-- The rows of `x`, as the first call reads them. -/
def xOf (c : Dev nD) (R : Fin 24576) (k : Fin 4608) : EReal := V c main_v0 (ix2 R k)

theorem row0 (c : Dev nD) (t : Fin cfg0.N) (a : Fin 256) (R : Fin 24576) (h : R.val = t.val * 256 + a.val) :
    (fun k : Fin 4608 => iblk0 V c 0 t (ix2 a k)) = xOf V c R :=
  funext fun k => iblk0_0_apply V c t a k R k h (by omega)

/-- The codes of `x` the first call leaves. -/
theorem arr0_1 (pw : Fin 254 → EReal) (hpw : Table pw) (c : Dev nD) :
    (dat0 V c).arrAt 1 cfg0.N = (fun y : S24576x4608.Idx => xCode pw (xOf V c) (y 0) (y 1) : Vec Ideal S24576x4608 .fp8e4m3) := by
  have key : ∀ (t : Fin cfg0.N) (a : Fin 256) (b : Fin 4608), out0_1 (iblk0 V c 0 t) (ix2 a b)
      = (fun y : S24576x4608.Idx => xCode pw (xOf V c) (y 0) (y 1) : Vec Ideal S24576x4608 .fp8e4m3) (((cfg0.win 1).blk t).view.emb (ix2 a b : S256x4608.Idx)) := by
    intro t a b
    have hN : t.val < 96 := N0 ▸ t.isLt
    refine Eq.trans ?_ (congrArg (fun y : S24576x4608.Idx => xCode pw (xOf V c) (y 0) (y 1)) (emb0_1 t a b ⟨t.val * 256 + a.val, by omega⟩ b rfl (by omega))).symm
    rw [out0_1_apply, pow2_neg_expA pw hpw, row0 V c t a ⟨t.val * 256 + a.val, by omega⟩ rfl,
      show iblk0 V c 0 t (ix2 a b) = xOf V c ⟨t.val * 256 + a.val, by omega⟩ b from congrFun (row0 V c t a _ rfl) b]
    rfl
  refine (dat0 V c).arrAt_eq_of_cover 1 _ (fun t _ => funext (forall2 (m := 256) (n := 4608) _ fun a b => ?_)) (forall2 (m := 24576) (n := 4608) _ fun R k => ?_)
  · exact (congrFun (after0_1 V c t) (ix2 a b)).trans (key t a b)
  · have ht : R.val / 256 < cfg0.N := by have := N0; omega
    refine ⟨⟨R.val / 256, ht⟩, flush0_1 _, ?_⟩
    have h := (((cfg0.win 1).blk ⟨R.val / 256, ht⟩).view).emb_mem_set (ix2 (⟨R.val % 256, Nat.mod_lt _ (by decide)⟩ : Fin 256) k : S256x4608.Idx)
    exact (emb0_1 ⟨R.val / 256, ht⟩ ⟨R.val % 256, Nat.mod_lt _ (by decide)⟩ k R k (by show R.val = R.val / 256 * 256 + R.val % 256; omega) (by omega)) ▸ h

/-- The row scales of `x` the first call leaves. -/
theorem arr0_2 (pw : Fin 254 → EReal) (hpw : Table pw) (c : Dev nD) :
    (dat0 V c).arrAt 2 cfg0.N = (fun y : S24576x1.Idx => xScale pw (xOf V c) (y 0) : Vec Ideal S24576x1 .f32) := by
  have key : ∀ (t : Fin cfg0.N) (a : Fin 256) (b : Fin 1), out0_2 (iblk0 V c 0 t) (ix2 a b)
      = (fun y : S24576x1.Idx => xScale pw (xOf V c) (y 0) : Vec Ideal S24576x1 .f32) (((cfg0.win 2).blk t).view.emb (ix2 a b : S256x1.Idx)) := by
    intro t a b
    have hN : t.val < 96 := N0 ▸ t.isLt
    refine Eq.trans ?_ (congrArg (fun y : S24576x1.Idx => xScale pw (xOf V c) (y 0)) (emb0_2 t a b ⟨t.val * 256 + a.val, by omega⟩ b rfl (by omega))).symm
    rw [out0_2_apply, pow2_expA pw hpw, row0 V c t a ⟨t.val * 256 + a.val, by omega⟩ rfl]
    rfl
  refine (dat0 V c).arrAt_eq_of_cover 2 _ (fun t _ => funext (forall2 (m := 256) (n := 1) _ fun a b => ?_)) (forall2 (m := 24576) (n := 1) _ fun R k => ?_)
  · exact (congrFun (after0_2 V c t) (ix2 a b)).trans (key t a b)
  · have ht : R.val / 256 < cfg0.N := by have := N0; omega
    refine ⟨⟨R.val / 256, ht⟩, flush0_2 _, ?_⟩
    have h := (((cfg0.win 2).blk ⟨R.val / 256, ht⟩).view).emb_mem_set (ix2 (⟨R.val % 256, Nat.mod_lt _ (by decide)⟩ : Fin 256) k : S256x1.Idx)
    exact (emb0_2 ⟨R.val / 256, ht⟩ ⟨R.val % 256, Nat.mod_lt _ (by decide)⟩ k R k (by show R.val = R.val / 256 * 256 + R.val % 256; omega) (by omega)) ▸ h

/-! ## The second call -/

/-- The scales of `h` the second call leaves. -/
theorem arr1_7 (pw : Fin 254 → EReal) (hpw : Table pw) (c : Dev nD) :
    (dat1 V c).arrAt 7 cfg1.N = (fun y : S24576x1.Idx => scaleOf pw (hK V c (y 0)) : Vec Ideal S24576x1 .f32) := by
  have key : ∀ (t : Fin cfg1.N) (a : Fin 512) (b : Fin 1), sc V c (min (t.val / 36) 47) (ix2 a b)
      = (fun y : S24576x1.Idx => scaleOf pw (hK V c (y 0)) : Vec Ideal S24576x1 .f32) (((cfg1.win 7).blk t).view.emb (ix2 a b : S512x1.Idx)) := by
    intro t a b
    have hR : min (t.val / 36) 47 * 512 + a.val < 24576 := by omega
    refine Eq.trans ?_ (congrArg (fun y : S24576x1.Idx => scaleOf pw (hK V c (y 0))) (emb1_7 t a b ⟨min (t.val / 36) 47 * 512 + a.val, hR⟩ b rfl (by omega))).symm
    unfold sc
    rw [hscale_apply, pow2_expA pw hpw, am_rowMax V c (by omega) a b ⟨min (t.val / 36) 47 * 512 + a.val, hR⟩ rfl]
    rfl
  refine (dat1 V c).arrAt_eq_of_cover 7 _ (fun t _ => funext (forall2 (m := 512) (n := 1) _ fun a b => ?_)) (forall2 (m := 24576) (n := 1) _ fun R k => ?_)
  · exact (congrFun (after1_7 V c t) (ix2 a b)).trans (key t a b)
  · have ht : (if R.val / 512 = 47 then 48 else R.val / 512) * 36 + 35 < cfg1.N := by have := N1; split <;> omega
    have hd : ((if R.val / 512 = 47 then 48 else R.val / 512) * 36 + 35) / 36 = if R.val / 512 = 47 then 48 else R.val / 512 := by omega
    have hm : ((if R.val / 512 = 47 then 48 else R.val / 512) * 36 + 35) % 36 = 35 := by omega
    refine ⟨⟨(if R.val / 512 = 47 then 48 else R.val / 512) * 36 + 35, ht⟩, flushes1_7 _ (by show _ % 36 = 35; exact hm) (by show _ / 36 ≠ 47; rw [hd]; split <;> omega), ?_⟩
    have h := (((cfg1.win 7).blk ⟨(if R.val / 512 = 47 then 48 else R.val / 512) * 36 + 35, ht⟩).view).emb_mem_set (ix2 (⟨R.val % 512, Nat.mod_lt _ (by decide)⟩ : Fin 512) k : S512x1.Idx)
    exact (emb1_7 ⟨(if R.val / 512 = 47 then 48 else R.val / 512) * 36 + 35, ht⟩ ⟨R.val % 512, Nat.mod_lt _ (by decide)⟩ k R k
      (by show R.val = min (((if R.val / 512 = 47 then 48 else R.val / 512) * 36 + 35) / 36) 47 * 512 + R.val % 512; rw [hd]; split <;> omega) (by omega)) ▸ h

/-- The codes of `h` the second call leaves. -/
theorem arr1_6 (pw : Fin 254 → EReal) (hpw : Table pw) (c : Dev nD) :
    (dat1 V c).arrAt 6 cfg1.N = (fun y : S24576x18432.Idx => clip (hK V c (y 0) (y 1)) (Ideal.div 1 (scaleOf pw (hK V c (y 0)))) : Vec Ideal S24576x18432 .fp8e4m3) := by
  have key : ∀ (t : Fin cfg1.N) (_ : t.val / 36 ≠ 0) (a : Fin 512) (b : Fin 512), cd V c (t.val / 36 - 1) (t.val % 36) (ix2 a b)
      = (fun y : S24576x18432.Idx => clip (hK V c (y 0) (y 1)) (Ideal.div 1 (scaleOf pw (hK V c (y 0)))) : Vec Ideal S24576x18432 .fp8e4m3)
        (((cfg1.win 6).blk t).view.emb (ix2 a b : S512x512.Idx)) := by
    intro t h0 a b
    have hN : t.val < 1764 := N1 ▸ t.isLt
    have hR : (t.val / 36 - 1) * 512 + a.val < 24576 := by omega
    have hC : t.val % 36 * 512 + b.val < 18432 := by omega
    refine Eq.trans ?_ (congrArg (fun y : S24576x18432.Idx => clip (hK V c (y 0) (y 1)) (Ideal.div 1 (scaleOf pw (hK V c (y 0)))))
      (emb1_6 t a b ⟨(t.val / 36 - 1) * 512 + a.val, hR⟩ ⟨t.val % 36 * 512 + b.val, hC⟩ h0 rfl rfl)).symm
    unfold cd iv
    rw [codes_apply, codeF_eq _ _ (ix2 a b) a ⟨b.val / 128, by omega⟩ ⟨b.val % 128, Nat.mod_lt _ (by decide)⟩ rfl (by show b.val = 128 * (b.val / 128) + b.val % 128; omega),
      hinv_apply, pow2_neg_expA pw hpw, am_rowMax V c (by omega) a 0 ⟨(t.val / 36 - 1) * 512 + a.val, hR⟩ rfl,
      hh_apply V c (by omega) (by omega) _ 0 a _ ⟨(t.val / 36 - 1) * 512 + a.val, hR⟩ ⟨t.val % 36 * 512 + b.val, hC⟩ rfl
        (by show t.val % 36 * 512 + b.val = t.val % 36 * 512 + (128 * (b.val / 128) + b.val % 128); omega)]
    rfl
  refine (dat1 V c).arrAt_eq_of_cover 6 _ (fun t hf => funext (forall2 (m := 512) (n := 512) _ fun a b => ?_)) (forall2 (m := 24576) (n := 18432) _ fun R C => ?_)
  · have h0 : t.val / 36 ≠ 0 := fun h => by rw [flush1_6 t h] at hf; exact Bool.noConfusion hf
    exact (congrFun (after1_6 V c t) (ix2 a b)).trans (key t h0 a b)
  · have ht : (R.val / 512 + 1) * 36 + C.val / 512 < cfg1.N := by have := N1; omega
    have hd : ((R.val / 512 + 1) * 36 + C.val / 512) / 36 = R.val / 512 + 1 := by omega
    have hm : ((R.val / 512 + 1) * 36 + C.val / 512) % 36 = C.val / 512 := by omega
    have h0 : (⟨(R.val / 512 + 1) * 36 + C.val / 512, ht⟩ : Fin cfg1.N).val / 36 ≠ 0 := by show _ / 36 ≠ 0; rw [hd]; omega
    refine ⟨⟨(R.val / 512 + 1) * 36 + C.val / 512, ht⟩, flushes1_6 _ h0, ?_⟩
    have h := (((cfg1.win 6).blk ⟨(R.val / 512 + 1) * 36 + C.val / 512, ht⟩).view).emb_mem_set
      (ix2 (⟨R.val % 512, Nat.mod_lt _ (by decide)⟩ : Fin 512) (⟨C.val % 512, Nat.mod_lt _ (by decide)⟩ : Fin 512) : S512x512.Idx)
    exact (emb1_6 ⟨(R.val / 512 + 1) * 36 + C.val / 512, ht⟩ ⟨R.val % 512, Nat.mod_lt _ (by decide)⟩ ⟨C.val % 512, Nat.mod_lt _ (by decide)⟩ R C h0
      (by show R.val = (((R.val / 512 + 1) * 36 + C.val / 512) / 36 - 1) * 512 + R.val % 512; omega)
      (by show C.val = ((R.val / 512 + 1) * 36 + C.val / 512) % 36 * 512 + C.val % 512; omega)) ▸ h

end Cert.KernelIdeal.Gen
-- ==== Proof.Value.Results.lean ====
/- The kernel's results, over the argument buffers. -/
module

public import proofs.«01_k».proof.Proof.Value.Arrays
public import Idealize.ShloMosaic.Lib.Claim

@[expose] public section

set_option maxRecDepth 16384

noncomputable section

namespace Cert.KernelIdeal.Gen

open Idealize.ShloMosaic Idealize.ShloMosaic.TcCoe Idealize.SL.Sem Cert.Value

variable (m : (ℓ : Loc nD τ sig) → Buf (Elt Ideal) ℓ) (ρ : Dev nD → PrngReg)

/-! ## What the calls read -/

theorem V1_main_v0 (c : Dev nD) : V1 m ρ c main_v0 = shapeCast S24576x4608 (m ((c : Thread nD τ).loc main_arg0) : Vec Ideal S3x8192x4608 .bf16) shapeCasts_S3x8192x4608_S24576x4608 := by
  show StableHlo.after hostOps0 (W0 m ρ c) (Proc.devRef .tc main_v0) = _
  entry_read
  rfl
theorem V2_main_v1 (c : Dev nD) : V2 m ρ c main_v1 = shapeCast S1x36864 (m ((c : Thread nD τ).loc main_arg2) : Vec Ideal S36864 .f32) shapeCasts_S36864_S1x36864 := by
  show W2 m ρ c (Proc.devRef .tc main_v1) = _
  rw [W2_of_ne m ρ c main_v1 (by decide)]
  show StableHlo.after hostOps0 (W0 m ρ c) (Proc.devRef .tc main_v1) = _
  entry_read
  rfl
theorem V2_main_arg1 (c : Dev nD) : V2 m ρ c main_arg1 = m ((c : Thread nD τ).loc main_arg1) := by
  show W2 m ρ c (Proc.devRef .tc main_arg1) = _
  rw [W2_of_ne m ρ c main_arg1 (by decide)]
  show StableHlo.after hostOps0 (W0 m ρ c) (Proc.devRef .tc main_arg1) = _
  entry_read
  rfl

/-! ## What @main returns -/

theorem W4_main_v4 (c : Dev nD) : W4 m ρ c (Proc.devRef .tc main_v4)
    = shapeCast S3x8192x1 (W3 m ρ c (Proc.devRef .tc main_v3_1) : Vec Ideal S24576x1 .f32) shapeCasts_S24576x1_S3x8192x1 := by
  show StableHlo.after hostOps2 (W3 m ρ c) (Proc.devRef .tc main_v4) = _
  generalize W3 m ρ c = σ
  entry_read
  rfl
theorem W4_main_v5 (c : Dev nD) : W4 m ρ c (Proc.devRef .tc main_v5)
    = shapeCast S3x8192x18432 (W3 m ρ c (Proc.devRef .tc main_v3_0) : Vec Ideal S24576x18432 .fp8e4m3) shapeCasts_S24576x18432_S3x8192x18432 := by
  show StableHlo.after hostOps2 (W3 m ρ c) (Proc.devRef .tc main_v5) = _
  generalize W3 m ρ c = σ
  entry_read
  rfl
theorem W4_main_v6 (c : Dev nD) : W4 m ρ c (Proc.devRef .tc main_v6)
    = shapeCast S3x8192x4608 (W3 m ρ c (Proc.devRef .tc main_v2_0) : Vec Ideal S24576x4608 .fp8e4m3) shapeCasts_S24576x4608_S3x8192x4608 := by
  show StableHlo.after hostOps2 (W3 m ρ c) (Proc.devRef .tc main_v6) = _
  generalize W3 m ρ c = σ
  entry_read
  rfl
theorem W4_main_v7 (c : Dev nD) : W4 m ρ c (Proc.devRef .tc main_v7)
    = shapeCast S3x8192x1 (W3 m ρ c (Proc.devRef .tc main_v2_1) : Vec Ideal S24576x1 .f32) shapeCasts_S24576x1_S3x8192x1 := by
  show StableHlo.after hostOps2 (W3 m ρ c) (Proc.devRef .tc main_v7) = _
  generalize W3 m ρ c = σ
  entry_read
  rfl

/-- `x`, the weights and their scales, as matrices over the argument buffers. -/
def xK (c : Dev nD) (R : Fin 24576) (k : Fin 4608) : EReal :=
  (shapeCast S24576x4608 (m ((c : Thread nD τ).loc main_arg0) : Vec Ideal S3x8192x4608 .bf16) shapeCasts_S3x8192x4608_S24576x4608 : Vec Ideal S24576x4608 .bf16) (ix2 R k)
def wK (c : Dev nD) (k : Fin 4608) (C : Fin 36864) : EReal := (m ((c : Thread nD τ).loc main_arg1) : Vec Ideal S4608x36864 .fp8e4m3) (ix2 k C)
def sK (c : Dev nD) (C : Fin 36864) : EReal :=
  (shapeCast S1x36864 (m ((c : Thread nD τ).loc main_arg2) : Vec Ideal S36864 .f32) shapeCasts_S36864_S1x36864 : Vec Ideal S1x36864 .f32) (ix2 (0 : Fin 1) C)

theorem xOf_eq (c : Dev nD) : xOf (V1 m ρ) c = xK m c := by
  funext R k
  unfold xOf
  rw [V1_main_v0]
  rfl

variable (pw : Fin 254 → EReal) (hpw : Table pw)
include hpw

theorem V2_main_v2_0 (c : Dev nD) : V2 m ρ c main_v2_0 = (fun y : S24576x4608.Idx => xCode pw (xK m c) (y 0) (y 1) : Vec Ideal S24576x4608 .fp8e4m3) := by
  refine (W2_arr m ρ c 1).trans ?_
  rw [arr0_1 (V1 m ρ) pw hpw c, xOf_eq]
theorem V2_main_v2_1 (c : Dev nD) : V2 m ρ c main_v2_1 = (fun y : S24576x1.Idx => xScale pw (xK m c) (y 0) : Vec Ideal S24576x1 .f32) := by
  refine (W2_arr m ρ c 2).trans ?_
  rw [arr0_2 (V1 m ρ) pw hpw c, xOf_eq]

/-- The second call's `h` is the problem's. -/
theorem hK_eq (c : Dev nD) (R : Fin 24576) : hK (V2 m ρ) c R = hAt pw (xK m c) (wK m c) (sK m c) R := by
  funext C
  unfold hK
  rw [V2_main_v2_0 m ρ pw hpw, V2_main_v2_1 m ρ pw hpw, V2_main_v1, V2_main_arg1]
  rfl

theorem W3_main_v2_0 (c : Dev nD) : W3 m ρ c (Proc.devRef .tc main_v2_0) = (fun y : S24576x4608.Idx => xCode pw (xK m c) (y 0) (y 1) : Vec Ideal S24576x4608 .fp8e4m3) :=
  (W3_of m ρ c main_v2_0 (by decide)).trans (V2_main_v2_0 m ρ pw hpw c)
theorem W3_main_v2_1 (c : Dev nD) : W3 m ρ c (Proc.devRef .tc main_v2_1) = (fun y : S24576x1.Idx => xScale pw (xK m c) (y 0) : Vec Ideal S24576x1 .f32) :=
  (W3_of m ρ c main_v2_1 (by decide)).trans (V2_main_v2_1 m ρ pw hpw c)
theorem W3_main_v3_0 (c : Dev nD) : W3 m ρ c (Proc.devRef .tc main_v3_0)
    = (fun y : S24576x18432.Idx => hCode pw (xK m c) (wK m c) (sK m c) (y 0) (y 1) : Vec Ideal S24576x18432 .fp8e4m3) := by
  refine (W3_arr m ρ c 6).trans ?_
  rw [arr1_6 (V2 m ρ) pw hpw c]
  refine funext fun y => ?_
  unfold hCode hScale
  rw [hK_eq m ρ pw hpw c (y 0)]
theorem W3_main_v3_1 (c : Dev nD) : W3 m ρ c (Proc.devRef .tc main_v3_1)
    = (fun y : S24576x1.Idx => hScale pw (xK m c) (wK m c) (sK m c) (y 0) : Vec Ideal S24576x1 .f32) := by
  refine (W3_arr m ρ c 7).trans ?_
  rw [arr1_7 (V2 m ρ) pw hpw c]
  refine funext fun y => ?_
  unfold hScale
  rw [hK_eq m ρ pw hpw c (y 0)]

/-- The four results, as the problem's matrices give them. -/
def resHScale (c : Dev nD) : Vec Ideal S3x8192x1 .f32 :=
  shapeCast S3x8192x1 (fun y : S24576x1.Idx => hScale pw (xK m c) (wK m c) (sK m c) (y 0) : Vec Ideal S24576x1 .f32) shapeCasts_S24576x1_S3x8192x1
def resHCode (c : Dev nD) : Vec Ideal S3x8192x18432 .fp8e4m3 :=
  shapeCast S3x8192x18432 (fun y : S24576x18432.Idx => hCode pw (xK m c) (wK m c) (sK m c) (y 0) (y 1) : Vec Ideal S24576x18432 .fp8e4m3) shapeCasts_S24576x18432_S3x8192x18432
def resXCode (c : Dev nD) : Vec Ideal S3x8192x4608 .fp8e4m3 :=
  shapeCast S3x8192x4608 (fun y : S24576x4608.Idx => xCode pw (xK m c) (y 0) (y 1) : Vec Ideal S24576x4608 .fp8e4m3) shapeCasts_S24576x4608_S3x8192x4608
def resXScale (c : Dev nD) : Vec Ideal S3x8192x1 .f32 :=
  shapeCast S3x8192x1 (fun y : S24576x1.Idx => xScale pw (xK m c) (y 0) : Vec Ideal S24576x1 .f32) shapeCasts_S24576x1_S3x8192x1

/-- The kernel's run: its results are those of the problem's matrices, its arguments unchanged. -/
theorem results :
    θ_run defs (onTc (τ := τ) (main (F := Ideal))) ⟨m, fun _ => 0, ρ⟩ (fun r => ∀ c : Dev nD,
      r.2.mem ((c.tc : Thread nD τ).loc main_v4) = resHScale m pw c
      ∧ r.2.mem ((c.tc : Thread nD τ).loc main_v5) = resHCode m pw c
      ∧ r.2.mem ((c.tc : Thread nD τ).loc main_v6) = resXCode m pw c
      ∧ r.2.mem ((c.tc : Thread nD τ).loc main_v7) = resXScale m pw c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (run m ρ) fun r h c => ⟨?_, ?_, ?_, ?_, ?_, ?_, ?_⟩
  · refine (h.1 c _ (mem_uc main_v4 (by decide))).trans ((W4_main_v4 m ρ c).trans ?_)
    rw [W3_main_v3_1 m ρ pw hpw c]
    rfl
  · refine (h.1 c _ (mem_uc main_v5 (by decide))).trans ((W4_main_v5 m ρ c).trans ?_)
    rw [W3_main_v3_0 m ρ pw hpw c]
    rfl
  · refine (h.1 c _ (mem_uc main_v6 (by decide))).trans ((W4_main_v6 m ρ c).trans ?_)
    rw [W3_main_v2_0 m ρ pw hpw c]
    rfl
  · refine (h.1 c _ (mem_uc main_v7 (by decide))).trans ((W4_main_v7 m ρ c).trans ?_)
    rw [W3_main_v2_1 m ρ pw hpw c]
    rfl
  · exact (h.1 c _ (mem_uc main_arg0 (by decide))).trans (W4_main_arg0 m ρ c)
  · exact (h.1 c _ (mem_uc main_arg1 (by decide))).trans (W4_main_arg1 m ρ c)
  · exact (h.1 c _ (mem_uc main_arg2 (by decide))).trans (W4_main_arg2 m ρ c)

end Cert.KernelIdeal.Gen
-- ==== Proof.Value.RefRows.lean ====
/- The reference's vector expressions, read at one element. -/
module

public import proofs.«01_k».proof.Proof.Gen.ReferenceIdeal.Frame
public import proofs.«01_k».proof.Proof.Value.Spec
public import Idealize.ShloMosaic.Lib.Pointwise

@[expose] public section

set_option maxRecDepth 16384

noncomputable section

namespace Cert.ReferenceIdeal.Gen

open Idealize.ShloMosaic Idealize.ShloMosaic.TcCoe Cert.Value

/-! ## The steps of the quantiser, each over the vectors it reads -/

def refT (v5 : FVec Ideal S24576 .f32) : FVec Ideal S24576x1 .f32 :=
  mulf (shapeCast S24576x1 v5 shapeCasts_S24576_S24576x1) (broadcast S24576x1 (Scalar.ofBits .f32 0x3B124925#32))
def refSel (v0 : Vec Ideal S1x254 .f32) (v8 : FVec Ideal S24576x1 .f32) : FVec Ideal S24576x254 .f32 :=
  select (cmpf .ole (broadcastTo S24576x254 v0 broadcasts_S1x254_S24576x254) (broadcastTo S24576x254 v8 broadcasts_S24576x1_S24576x254))
    (broadcastTo S24576x254 (shapeCast S1x254 v0 shapeCasts_S1x254_S1x254) broadcasts_S1x254_S24576x254) (broadcast S24576x254 (Scalar.ofBits .f32 0x00000000#32))
def refMax (v15 : FVec Ideal S24576x254 .f32) : FVec Ideal S24576x1 .f32 :=
  shapeCast S24576x1 (multiReduction .maximumf [1] S24576 v15 0xFF800000#32 reduces_S24576x254_S24576 (.inl rfl) rfl : FVec Ideal S24576 .f32) shapeCasts_S24576_S24576x1
def refFin (v8 v17 : FVec Ideal S24576x1 .f32) : FVec Ideal S24576x1 .f32 :=
  select (andi (cmpf .ogt v17 (broadcast S24576x1 (Scalar.ofBits .f32 0x00000000#32))) (cmpf .olt v8 (broadcast S24576x1 (Scalar.ofBits .f32 0x7F800000#32))))
    (mulf (broadcast S24576x1 (Scalar.ofBits .f32 0x40000000#32)) v17) (broadcast S24576x1 (Scalar.ofBits .f32 0x3F800000#32))
theorem pay2_eq (P : Vec Ideal S1x254 .f32) (X : Vec Ideal S24576x4608 .bf16) : k0_pay2 P X = refFin
   (refT (multiReduction .maximumf [1] S24576 (absf (k0_pay1 X)) 0xFF800000#32 reduces_S24576x4608_S24576 (.inl rfl) rfl))
   (refMax (refSel P (refT (multiReduction .maximumf [1] S24576 (absf (k0_pay1 X)) 0xFF800000#32 reduces_S24576x4608_S24576 (.inl rfl) rfl)))) := rfl
theorem pay6_eq (P : Vec Ideal S1x254 .f32) (Y : FVec Ideal S24576x36864 .f32) (S : Vec Ideal S1x36864 .f32) : k0_pay6 P Y S = refFin
   (refT (multiReduction .maximumf [1] S24576 (absf (k0_pay5 Y S)) 0xFF800000#32 reduces_S24576x18432_S24576 (.inl rfl) rfl))
   (refMax (refSel P (refT (multiReduction .maximumf [1] S24576 (absf (k0_pay5 Y S)) 0xFF800000#32 reduces_S24576x18432_S24576 (.inl rfl) rfl)))) := rfl
theorem refT_apply (v5) (R : Fin 24576) (z : Fin 1) : refT v5 (ix2 R z) = scaled (v5 (ix1 R)) := by
  pointwise [refT]
  rfl
theorem refSel_apply (P v8) (R : Fin 24576) (k : Fin 254) : refSel P v8 (ix2 R k) = if P (ix2 0 k) ≤ v8 (ix2 R 0) then P (ix2 0 k) else (0 : EReal) := by
  pointwise [refSel]
theorem refMax_apply (v) (R : Fin 24576) (z : Fin 1) : refMax v (ix2 R z) = Finset.univ.fold max (⊥ : EReal) fun k : Fin 254 => v (ix2 R k) := by
  pointwise [refMax]
  rw [ofBits_neg_inf]
theorem refFin_apply (v8 v17) (i) : refFin v8 v17 i = if 0 < (v17 i : EReal) ∧ (v8 i : EReal) < ⊤ then ((2 : ℝ) : EReal) * v17 i else 1 := by
  pointwise [refFin]
  have h2 : Ideal.ofBits .f32 0x40000000#32 = ((2 : ℝ) : EReal) := by
    rw [ofBits_pow 128 (by decide) (by decide) _ (by decide)]; norm_num
  rw [ofBits_inf, h2]
  unfold Scalar.select IntOp.andi
  by_cases h : 0 < (v17 i : EReal) <;> by_cases h' : (v8 i : EReal) < ⊤ <;> simp [h, h']
def refClip4608 (v : FVec Ideal S24576x4608 .f32) (T : FVec Ideal S24576x1 .f32) : FVec Ideal S24576x4608 .fp8e4m3 :=
  truncf .fp8e4m3 (minimumf (broadcast S24576x4608 (Scalar.ofBits .f32 0x43E00000#32)) (maximumf (broadcast S24576x4608 (Scalar.ofBits .f32 0xC3E00000#32))
    (mulf v (broadcastTo S24576x4608 (divf (broadcast S24576x1 (Scalar.ofBits .f32 0x3F800000#32)) T) broadcasts_S24576x1_S24576x4608)))) bitsLt_fp8e4m3_f32
theorem refClip4608_apply (v T) (R : Fin 24576) (k : Fin 4608) : refClip4608 v T (ix2 R k) = clip (v (ix2 R k)) (Ideal.div 1 (T (ix2 R 0))) := by
  pointwise [refClip4608]
  rfl
def refClip18432 (v : FVec Ideal S24576x18432 .f32) (T : FVec Ideal S24576x1 .f32) : FVec Ideal S24576x18432 .fp8e4m3 :=
  truncf .fp8e4m3 (minimumf (broadcast S24576x18432 (Scalar.ofBits .f32 0x43E00000#32)) (maximumf (broadcast S24576x18432 (Scalar.ofBits .f32 0xC3E00000#32))
    (mulf v (broadcastTo S24576x18432 (divf (broadcast S24576x1 (Scalar.ofBits .f32 0x3F800000#32)) T) broadcasts_S24576x1_S24576x18432)))) bitsLt_fp8e4m3_f32
theorem refClip18432_apply (v T) (R : Fin 24576) (k : Fin 18432) : refClip18432 v T (ix2 R k) = clip (v (ix2 R k)) (Ideal.div 1 (T (ix2 R 0))) := by
  pointwise [refClip18432]
  rfl
theorem red4608_apply (v : FVec Ideal S24576x4608 .f32) (R : Fin 24576) :
    multiReduction .maximumf [1] S24576 v 0xFF800000#32 reduces_S24576x4608_S24576 (.inl rfl) rfl (ix1 R)
      = Finset.univ.fold max (Ideal.ofBits .f32 0xFF800000#32) fun k : Fin 4608 => v (ix2 R k) := by
  pointwise []
theorem max4608_apply (v : FVec Ideal S24576x4608 .f32) (R : Fin 24576) :
    multiReduction .maximumf [1] S24576 (absf v) 0xFF800000#32 reduces_S24576x4608_S24576 (.inl rfl) rfl (ix1 R) = rowMax fun k : Fin 4608 => v (ix2 R k) := by
  rw [red4608_apply, ofBits_neg_inf]
  rfl
theorem red18432_apply (v : FVec Ideal S24576x18432 .f32) (R : Fin 24576) :
    multiReduction .maximumf [1] S24576 v 0xFF800000#32 reduces_S24576x18432_S24576 (.inl rfl) rfl (ix1 R)
      = Finset.univ.fold max (Ideal.ofBits .f32 0xFF800000#32) fun k : Fin 18432 => v (ix2 R k) := by
  pointwise []
theorem max18432_apply (v : FVec Ideal S24576x18432 .f32) (R : Fin 24576) :
    multiReduction .maximumf [1] S24576 (absf v) 0xFF800000#32 reduces_S24576x18432_S24576 (.inl rfl) rfl (ix1 R) = rowMax fun k : Fin 18432 => v (ix2 R k) := by
  rw [red18432_apply, ofBits_neg_inf]
  rfl

/-- The scale of one row, from the row maxima. -/
theorem scale_rows (P : Vec Ideal S1x254 .f32) (v5 : FVec Ideal S24576 .f32) (R : Fin 24576) (z : Fin 1) :
    refFin (refT v5) (refMax (refSel P (refT v5))) (ix2 R z) = refScale (fun k : Fin 254 => P (ix2 0 k)) (scaled (v5 (ix1 R))) := by
  rw [refFin_apply, refMax_apply, refT_apply]
  simp only [refSel_apply, refT_apply]
  rfl

/-! ## The reference's values -/

theorem pay1_apply (X : Vec Ideal S24576x4608 .bf16) (R : Fin 24576) (k : Fin 4608) : k0_pay1 X (ix2 R k) = X (ix2 R k) := by
  pointwise [k0_pay1]
theorem pay2_apply (P : Vec Ideal S1x254 .f32) (X : Vec Ideal S24576x4608 .bf16) (R : Fin 24576) (z : Fin 1) :
    k0_pay2 P X (ix2 R z) = xScale (fun k : Fin 254 => P (ix2 0 k)) (fun R k => X (ix2 R k)) R := by
  rw [pay2_eq, scale_rows, max4608_apply]
  simp only [pay1_apply]
  rfl
theorem pay6_apply (P : Vec Ideal S1x254 .f32) (Y : FVec Ideal S24576x36864 .f32) (S : Vec Ideal S1x36864 .f32) (R : Fin 24576) (z : Fin 1) :
    k0_pay6 P Y S (ix2 R z) = scaleOf (fun k : Fin 254 => P (ix2 0 k)) (fun C : Fin 18432 => k0_pay5 Y S (ix2 R C)) := by
  rw [pay6_eq, scale_rows, max18432_apply]
  rfl
theorem pay3_eq (P : Vec Ideal S1x254 .f32) (X : Vec Ideal S24576x4608 .bf16) : k0_pay3 P X = refClip4608 (k0_pay1 X) (k0_pay2 P X) := rfl
theorem pay3_apply (P : Vec Ideal S1x254 .f32) (X : Vec Ideal S24576x4608 .bf16) (R : Fin 24576) (k : Fin 4608) :
    k0_pay3 P X (ix2 R k) = clip (k0_pay1 X (ix2 R k)) (Ideal.div 1 (k0_pay2 P X (ix2 R 0))) := by
  rw [pay3_eq, refClip4608_apply]
theorem pay7_eq (P : Vec Ideal S1x254 .f32) (Y : FVec Ideal S24576x36864 .f32) (S : Vec Ideal S1x36864 .f32)  : k0_pay7 P Y S = refClip18432 (k0_pay5 Y S) (k0_pay6 P Y S) := rfl
theorem pay7_apply  (P : Vec Ideal S1x254 .f32) (Y : FVec Ideal S24576x36864 .f32) (S : Vec Ideal S1x36864 .f32) (R : Fin 24576) (k : Fin 18432) :
    k0_pay7 P Y S (ix2 R k) = clip (k0_pay5 Y S (ix2 R k)) (Ideal.div 1 (k0_pay6 P Y S (ix2 R 0))) := by
  rw [pay7_eq, refClip18432_apply]
theorem pay4_apply (P : Vec Ideal S1x254 .f32) (X : Vec Ideal S24576x4608 .bf16) (W : Vec Ideal S4608x36864 .fp8e4m3) (R : Fin 24576) (C : Fin 36864) :
    k0_pay4 P X W (ix2 R C) = (∑ k : Fin 4608, k0_pay3 P X (ix2 R k) * W (ix2 k C)) * k0_pay2 P X (ix2 R 0) := by
  unfold k0_pay4
  generalize k0_pay3 P X = Q
  generalize k0_pay2 P X = T
  pointwise []
theorem pay5_apply (Y : FVec Ideal S24576x36864 .f32) (S : Vec Ideal S1x36864 .f32) (R : Fin 24576) (C : Fin 18432) :
    k0_pay5 Y S (ix2 R C) = (Y (ix2 R (⟨C.val, by omega⟩ : Fin 36864)) * S (ix2 0 (⟨C.val, by omega⟩ : Fin 36864)))
      * Ideal.logistic (Y (ix2 R (⟨C.val, by omega⟩ : Fin 36864)) * S (ix2 0 (⟨C.val, by omega⟩ : Fin 36864)))
      * (Y (ix2 R (⟨18432 + C.val, by omega⟩ : Fin 36864)) * S (ix2 0 (⟨18432 + C.val, by omega⟩ : Fin 36864))) := by
  pointwise [k0_pay5]

/-! ## The same over the problem's matrices -/

theorem xCode_apply (P : Vec Ideal S1x254 .f32) (X : Vec Ideal S24576x4608 .bf16) (R : Fin 24576) (k : Fin 4608) :
    k0_pay3 P X (ix2 R k) = xCode (fun k : Fin 254 => P (ix2 0 k)) (fun R k => X (ix2 R k)) R k := by
  rw [pay3_apply, pay2_apply, pay1_apply]
  rfl
theorem h_apply (P : Vec Ideal S1x254 .f32) (X : Vec Ideal S24576x4608 .bf16) (W : Vec Ideal S4608x36864 .fp8e4m3) (S : Vec Ideal S1x36864 .f32)
    (R : Fin 24576) (C : Fin 18432) : k0_pay5 (k0_pay4 P X W) S (ix2 R C)
      = hAt (fun k : Fin 254 => P (ix2 0 k)) (fun R k => X (ix2 R k)) (fun k C => W (ix2 k C)) (fun C => S (ix2 0 C)) R C := by
  rw [pay5_apply, pay4_apply, pay4_apply, pay2_apply]
  simp only [xCode_apply]
  rfl
theorem hScale_apply (P : Vec Ideal S1x254 .f32) (X : Vec Ideal S24576x4608 .bf16) (W : Vec Ideal S4608x36864 .fp8e4m3) (S : Vec Ideal S1x36864 .f32)
    (R : Fin 24576) (z : Fin 1) : k0_pay6 P (k0_pay4 P X W) S (ix2 R z)
      = hScale (fun k : Fin 254 => P (ix2 0 k)) (fun R k => X (ix2 R k)) (fun k C => W (ix2 k C)) (fun C => S (ix2 0 C)) R := by
  rw [pay6_apply]
  simp only [h_apply]
  rfl
theorem hCode_apply (P : Vec Ideal S1x254 .f32) (X : Vec Ideal S24576x4608 .bf16) (W : Vec Ideal S4608x36864 .fp8e4m3) (S : Vec Ideal S1x36864 .f32)
    (R : Fin 24576) (C : Fin 18432) : k0_pay7 P (k0_pay4 P X W) S (ix2 R C)
      = hCode (fun k : Fin 254 => P (ix2 0 k)) (fun R k => X (ix2 R k)) (fun k C => W (ix2 k C)) (fun C => S (ix2 0 C)) R C := by
  rw [pay7_apply, h_apply, hScale_apply]
  rfl

end Cert.ReferenceIdeal.Gen
-- ==== Proof.Value.RefArrays.lean ====
/- What the reference's one call leaves in its result arrays, over the arrays it reads. -/
module

public import proofs.«01_k».proof.Proof.Value.RefRows
public import Idealize.ShloMosaic.Lib.Pipeline.Value

@[expose] public section

set_option maxRecDepth 16384

noncomputable section

namespace Cert.ReferenceIdeal.Gen

open Idealize.ShloMosaic Idealize.ShloMosaic.TcCoe Cert.Value

variable (m : (ℓ : Loc nD τ sig) → Buf (Elt Ideal) ℓ)

theorem zeros2 : (![0, 0] : Fin 2 → ℕ) = 0 := by decide

theorem eta2 {m n : ℕ} (x : (⟨2, ![m, n]⟩ : Shape).Idx) : x = ix2 (x 0) (x 1) := by
  funext k
  match k with
  | ⟨0, _⟩ => rfl
  | ⟨1, _⟩ => rfl

theorem forall2 {m n : ℕ} (P : (⟨2, ![m, n]⟩ : Shape).Idx → Prop) (h : ∀ (a : Fin m) (b : Fin n), P (ix2 a b)) (y : (⟨2, ![m, n]⟩ : Shape).Idx) : P y := by
  rw [eta2 y]; exact h _ _

/-! ## The one block of each window is its whole array -/

theorem N0 : cfg0.N = 1 := by decide +kernel
theorem index0_0 : ∀ t : Fin cfg0.N, win0_0.index t 0 = 0 ∧ win0_0.index t 1 = 0 := by decide +kernel
theorem index0_1 : ∀ t : Fin cfg0.N, win0_1.index t 0 = 0 ∧ win0_1.index t 1 = 0 := by decide +kernel
theorem index0_2 : ∀ t : Fin cfg0.N, win0_2.index t 0 = 0 ∧ win0_2.index t 1 = 0 := by decide +kernel
theorem index0_3 : ∀ t : Fin cfg0.N, win0_3.index t 0 = 0 ∧ win0_3.index t 1 = 0 := by decide +kernel
theorem index0_4 : ∀ t : Fin cfg0.N, win0_4.index t 0 = 0 ∧ win0_4.index t 1 = 0 := by decide +kernel
theorem index0_5 : ∀ t : Fin cfg0.N, win0_5.index t 0 = 0 ∧ win0_5.index t 1 = 0 := by decide +kernel
theorem index0_6 : ∀ t : Fin cfg0.N, win0_6.index t 0 = 0 ∧ win0_6.index t 1 = 0 := by decide +kernel
theorem index0_7 : ∀ t : Fin cfg0.N, win0_7.index t 0 = 0 ∧ win0_7.index t 1 = 0 := by decide +kernel

theorem emb0_0 (t : Fin cfg0.N) (a : Fin 24576) (b : Fin 4608) :
    (((cfg0.win 0).blk t).view.emb (ix2 a b : S24576x4608.Idx) : S24576x4608.Idx) = ix2 a b := by
  funext x
  match x with
  | ⟨0, _⟩ =>
    refine Fin.ext ((win0_0.rect_emb_val t (ix2 a b) 0).trans ?_)
    rw [(index0_0 t).1, Nat.zero_mul]
    exact Nat.zero_add _
  | ⟨1, _⟩ =>
    refine Fin.ext ((win0_0.rect_emb_val t (ix2 a b) 1).trans ?_)
    rw [(index0_0 t).2, Nat.zero_mul]
    exact Nat.zero_add _
theorem iblk0 (c : Dev nD) (t : Fin cfg0.N) : (iblk m c 0 t : Vec Ideal S24576x4608 .bf16) = V m c main_v0 :=
  funext (forall2 (m := 24576) (n := 4608) _ fun a b => congrArg (V m c main_v0) (emb0_0 t a b))

theorem emb0_1 (t : Fin cfg0.N) (a : Fin 4608) (b : Fin 36864) :
    (((cfg0.win 1).blk t).view.emb (ix2 a b : S4608x36864.Idx) : S4608x36864.Idx) = ix2 a b := by
  funext x
  match x with
  | ⟨0, _⟩ =>
    refine Fin.ext ((win0_1.rect_emb_val t (ix2 a b) 0).trans ?_)
    rw [(index0_1 t).1, Nat.zero_mul]
    exact Nat.zero_add _
  | ⟨1, _⟩ =>
    refine Fin.ext ((win0_1.rect_emb_val t (ix2 a b) 1).trans ?_)
    rw [(index0_1 t).2, Nat.zero_mul]
    exact Nat.zero_add _
theorem iblk1 (c : Dev nD) (t : Fin cfg0.N) : (iblk m c 1 t : Vec Ideal S4608x36864 .fp8e4m3) = V m c main_arg1 :=
  funext (forall2 (m := 4608) (n := 36864) _ fun a b => congrArg (V m c main_arg1) (emb0_1 t a b))

theorem emb0_2 (t : Fin cfg0.N) (a : Fin 1) (b : Fin 36864) :
    (((cfg0.win 2).blk t).view.emb (ix2 a b : S1x36864.Idx) : S1x36864.Idx) = ix2 a b := by
  funext x
  match x with
  | ⟨0, _⟩ =>
    refine Fin.ext ((win0_2.rect_emb_val t (ix2 a b) 0).trans ?_)
    rw [(index0_2 t).1, Nat.zero_mul]
    exact Nat.zero_add _
  | ⟨1, _⟩ =>
    refine Fin.ext ((win0_2.rect_emb_val t (ix2 a b) 1).trans ?_)
    rw [(index0_2 t).2, Nat.zero_mul]
    exact Nat.zero_add _
theorem iblk2 (c : Dev nD) (t : Fin cfg0.N) : (iblk m c 2 t : Vec Ideal S1x36864 .f32) = V m c main_v1 :=
  funext (forall2 (m := 1) (n := 36864) _ fun a b => congrArg (V m c main_v1) (emb0_2 t a b))

theorem emb0_3 (t : Fin cfg0.N) (a : Fin 1) (b : Fin 254) :
    (((cfg0.win 3).blk t).view.emb (ix2 a b : S1x254.Idx) : S1x254.Idx) = ix2 a b := by
  funext x
  match x with
  | ⟨0, _⟩ =>
    refine Fin.ext ((win0_3.rect_emb_val t (ix2 a b) 0).trans ?_)
    rw [(index0_3 t).1, Nat.zero_mul]
    exact Nat.zero_add _
  | ⟨1, _⟩ =>
    refine Fin.ext ((win0_3.rect_emb_val t (ix2 a b) 1).trans ?_)
    rw [(index0_3 t).2, Nat.zero_mul]
    exact Nat.zero_add _
theorem iblk3 (c : Dev nD) (t : Fin cfg0.N) : (iblk m c 3 t : Vec Ideal S1x254 .f32) = V m c main_cst :=
  funext (forall2 (m := 1) (n := 254) _ fun a b => congrArg (V m c main_cst) (emb0_3 t a b))

theorem emb0_4 (t : Fin cfg0.N) (a : Fin 24576) (b : Fin 1) :
    (((cfg0.win 4).blk t).view.emb (ix2 a b : S24576x1.Idx) : S24576x1.Idx) = ix2 a b := by
  funext x
  match x with
  | ⟨0, _⟩ =>
    refine Fin.ext ((win0_4.rect_emb_val t (ix2 a b) 0).trans ?_)
    rw [(index0_4 t).1, Nat.zero_mul]
    exact Nat.zero_add _
  | ⟨1, _⟩ =>
    refine Fin.ext ((win0_4.rect_emb_val t (ix2 a b) 1).trans ?_)
    rw [(index0_4 t).2, Nat.zero_mul]
    exact Nat.zero_add _

theorem emb0_5 (t : Fin cfg0.N) (a : Fin 24576) (b : Fin 18432) :
    (((cfg0.win 5).blk t).view.emb (ix2 a b : S24576x18432.Idx) : S24576x18432.Idx) = ix2 a b := by
  funext x
  match x with
  | ⟨0, _⟩ =>
    refine Fin.ext ((win0_5.rect_emb_val t (ix2 a b) 0).trans ?_)
    rw [(index0_5 t).1, Nat.zero_mul]
    exact Nat.zero_add _
  | ⟨1, _⟩ =>
    refine Fin.ext ((win0_5.rect_emb_val t (ix2 a b) 1).trans ?_)
    rw [(index0_5 t).2, Nat.zero_mul]
    exact Nat.zero_add _

theorem emb0_6 (t : Fin cfg0.N) (a : Fin 24576) (b : Fin 4608) :
    (((cfg0.win 6).blk t).view.emb (ix2 a b : S24576x4608.Idx) : S24576x4608.Idx) = ix2 a b := by
  funext x
  match x with
  | ⟨0, _⟩ =>
    refine Fin.ext ((win0_6.rect_emb_val t (ix2 a b) 0).trans ?_)
    rw [(index0_6 t).1, Nat.zero_mul]
    exact Nat.zero_add _
  | ⟨1, _⟩ =>
    refine Fin.ext ((win0_6.rect_emb_val t (ix2 a b) 1).trans ?_)
    rw [(index0_6 t).2, Nat.zero_mul]
    exact Nat.zero_add _

theorem emb0_7 (t : Fin cfg0.N) (a : Fin 24576) (b : Fin 1) :
    (((cfg0.win 7).blk t).view.emb (ix2 a b : S24576x1.Idx) : S24576x1.Idx) = ix2 a b := by
  funext x
  match x with
  | ⟨0, _⟩ =>
    refine Fin.ext ((win0_7.rect_emb_val t (ix2 a b) 0).trans ?_)
    rw [(index0_7 t).1, Nat.zero_mul]
    exact Nat.zero_add _
  | ⟨1, _⟩ =>
    refine Fin.ext ((win0_7.rect_emb_val t (ix2 a b) 1).trans ?_)
    rw [(index0_7 t).2, Nat.zero_mul]
    exact Nat.zero_add _

/-! ## The results over the problem's matrices -/

/-- The powers, `x`, the weights and their scales as the call reads them. -/
def pwR (c : Dev nD) (k : Fin 254) : EReal := V m c main_cst (ix2 (0 : Fin 1) k)
def xR (c : Dev nD) (R : Fin 24576) (k : Fin 4608) : EReal := V m c main_v0 (ix2 R k)
def wR (c : Dev nD) (k : Fin 4608) (C : Fin 36864) : EReal := V m c main_arg1 (ix2 k C)
def sR (c : Dev nD) (C : Fin 36864) : EReal := V m c main_v1 (ix2 (0 : Fin 1) C)

theorem out0_4_eq (x0 : Vec Ideal S24576x4608 .bf16) (x1 : Vec Ideal S4608x36864 .fp8e4m3) (x2 : Vec Ideal S1x36864 .f32) (x3 : Vec Ideal S1x254 .f32) :
    out0_4 x0 x1 x2 x3 = k0_pay6 x3 (k0_pay4 x3 x0 x1) x2 := by
  have ex3 : View.ld x3 r0_0 = x3 := View.ld_unit_zero (S := S1x254) zeros2 inb_S1x254_S1x254_0_0 x3
  have ex0 : View.ld x0 r0_1 = x0 := View.ld_unit_zero (S := S24576x4608) zeros2 inb_S24576x4608_S24576x4608_0_0 x0
  have ex1 : View.ld x1 r0_2 = x1 := View.ld_unit_zero (S := S4608x36864) zeros2 inb_S4608x36864_S4608x36864_0_0 x1
  have ex2 : View.ld x2 r0_3 = x2 := View.ld_unit_zero (S := S1x36864) zeros2 inb_S1x36864_S1x36864_0_0 x2
  unfold out0_4 k0_pay8
  rw [View.canon_unit_zero (S := S24576x1) zeros2 inb_S24576x1_S24576x1_0_0, ex3, ex0, ex1, ex2]

theorem arr4 (c : Dev nD) : (dats m 0 c).arrAt 4 cfg0.N = (fun y : S24576x1.Idx => hScale (pwR m c) (xR m c) (wR m c) (sR m c) (y 0) : Vec Ideal S24576x1 .f32) := by
  have key : ∀ (t : Fin cfg0.N) (a : Fin 24576) (b : Fin 1), out0_4 (iblk m c 0 t) (iblk m c 1 t) (iblk m c 2 t) (iblk m c 3 t) (ix2 a b)
      = (fun y : S24576x1.Idx => hScale (pwR m c) (xR m c) (wR m c) (sR m c) (y 0) : Vec Ideal S24576x1 .f32) (((cfg0.win 4).blk t).view.emb (ix2 a b : S24576x1.Idx)) := by
    intro t a b
    refine Eq.trans ?_ (congrArg (fun y : S24576x1.Idx => hScale (pwR m c) (xR m c) (wR m c) (sR m c) (y 0)) (emb0_4 t a b)).symm
    rw [out0_4_eq, iblk0, iblk1, iblk2, iblk3]
    exact hScale_apply _ _ _ _ _ _
  generalize (fun y : S24576x1.Idx => hScale (pwR m c) (xR m c) (wR m c) (sR m c) (y 0) : Vec Ideal S24576x1 .f32) = G at key ⊢
  refine (dats m 0 c).arrAt_eq_of_cover 4 G (fun t _ => funext (forall2 (m := 24576) (n := 1) _ fun a b => ?_)) (forall2 (m := 24576) (n := 1) _ fun R k => ?_)
  · exact (congrFun (after0_4 m c t) (ix2 a b)).trans (key t a b)
  · have ht : 0 < cfg0.N := by have := N0; omega
    refine ⟨⟨0, ht⟩, flush0_4 _, ?_⟩
    have h := (((cfg0.win 4).blk ⟨0, ht⟩).view).emb_mem_set (ix2 R k : S24576x1.Idx)
    exact (emb0_4 ⟨0, ht⟩ R k) ▸ h

theorem out0_5_eq (x0 : Vec Ideal S24576x4608 .bf16) (x1 : Vec Ideal S4608x36864 .fp8e4m3) (x2 : Vec Ideal S1x36864 .f32) (x3 : Vec Ideal S1x254 .f32) :
    out0_5 x0 x1 x2 x3 = k0_pay7 x3 (k0_pay4 x3 x0 x1) x2 := by
  have ex3 : View.ld x3 r0_0 = x3 := View.ld_unit_zero (S := S1x254) zeros2 inb_S1x254_S1x254_0_0 x3
  have ex0 : View.ld x0 r0_1 = x0 := View.ld_unit_zero (S := S24576x4608) zeros2 inb_S24576x4608_S24576x4608_0_0 x0
  have ex1 : View.ld x1 r0_2 = x1 := View.ld_unit_zero (S := S4608x36864) zeros2 inb_S4608x36864_S4608x36864_0_0 x1
  have ex2 : View.ld x2 r0_3 = x2 := View.ld_unit_zero (S := S1x36864) zeros2 inb_S1x36864_S1x36864_0_0 x2
  unfold out0_5 k0_pay8
  rw [View.canon_unit_zero (S := S24576x18432) zeros2 inb_S24576x18432_S24576x18432_0_0, ex3, ex0, ex1, ex2]

theorem arr5 (c : Dev nD) : (dats m 0 c).arrAt 5 cfg0.N = (fun y : S24576x18432.Idx => hCode (pwR m c) (xR m c) (wR m c) (sR m c) (y 0) (y 1) : Vec Ideal S24576x18432 .fp8e4m3) := by
  have key : ∀ (t : Fin cfg0.N) (a : Fin 24576) (b : Fin 18432), out0_5 (iblk m c 0 t) (iblk m c 1 t) (iblk m c 2 t) (iblk m c 3 t) (ix2 a b)
      = (fun y : S24576x18432.Idx => hCode (pwR m c) (xR m c) (wR m c) (sR m c) (y 0) (y 1) : Vec Ideal S24576x18432 .fp8e4m3) (((cfg0.win 5).blk t).view.emb (ix2 a b : S24576x18432.Idx)) := by
    intro t a b
    refine Eq.trans ?_ (congrArg (fun y : S24576x18432.Idx => hCode (pwR m c) (xR m c) (wR m c) (sR m c) (y 0) (y 1)) (emb0_5 t a b)).symm
    rw [out0_5_eq, iblk0, iblk1, iblk2, iblk3]
    exact hCode_apply _ _ _ _ _ _
  generalize (fun y : S24576x18432.Idx => hCode (pwR m c) (xR m c) (wR m c) (sR m c) (y 0) (y 1) : Vec Ideal S24576x18432 .fp8e4m3) = G at key ⊢
  refine (dats m 0 c).arrAt_eq_of_cover 5 G (fun t _ => funext (forall2 (m := 24576) (n := 18432) _ fun a b => ?_)) (forall2 (m := 24576) (n := 18432) _ fun R k => ?_)
  · exact (congrFun (after0_5 m c t) (ix2 a b)).trans (key t a b)
  · have ht : 0 < cfg0.N := by have := N0; omega
    refine ⟨⟨0, ht⟩, flush0_5 _, ?_⟩
    have h := (((cfg0.win 5).blk ⟨0, ht⟩).view).emb_mem_set (ix2 R k : S24576x18432.Idx)
    exact (emb0_5 ⟨0, ht⟩ R k) ▸ h

theorem out0_6_eq (x0 : Vec Ideal S24576x4608 .bf16) (x1 : Vec Ideal S4608x36864 .fp8e4m3) (x2 : Vec Ideal S1x36864 .f32) (x3 : Vec Ideal S1x254 .f32) :
    out0_6 x0 x1 x2 x3 = k0_pay3 x3 x0 := by
  have ex3 : View.ld x3 r0_0 = x3 := View.ld_unit_zero (S := S1x254) zeros2 inb_S1x254_S1x254_0_0 x3
  have ex0 : View.ld x0 r0_1 = x0 := View.ld_unit_zero (S := S24576x4608) zeros2 inb_S24576x4608_S24576x4608_0_0 x0
  unfold out0_6
  rw [View.canon_unit_zero (S := S24576x4608) zeros2 inb_S24576x4608_S24576x4608_0_0, ex3, ex0]

theorem arr6 (c : Dev nD) : (dats m 0 c).arrAt 6 cfg0.N = (fun y : S24576x4608.Idx => xCode (pwR m c) (xR m c) (y 0) (y 1) : Vec Ideal S24576x4608 .fp8e4m3) := by
  have key : ∀ (t : Fin cfg0.N) (a : Fin 24576) (b : Fin 4608), out0_6 (iblk m c 0 t) (iblk m c 1 t) (iblk m c 2 t) (iblk m c 3 t) (ix2 a b)
      = (fun y : S24576x4608.Idx => xCode (pwR m c) (xR m c) (y 0) (y 1) : Vec Ideal S24576x4608 .fp8e4m3) (((cfg0.win 6).blk t).view.emb (ix2 a b : S24576x4608.Idx)) := by
    intro t a b
    refine Eq.trans ?_ (congrArg (fun y : S24576x4608.Idx => xCode (pwR m c) (xR m c) (y 0) (y 1)) (emb0_6 t a b)).symm
    rw [out0_6_eq, iblk0, iblk3]
    exact xCode_apply _ _ _ _
  generalize (fun y : S24576x4608.Idx => xCode (pwR m c) (xR m c) (y 0) (y 1) : Vec Ideal S24576x4608 .fp8e4m3) = G at key ⊢
  refine (dats m 0 c).arrAt_eq_of_cover 6 G (fun t _ => funext (forall2 (m := 24576) (n := 4608) _ fun a b => ?_)) (forall2 (m := 24576) (n := 4608) _ fun R k => ?_)
  · exact (congrFun (after0_6 m c t) (ix2 a b)).trans (key t a b)
  · have ht : 0 < cfg0.N := by have := N0; omega
    refine ⟨⟨0, ht⟩, flush0_6 _, ?_⟩
    have h := (((cfg0.win 6).blk ⟨0, ht⟩).view).emb_mem_set (ix2 R k : S24576x4608.Idx)
    exact (emb0_6 ⟨0, ht⟩ R k) ▸ h

theorem out0_7_eq (x0 : Vec Ideal S24576x4608 .bf16) (x1 : Vec Ideal S4608x36864 .fp8e4m3) (x2 : Vec Ideal S1x36864 .f32) (x3 : Vec Ideal S1x254 .f32) :
    out0_7 x0 x1 x2 x3 = k0_pay2 x3 x0 := by
  have ex3 : View.ld x3 r0_0 = x3 := View.ld_unit_zero (S := S1x254) zeros2 inb_S1x254_S1x254_0_0 x3
  have ex0 : View.ld x0 r0_1 = x0 := View.ld_unit_zero (S := S24576x4608) zeros2 inb_S24576x4608_S24576x4608_0_0 x0
  unfold out0_7
  rw [View.canon_unit_zero (S := S24576x1) zeros2 inb_S24576x1_S24576x1_0_0, ex3, ex0]

theorem arr7 (c : Dev nD) : (dats m 0 c).arrAt 7 cfg0.N = (fun y : S24576x1.Idx => xScale (pwR m c) (xR m c) (y 0) : Vec Ideal S24576x1 .f32) := by
  have key : ∀ (t : Fin cfg0.N) (a : Fin 24576) (b : Fin 1), out0_7 (iblk m c 0 t) (iblk m c 1 t) (iblk m c 2 t) (iblk m c 3 t) (ix2 a b)
      = (fun y : S24576x1.Idx => xScale (pwR m c) (xR m c) (y 0) : Vec Ideal S24576x1 .f32) (((cfg0.win 7).blk t).view.emb (ix2 a b : S24576x1.Idx)) := by
    intro t a b
    refine Eq.trans ?_ (congrArg (fun y : S24576x1.Idx => xScale (pwR m c) (xR m c) (y 0)) (emb0_7 t a b)).symm
    rw [out0_7_eq, iblk0, iblk3]
    exact pay2_apply _ _ _ _
  generalize (fun y : S24576x1.Idx => xScale (pwR m c) (xR m c) (y 0) : Vec Ideal S24576x1 .f32) = G at key ⊢
  refine (dats m 0 c).arrAt_eq_of_cover 7 G (fun t _ => funext (forall2 (m := 24576) (n := 1) _ fun a b => ?_)) (forall2 (m := 24576) (n := 1) _ fun R k => ?_)
  · exact (congrFun (after0_7 m c t) (ix2 a b)).trans (key t a b)
  · have ht : 0 < cfg0.N := by have := N0; omega
    refine ⟨⟨0, ht⟩, flush0_7 _, ?_⟩
    have h := (((cfg0.win 7).blk ⟨0, ht⟩).view).emb_mem_set (ix2 R k : S24576x1.Idx)
    exact (emb0_7 ⟨0, ht⟩ R k) ▸ h

end Cert.ReferenceIdeal.Gen
-- ==== Proof.Value.RefResults.lean ====
/- The reference's results, over the argument buffers. -/
module

public import proofs.«01_k».proof.Proof.Value.RefArrays
public import Idealize.ShloMosaic.Lib.Claim

@[expose] public section

set_option maxRecDepth 16384

noncomputable section

/-- The powers of two from `2^(-126)` to `2^127`. -/
def Cert.Value.powers (k : Fin 254) : EReal := (((2 : ℝ) ^ ((k.val : ℤ) - 126) : ℝ) : EReal)
theorem Cert.Value.powers_table : Cert.Value.Table Cert.Value.powers := fun _ => rfl

namespace Cert.ReferenceIdeal.Gen

open Idealize.ShloMosaic Idealize.ShloMosaic.TcCoe Idealize.SL.Sem Cert.Value

variable (m : (ℓ : Loc nD τ sig) → Buf (Elt Ideal) ℓ) (ρ : Dev nD → PrngReg)

/-! ## What the call reads -/

theorem V_main_v0 (c : Dev nD) : V m c main_v0 = shapeCast S24576x4608 (m ((c : Thread nD τ).loc main_arg0) : Vec Ideal S3x8192x4608 .bf16) shapeCasts_S3x8192x4608_S24576x4608 := by
  show StableHlo.after hostOps0 (fun b => m (c, b)) (Proc.devRef .tc main_v0) = _
  entry_read
  rfl
theorem V_main_v1 (c : Dev nD) : V m c main_v1 = shapeCast S1x36864 (m ((c : Thread nD τ).loc main_arg2) : Vec Ideal S36864 .f32) shapeCasts_S36864_S1x36864 := by
  show StableHlo.after hostOps0 (fun b => m (c, b)) (Proc.devRef .tc main_v1) = _
  entry_read
  rfl
theorem V_main_cst (c : Dev nD) : V m c main_cst = (fun i : S1x254.Idx => Ideal.ofBits .f32 (lit0 (S1x254.rowMajor i)) : Vec Ideal S1x254 .f32) := by
  show StableHlo.after hostOps0 (fun b => m (c, b)) (Proc.devRef .tc main_cst) = _
  entry_read
  rfl

theorem rowMajor_eq : ∀ k : Fin 254, S1x254.rowMajor (ix2 (0 : Fin 1) k) = k := by
  have h : ∀ k : Fin 254, (S1x254.rowMajor (ix2 (0 : Fin 1) k)).val = k.val := by decide +kernel
  exact fun k => Fin.ext (h k)
theorem lit0_eq : ∀ k : Fin 254, lit0 k = BitVec.ofNat 32 ((k.val + 1) * 2 ^ 23) := by decide +kernel

/-- The constant the reference reads is the table of the powers of two. -/
theorem table (c : Dev nD) : Table (pwR m c) := by
  intro k
  unfold pwR
  rw [V_main_cst]
  show Ideal.ofBits .f32 (lit0 (S1x254.rowMajor (ix2 (0 : Fin 1) k))) = _
  rw [rowMajor_eq k, lit0_eq k, ofBits_pow (k.val + 1) (by omega) (by omega) _ rfl]
  congr 2
  push_cast
  omega

/-! ## What @main returns -/

theorem tail_main_v3 (c : Dev nD) : Pipeline.afterTail₀ cfgs (dats m) 0 (V0 m) [hostOps1] c main_v3
    = shapeCast S3x8192x1 ((dats m 0 c).arrAt 4 cfg0.N : Vec Ideal S24576x1 .f32) shapeCasts_S24576x1_S3x8192x1 := by
  unfold Pipeline.afterTail₀
  rw [← Pipeline.withArrays_arr spec0 launch0.win.arr_inj c (V0 m c) (fun w => (dats m 0 c).arrAt w cfg0.N) 4]
  generalize Pipeline.withArrays spec0 c (V0 m c) _ = σ
  show StableHlo.after hostOps1 σ (Proc.devRef .tc main_v3) = _
  entry_read
  rfl
theorem tail_main_v4 (c : Dev nD) : Pipeline.afterTail₀ cfgs (dats m) 0 (V0 m) [hostOps1] c main_v4
    = shapeCast S3x8192x18432 ((dats m 0 c).arrAt 5 cfg0.N : Vec Ideal S24576x18432 .fp8e4m3) shapeCasts_S24576x18432_S3x8192x18432 := by
  unfold Pipeline.afterTail₀
  rw [← Pipeline.withArrays_arr spec0 launch0.win.arr_inj c (V0 m c) (fun w => (dats m 0 c).arrAt w cfg0.N) 5]
  generalize Pipeline.withArrays spec0 c (V0 m c) _ = σ
  show StableHlo.after hostOps1 σ (Proc.devRef .tc main_v4) = _
  entry_read
  rfl
theorem tail_main_v5 (c : Dev nD) : Pipeline.afterTail₀ cfgs (dats m) 0 (V0 m) [hostOps1] c main_v5
    = shapeCast S3x8192x4608 ((dats m 0 c).arrAt 6 cfg0.N : Vec Ideal S24576x4608 .fp8e4m3) shapeCasts_S24576x4608_S3x8192x4608 := by
  unfold Pipeline.afterTail₀
  rw [← Pipeline.withArrays_arr spec0 launch0.win.arr_inj c (V0 m c) (fun w => (dats m 0 c).arrAt w cfg0.N) 6]
  generalize Pipeline.withArrays spec0 c (V0 m c) _ = σ
  show StableHlo.after hostOps1 σ (Proc.devRef .tc main_v5) = _
  entry_read
  rfl
theorem tail_main_v6 (c : Dev nD) : Pipeline.afterTail₀ cfgs (dats m) 0 (V0 m) [hostOps1] c main_v6
    = shapeCast S3x8192x1 ((dats m 0 c).arrAt 7 cfg0.N : Vec Ideal S24576x1 .f32) shapeCasts_S24576x1_S3x8192x1 := by
  unfold Pipeline.afterTail₀
  rw [← Pipeline.withArrays_arr spec0 launch0.win.arr_inj c (V0 m c) (fun w => (dats m 0 c).arrAt w cfg0.N) 7]
  generalize Pipeline.withArrays spec0 c (V0 m c) _ = σ
  show StableHlo.after hostOps1 σ (Proc.devRef .tc main_v6) = _
  entry_read
  rfl

/-! ## Over matrices named by the arguments -/

theorem pwR_eq (c : Dev nD) : pwR m c = powers := funext (table m c)
theorem xR_eq (c : Dev nD) (X : Vec Ideal S3x8192x4608 .bf16) (h : m ((c : Thread nD τ).loc main_arg0) = X) :
    xR m c = fun R k => (shapeCast S24576x4608 X shapeCasts_S3x8192x4608_S24576x4608 : Vec Ideal S24576x4608 .bf16) (ix2 R k) := by
  subst h
  funext R k
  exact congrFun (V_main_v0 m c) (ix2 R k)
theorem wR_eq (c : Dev nD) (W : Vec Ideal S4608x36864 .fp8e4m3) (h : m ((c : Thread nD τ).loc main_arg1) = W) : wR m c = fun k C => W (ix2 k C) := by
  subst h
  funext k C
  exact congrFun (V_main_arg1 m c) (ix2 k C)
theorem sR_eq (c : Dev nD) (S : Vec Ideal S36864 .f32) (h : m ((c : Thread nD τ).loc main_arg2) = S) :
    sR m c = fun C => (shapeCast S1x36864 S shapeCasts_S36864_S1x36864 : Vec Ideal S1x36864 .f32) (ix2 (0 : Fin 1) C) := by
  subst h
  funext C
  exact congrFun (V_main_v1 m c) (ix2 (0 : Fin 1) C)

/-- The four results of the reference, as the problem's matrices give them. -/
def resHScale (pw : Fin 254 → EReal) (x : Fin 24576 → Fin 4608 → EReal) (w : Fin 4608 → Fin 36864 → EReal) (s : Fin 36864 → EReal) : Vec Ideal S3x8192x1 .f32 :=
  shapeCast S3x8192x1 (fun y : S24576x1.Idx => hScale pw x w s (y 0) : Vec Ideal S24576x1 .f32) shapeCasts_S24576x1_S3x8192x1
def resHCode (pw : Fin 254 → EReal) (x : Fin 24576 → Fin 4608 → EReal) (w : Fin 4608 → Fin 36864 → EReal) (s : Fin 36864 → EReal) : Vec Ideal S3x8192x18432 .fp8e4m3 :=
  shapeCast S3x8192x18432 (fun y : S24576x18432.Idx => hCode pw x w s (y 0) (y 1) : Vec Ideal S24576x18432 .fp8e4m3) shapeCasts_S24576x18432_S3x8192x18432
def resXCode (pw : Fin 254 → EReal) (x : Fin 24576 → Fin 4608 → EReal) : Vec Ideal S3x8192x4608 .fp8e4m3 :=
  shapeCast S3x8192x4608 (fun y : S24576x4608.Idx => xCode pw x (y 0) (y 1) : Vec Ideal S24576x4608 .fp8e4m3) shapeCasts_S24576x4608_S3x8192x4608
def resXScale (pw : Fin 254 → EReal) (x : Fin 24576 → Fin 4608 → EReal) : Vec Ideal S3x8192x1 .f32 :=
  shapeCast S3x8192x1 (fun y : S24576x1.Idx => xScale pw x (y 0) : Vec Ideal S24576x1 .f32) shapeCasts_S24576x1_S3x8192x1

/-- The reference's run: its results are those of the problem's matrices, its arguments unchanged. -/
theorem results (x : Dev nD → Fin 24576 → Fin 4608 → EReal) (w : Dev nD → Fin 4608 → Fin 36864 → EReal) (s : Dev nD → Fin 36864 → EReal)
    (hx : ∀ c, xR m c = x c) (hw : ∀ c, wR m c = w c) (hs : ∀ c, sR m c = s c) :
    θ_run defs (onTc (τ := τ) (main (F := Ideal))) ⟨m, fun _ => 0, ρ⟩ (fun r => ∀ c : Dev nD,
      r.2.mem ((c.tc : Thread nD τ).loc main_v3) = resHScale powers (x c) (w c) (s c)
      ∧ r.2.mem ((c.tc : Thread nD τ).loc main_v4) = resHCode powers (x c) (w c) (s c)
      ∧ r.2.mem ((c.tc : Thread nD τ).loc main_v5) = resXCode powers (x c)
      ∧ r.2.mem ((c.tc : Thread nD τ).loc main_v6) = resXScale powers (x c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine θ_run_mono (θ_run_and (run_main m ρ) (unchanged m ρ)) fun r h c => ?_
  refine ⟨?_, ?_, ?_, ?_, h.2 c⟩
  · refine ((h.1 c).2 main_v3 (Pipeline.mem_restRefs_of main_v3 (by decide) (by decide))).trans ?_
    rw [tail_main_v3, arr4, pwR_eq, hx, hw, hs]
    rfl
  · refine ((h.1 c).2 main_v4 (Pipeline.mem_restRefs_of main_v4 (by decide) (by decide))).trans ?_
    rw [tail_main_v4, arr5, pwR_eq, hx, hw, hs]
    rfl
  · refine ((h.1 c).2 main_v5 (Pipeline.mem_restRefs_of main_v5 (by decide) (by decide))).trans ?_
    rw [tail_main_v5, arr6, pwR_eq, hx]
    rfl
  · refine ((h.1 c).2 main_v6 (Pipeline.mem_restRefs_of main_v6 (by decide) (by decide))).trans ?_
    rw [tail_main_v6, arr7, pwR_eq, hx]
    rfl

end Cert.ReferenceIdeal.Gen
-- ==== Proof.Value.Algebraic.lean ====
/- The kernel and the reference compute the same values. -/
module

public import proofs.«01_k».proof.Defs
public import proofs.«01_k».proof.Proof.Value.Results
public import proofs.«01_k».proof.Proof.Value.RefResults

@[expose] public section

set_option maxRecDepth 16384

noncomputable section

namespace Cert.Proof

open Idealize.ShloMosaic Idealize.SL.Sem Cert.Value

/-- Both programs end with the results of the problem's matrices, which are the same over equal arguments. -/
theorem algebraic : Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Gen.resHScale m powers c, fun c => Cert.KernelIdeal.Gen.resHCode m powers c,
    fun c => Cert.KernelIdeal.Gen.resXCode m powers c, fun c => Cert.KernelIdeal.Gen.resXScale m powers c,
    Cert.KernelIdeal.Gen.results m g powers powers_table, ?_⟩
  exact Cert.ReferenceIdeal.Gen.results m' g' (Cert.KernelIdeal.Gen.xK m) (Cert.KernelIdeal.Gen.wK m) (Cert.KernelIdeal.Gen.sK m)
    (fun c => Cert.ReferenceIdeal.Gen.xR_eq m' c _ (hargs c).1)
    (fun c => Cert.ReferenceIdeal.Gen.wR_eq m' c _ (hargs c).2.1)
    (fun c => Cert.ReferenceIdeal.Gen.sR_eq m' c _ (hargs c).2.2)

end Cert.Proof

end
-- ==== Proof.lean ====
/- The certificate of the fp8 gate-up program: each claim of `Cert.Claim`, from the modules that prove it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Kernel.Whole
public import proofs.«01_k».proof.Proof.KernelIdeal.Whole
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim :=
  ⟨Cert.Kernel.Gen.facts, Cert.KernelIdeal.Gen.facts, Cert.ReferenceIdeal.Gen.facts,
    fun m ρ _ => Cert.Kernel.Gen.frame m ρ,
    fun m ρ _ => Cert.KernelIdeal.Gen.frame m ρ,
    fun m ρ _ => Cert.ReferenceIdeal.Gen.frame m ρ,
    trivial, algebraic⟩

end Cert.Proof

end
